-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x543x3 : Shape := ⟨3, ![16384, 543, 3]⟩
abbrev S201 : Shape := ⟨1, ![201]⟩
abbrev S3x543x16384 : Shape := ⟨3, ![3, 543, 16384]⟩
abbrev S32x2x1024 : Shape := ⟨3, ![32, 2, 1024]⟩
abbrev S4x8x2048 : Shape := ⟨3, ![4, 8, 2048]⟩
abbrev S1024 : Shape := ⟨1, ![1024]⟩
abbrev S4 : Shape := ⟨1, ![4]⟩
abbrev S16 : Shape := ⟨1, ![16]⟩
abbrev S1x8x2048 : Shape := ⟨3, ![1, 8, 2048]⟩
abbrev S8x2048 : Shape := ⟨2, ![8, 2048]⟩
abbrev S1 : Shape := ⟨1, ![1]⟩
abbrev S_ : Shape := ⟨0, ![]⟩
abbrev S1x1x16 : Shape := ⟨3, ![1, 1, 16]⟩
abbrev S1x1x1024 : Shape := ⟨3, ![1, 1, 1024]⟩
abbrev S3x543x128 : Shape := ⟨3, ![3, 543, 128]⟩
abbrev S1x543x4096 : Shape := ⟨3, ![1, 543, 4096]⟩
abbrev S1x543x128 : Shape := ⟨3, ![1, 543, 128]⟩
abbrev S543x128 : Shape := ⟨2, ![543, 128]⟩
abbrev S32x2x8x8x16 : Shape := ⟨5, ![32, 2, 8, 8, 16]⟩
abbrev S32x2x8x8 : Shape := ⟨4, ![32, 2, 8, 8]⟩
abbrev S32x8x2x8 : Shape := ⟨4, ![32, 8, 2, 8]⟩
abbrev S256x2x8 : Shape := ⟨3, ![256, 2, 8]⟩
abbrev S1x2x8 : Shape := ⟨3, ![1, 2, 8]⟩
abbrev S257x2x8 : Shape := ⟨3, ![257, 2, 8]⟩
abbrev S201x1 : Shape := ⟨2, ![201, 1]⟩
abbrev S201x2x8 : Shape := ⟨3, ![201, 2, 8]⟩
abbrev S3x67x2x8 : Shape := ⟨4, ![3, 67, 2, 8]⟩
abbrev S2x3x67x8 : Shape := ⟨4, ![2, 3, 67, 8]⟩
abbrev S2x3x536 : Shape := ⟨3, ![2, 3, 536]⟩
abbrev S3x543 : Shape := ⟨2, ![3, 543]⟩
abbrev S12288x7x3 : Shape := ⟨3, ![12288, 7, 3]⟩
abbrev S7x3 : Shape := ⟨2, ![7, 3]⟩
abbrev S3x7 : Shape := ⟨2, ![3, 7]⟩
abbrev S1x3x536 : Shape := ⟨3, ![1, 3, 536]⟩
abbrev S3x536 : Shape := ⟨2, ![3, 536]⟩
abbrev S543x3 : Shape := ⟨2, ![543, 3]⟩
abbrev S1629 : Shape := ⟨1, ![1629]⟩
abbrev S3258 : Shape := ⟨1, ![3258]⟩

abbrev nBuf : Table → Nat
  | .hbm => 84
  | .local .tc .vmem => 6
  | .local .scVector .vmem => 3
  | _ => 0

abbrev bufTy : (tb : Table) → Fin (nBuf tb) → BufTy
  | .hbm, ⟨0, _⟩ => ⟨S16384x543x3, .f32⟩
  | .hbm, ⟨1, _⟩ => ⟨S201, .i32⟩
  | .hbm, ⟨2, _⟩ => ⟨S201, .i32⟩
  | .hbm, ⟨3, _⟩ => ⟨S3x543x16384, .f32⟩
  | .hbm, ⟨4, _⟩ => ⟨S32x2x1024, .f32⟩
  | .hbm, ⟨5, _⟩ => ⟨S3x543x128, .f32⟩
  | .hbm, ⟨6, _⟩ => ⟨S3x543x128, .f32⟩
  | .hbm, ⟨7, _⟩ => ⟨S32x2x8x8x16, .f32⟩
  | .hbm, ⟨8, _⟩ => ⟨S_, .f32⟩
  | .hbm, ⟨9, _⟩ => ⟨S32x2x8x8, .f32⟩
  | .hbm, ⟨10, _⟩ => ⟨S32x8x2x8, .f32⟩
  | .hbm, ⟨11, _⟩ => ⟨S256x2x8, .f32⟩
  | .hbm, ⟨12, _⟩ => ⟨S_, .f32⟩
  | .hbm, ⟨13, _⟩ => ⟨S1x2x8, .f32⟩
  | .hbm, ⟨14, _⟩ => ⟨S257x2x8, .f32⟩
  | .hbm, ⟨15, _⟩ => ⟨S_, .i32⟩
  | .hbm, ⟨16, _⟩ => ⟨S201, .i32⟩
  | .hbm, ⟨17, _⟩ => ⟨S201, .i1⟩
  | .hbm, ⟨18, _⟩ => ⟨S_, .i32⟩
  | .hbm, ⟨19, _⟩ => ⟨S201, .i32⟩
  | .hbm, ⟨20, _⟩ => ⟨S201, .i32⟩
  | .hbm, ⟨21, _⟩ => ⟨S201, .i32⟩
  | .hbm, ⟨22, _⟩ => ⟨S201x1, .i32⟩
  | .hbm, ⟨23, _⟩ => ⟨S201x2x8, .f32⟩
  | .hbm, ⟨24, _⟩ => ⟨S_, .i32⟩
  | .hbm, ⟨25, _⟩ => ⟨S201, .i32⟩
  | .hbm, ⟨26, _⟩ => ⟨S201, .i1⟩
  | .hbm, ⟨27, _⟩ => ⟨S_, .i32⟩
  | .hbm, ⟨28, _⟩ => ⟨S201, .i32⟩
  | .hbm, ⟨29, _⟩ => ⟨S201, .i32⟩
  | .hbm, ⟨30, _⟩ => ⟨S201, .i32⟩
  | .hbm, ⟨31, _⟩ => ⟨S201x1, .i32⟩
  | .hbm, ⟨32, _⟩ => ⟨S201x2x8, .f32⟩
  | .hbm, ⟨33, _⟩ => ⟨S201x2x8, .f32⟩
  | .hbm, ⟨34, _⟩ => ⟨S3x67x2x8, .f32⟩
  | .hbm, ⟨35, _⟩ => ⟨S2x3x67x8, .f32⟩
  | .hbm, ⟨36, _⟩ => ⟨S2x3x536, .f32⟩
  | .hbm, ⟨37, _⟩ => ⟨S_, .f32⟩
  | .hbm, ⟨38, _⟩ => ⟨S3x543, .f32⟩
  | .hbm, ⟨39, _⟩ => ⟨S_, .f32⟩
  | .hbm, ⟨40, _⟩ => ⟨S3x543, .f32⟩
  | .hbm, ⟨41, _⟩ => ⟨S12288x7x3, .f32⟩
  | .hbm, ⟨42, _⟩ => ⟨S_, .f32⟩
  | .hbm, ⟨43, _⟩ => ⟨S7x3, .f32⟩
  | .hbm, ⟨44, _⟩ => ⟨S3x7, .f32⟩
  | .hbm, ⟨45, _⟩ => ⟨S12288x7x3, .f32⟩
  | .hbm, ⟨46, _⟩ => ⟨S_, .f32⟩
  | .hbm, ⟨47, _⟩ => ⟨S7x3, .f32⟩
  | .hbm, ⟨48, _⟩ => ⟨S3x7, .f32⟩
  | .hbm, ⟨49, _⟩ => ⟨S1x3x536, .f32⟩
  | .hbm, ⟨50, _⟩ => ⟨S3x536, .f32⟩
  | .hbm, ⟨51, _⟩ => ⟨S3x536, .f32⟩
  | .hbm, ⟨52, _⟩ => ⟨S3x536, .f32⟩
  | .hbm, ⟨53, _⟩ => ⟨S3x7, .f32⟩
  | .hbm, ⟨54, _⟩ => ⟨S3x7, .f32⟩
  | .hbm, ⟨55, _⟩ => ⟨S3x543, .f32⟩
  | .hbm, ⟨56, _⟩ => ⟨S1x3x536, .f32⟩
  | .hbm, ⟨57, _⟩ => ⟨S3x536, .f32⟩
  | .hbm, ⟨58, _⟩ => ⟨S3x536, .f32⟩
  | .hbm, ⟨59, _⟩ => ⟨S3x536, .f32⟩
  | .hbm, ⟨60, _⟩ => ⟨S3x7, .f32⟩
  | .hbm, ⟨61, _⟩ => ⟨S3x7, .f32⟩
  | .hbm, ⟨62, _⟩ => ⟨S3x543, .f32⟩
  | .hbm, ⟨63, _⟩ => ⟨S543x3, .f32⟩
  | .hbm, ⟨64, _⟩ => ⟨S1629, .f32⟩
  | .hbm, ⟨65, _⟩ => ⟨S543x3, .f32⟩
  | .hbm, ⟨66, _⟩ => ⟨S1629, .f32⟩
  | .hbm, ⟨67, _⟩ => ⟨S_, .f32⟩
  | .hbm, ⟨68, _⟩ => ⟨S1629, .f32⟩
  | .hbm, ⟨69, _⟩ => ⟨S1629, .f32⟩
  | .hbm, ⟨70, _⟩ => ⟨S_, .f32⟩
  | .hbm, ⟨71, _⟩ => ⟨S1629, .f32⟩
  | .hbm, ⟨72, _⟩ => ⟨S1629, .f32⟩
  | .hbm, ⟨73, _⟩ => ⟨S1629, .f32⟩
  | .hbm, ⟨74, _⟩ => ⟨S1629, .f32⟩
  | .hbm, ⟨75, _⟩ => ⟨S1629, .f32⟩
  | .hbm, ⟨76, _⟩ => ⟨S3258, .f32⟩
  | .hbm, ⟨77, _⟩ => ⟨S3258, .f32⟩
  | .hbm, ⟨78, _⟩ => ⟨S_, .f32⟩
  | .hbm, ⟨79, _⟩ => ⟨S3258, .f32⟩
  | .hbm, ⟨80, _⟩ => ⟨S3258, .i1⟩
  | .hbm, ⟨81, _⟩ => ⟨S_, .f32⟩
  | .hbm, ⟨82, _⟩ => ⟨S3258, .f32⟩
  | .hbm, ⟨83, _⟩ => ⟨S3258, .f32⟩
  | .local .tc .vmem, ⟨0, _⟩ => ⟨S1x543x4096, .f32⟩
  | .local .tc .vmem, ⟨1, _⟩ => ⟨S1x543x4096, .f32⟩
  | .local .tc .vmem, ⟨2, _⟩ => ⟨S1x543x128, .f32⟩
  | .local .tc .vmem, ⟨3, _⟩ => ⟨S1x543x128, .f32⟩
  | .local .tc .vmem, ⟨4, _⟩ => ⟨S1x543x128, .f32⟩
  | .local .tc .vmem, ⟨5, _⟩ => ⟨S1x543x128, .f32⟩
  | .local .scVector .vmem, ⟨0, _⟩ => ⟨S4x8x2048, .f32⟩
  | .local .scVector .vmem, ⟨1, _⟩ => ⟨S1024, .f32⟩
  | .local .scVector .vmem, ⟨2, _⟩ => ⟨S1024, .f32⟩
  | _, _ => ⟨S16384x543x3, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | ⟨11, _⟩ => true
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_c_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_4 : Ref sig .tc := ⟨.hbm, 24, rfl⟩
abbrev main_v16 : Ref sig .tc := ⟨.hbm, 25, rfl⟩
abbrev main_v17 : Ref sig .tc := ⟨.hbm, 26, rfl⟩
abbrev main_c_5 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_6 : Ref sig .tc := ⟨.hbm, 37, rfl⟩
abbrev main_v27 : Ref sig .tc := ⟨.hbm, 38, rfl⟩
abbrev main_cst_7 : Ref sig .tc := ⟨.hbm, 39, rfl⟩
abbrev main_v28 : Ref sig .tc := ⟨.hbm, 40, rfl⟩
abbrev main_v29 : Ref sig .tc := ⟨.hbm, 41, rfl⟩
abbrev main_cst_8 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_9 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_10 : Ref sig .tc := ⟨.hbm, 67, rfl⟩
abbrev main_v53 : Ref sig .tc := ⟨.hbm, 68, rfl⟩
abbrev main_v54 : Ref sig .tc := ⟨.hbm, 69, rfl⟩
abbrev main_cst_11 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_12 : Ref sig .tc := ⟨.hbm, 78, rfl⟩
abbrev main_v62 : Ref sig .tc := ⟨.hbm, 79, rfl⟩
abbrev main_v63 : Ref sig .tc := ⟨.hbm, 80, rfl⟩
abbrev main_cst_13 : Ref sig .tc := ⟨.hbm, 81, rfl⟩
abbrev main_v64 : Ref sig .tc := ⟨.hbm, 82, rfl⟩
abbrev main_v65 : Ref sig .tc := ⟨.hbm, 83, rfl⟩
abbrev main_v0_scv : Ref sig .scVector := ⟨.hbm, 3, rfl⟩
abbrev main_v1_scv : Ref sig .scVector := ⟨.hbm, 4, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32_83 : BitVec 32) : Fin 3 → Nat :=
  let c1206_i32 : BitVec 32 := 1206#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.muli c1206_i32 v1
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let v442 : BitVec 32 := Scalar.addi v19 c0_i32_83
  let c0_i32_85 : BitVec 32 := 0#32
  let v444 : BitVec 1 := Scalar.cmpi .sgt v442 c0_i32_85
  let v445 : BitVec 32 := Scalar.extui v444
  let c0_i32_86 : BitVec 32 := 0#32
  let v446 : BitVec 1 := Scalar.cmpi .slt v442 c0_i32_86
  let v447 : BitVec 32 := Scalar.extui v446
  let v448 : BitVec 32 := Scalar.subi v445 v447
  let c6_i32_84 : BitVec 32 := 6#32
  let c0_i32_87 : BitVec 32 := 0#32
  let v449 : BitVec 1 := Scalar.cmpi .sgt c6_i32_84 c0_i32_87
  let v450 : BitVec 32 := Scalar.extui v449
  let c0_i32_88 : BitVec 32 := 0#32
  let v451 : BitVec 1 := Scalar.cmpi .slt c6_i32_84 c0_i32_88
  let v452 : BitVec 32 := Scalar.extui v451
  let v453 : BitVec 32 := Scalar.subi v450 v452
  let v454 : BitVec 1 := Scalar.cmpi .ne v448 v453
  let v455 : BitVec 32 := Scalar.remsi v442 c6_i32_84
  let c0_i32_89 : BitVec 32 := 0#32
  let v456 : BitVec 1 := Scalar.cmpi .ne v455 c0_i32_89
  let v457 : BitVec 1 := Scalar.andi v454 v456
  let v443 : BitVec 32 := Scalar.divsi v442 c6_i32_84
  let c1_i32_90 : BitVec 32 := 1#32
  let v458 : BitVec 32 := Scalar.subi v443 c1_i32_90
  let v459 : BitVec 32 := Scalar.select v457 v458 v443
  let c0_i32_97 : BitVec 32 := 0#32
  let v471 : BitVec 1 := Scalar.cmpi .sgt v459 c0_i32_97
  let v472 : BitVec 32 := Scalar.extui v471
  let c0_i32_98 : BitVec 32 := 0#32
  let v473 : BitVec 1 := Scalar.cmpi .slt v459 c0_i32_98
  let v474 : BitVec 32 := Scalar.extui v473
  let v475 : BitVec 32 := Scalar.subi v472 v474
  let c67_i32 : BitVec 32 := 67#32
  let c0_i32_99 : BitVec 32 := 0#32
  let v476 : BitVec 1 := Scalar.cmpi .sgt c67_i32 c0_i32_99
  let v477 : BitVec 32 := Scalar.extui v476
  let c0_i32_100 : BitVec 32 := 0#32
  let v478 : BitVec 1 := Scalar.cmpi .slt c67_i32 c0_i32_100
  let v479 : BitVec 32 := Scalar.extui v478
  let v480 : BitVec 32 := Scalar.subi v477 v479
  let v481 : BitVec 1 := Scalar.cmpi .ne v475 v480
  let v482 : BitVec 32 := Scalar.remsi v459 c67_i32
  let c0_i32_101 : BitVec 32 := 0#32
  let v483 : BitVec 1 := Scalar.cmpi .ne v482 c0_i32_101
  let v484 : BitVec 1 := Scalar.andi v481 v483
  let v470 : BitVec 32 := Scalar.divsi v459 c67_i32
  let c1_i32_102 : BitVec 32 := 1#32
  let v485 : BitVec 32 := Scalar.subi v470 c1_i32_102
  let v486 : BitVec 32 := Scalar.select v484 v485 v470
  let c8_i32 : BitVec 32 := 8#32
  let c67_i32_103 : BitVec 32 := 67#32
  let c0_i32_104 : BitVec 32 := 0#32
  let v487 : BitVec 1 := Scalar.cmpi .eq c67_i32_103 c0_i32_104
  let c1_i32_105 : BitVec 32 := 1#32
  let v488 : BitVec 32 := Scalar.select v487 c1_i32_105 c67_i32_103
  let v489 : BitVec 32 := Scalar.remsi v459 v488
  let c0_i32_107 : BitVec 32 := 0#32
  let v491 : BitVec 1 := Scalar.cmpi .slt v489 c0_i32_107
  let c0_i32_108 : BitVec 32 := 0#32
  let v492 : BitVec 1 := Scalar.cmpi .slt v488 c0_i32_108
  let v493 : BitVec 1 := Scalar.xori v491 v492
  let c0_i32_106 : BitVec 32 := 0#32
  let v490 : BitVec 1 := Scalar.cmpi .ne v489 c0_i32_106
  let v494 : BitVec 1 := Scalar.andi v493 v490
  let v495 : BitVec 32 := Scalar.addi v489 v488
  let v496 : BitVec 32 := Scalar.select v494 v495 v489
  let v497 : BitVec 32 := Scalar.muli c8_i32 v496
  let c2048_i32 : BitVec 32 := 2048#32
  let c6_i32_91 : BitVec 32 := 6#32
  let c0_i32_92 : BitVec 32 := 0#32
  let v460 : BitVec 1 := Scalar.cmpi .eq c6_i32_91 c0_i32_92
  let c1_i32_93 : BitVec 32 := 1#32
  let v461 : BitVec 32 := Scalar.select v460 c1_i32_93 c6_i32_91
  let v462 : BitVec 32 := Scalar.remsi v442 v461
  let c0_i32_95 : BitVec 32 := 0#32
  let v464 : BitVec 1 := Scalar.cmpi .slt v462 c0_i32_95
  let c0_i32_96 : BitVec 32 := 0#32
  let v465 : BitVec 1 := Scalar.cmpi .slt v461 c0_i32_96
  let v466 : BitVec 1 := Scalar.xori v464 v465
  let c0_i32_94 : BitVec 32 := 0#32
  let v463 : BitVec 1 := Scalar.cmpi .ne v462 c0_i32_94
  let v467 : BitVec 1 := Scalar.andi v466 v463
  let v468 : BitVec 32 := Scalar.addi v462 v461
  let v469 : BitVec 32 := Scalar.select v467 v468 v462
  let v498 : BitVec 32 := Scalar.muli c2048_i32 v469
  ![v486.toNat, v497.toNat, v498.toNat]
@[reducible] def k0_t1_loop (i : grid0.Coords) : Scf.Loop 32 :=
  let c0_i32_220 : BitVec 32 := 0#32
  let c1206_i32_5 : BitVec 32 := 1206#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_4 : BitVec 32 := 1#32
  let v20 : BitVec 32 := Scalar.addi v1 c1_i32_4
  let v21 : BitVec 32 := Scalar.muli c1206_i32_5 v20
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c1206_i32 : BitVec 32 := 1206#32
  let v2 : BitVec 32 := Scalar.muli c1206_i32 v1
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let v39 : BitVec 32 := Scalar.subi v38 v19
  let v710 : BitVec 32 := Scalar.subi v39 c0_i32_220
  let c1_i32_221 : BitVec 32 := 1#32
  let v712 : BitVec 32 := Scalar.divsi v710 c1_i32_221
  let v713 : BitVec 32 := Scalar.muli v712 c1_i32_221
  let v714 : BitVec 32 := Scalar.addi c0_i32_220 v713
  let c1_i32_222 : BitVec 32 := 1#32
  ⟨c0_i32_220, v714, c1_i32_222⟩
def k0_off2 (i : grid0.Coords) (k0_t1 : Fin (k0_t1_loop i).trips) : Fin 3 → Nat :=
  let c0_i32_220 : BitVec 32 := 0#32
  let c1_i32_222 : BitVec 32 := 1#32
  let arg8 : BitVec 32 := Scf.iv c0_i32_220 c1_i32_222 k0_t1
  let c4_i32 : BitVec 32 := 4#32
  let v715 : BitVec 32 := Scalar.remsi arg8 c4_i32
  let c0_i32_254 : BitVec 32 := 0#32
  let c0_i32_255 : BitVec 32 := 0#32
  ![v715.toNat, 0, 0]
def k0_off3 (i : grid0.Coords) (k0_t1 : Fin (k0_t1_loop i).trips) : Fin 3 → Nat :=
  let c1206_i32 : BitVec 32 := 1206#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.muli c1206_i32 v1
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c0_i32_220 : BitVec 32 := 0#32
  let c1_i32_222 : BitVec 32 := 1#32
  let arg8 : BitVec 32 := Scf.iv c0_i32_220 c1_i32_222 k0_t1
  let v716 : BitVec 32 := Scalar.addi v19 arg8
  let c0_i32_227 : BitVec 32 := 0#32
  let v718 : BitVec 1 := Scalar.cmpi .sgt v716 c0_i32_227
  let v719 : BitVec 32 := Scalar.extui v718
  let c0_i32_228 : BitVec 32 := 0#32
  let v720 : BitVec 1 := Scalar.cmpi .slt v716 c0_i32_228
  let v721 : BitVec 32 := Scalar.extui v720
  let v722 : BitVec 32 := Scalar.subi v719 v721
  let c6_i32_226 : BitVec 32 := 6#32
  let c0_i32_229 : BitVec 32 := 0#32
  let v723 : BitVec 1 := Scalar.cmpi .sgt c6_i32_226 c0_i32_229
  let v724 : BitVec 32 := Scalar.extui v723
  let c0_i32_230 : BitVec 32 := 0#32
  let v725 : BitVec 1 := Scalar.cmpi .slt c6_i32_226 c0_i32_230
  let v726 : BitVec 32 := Scalar.extui v725
  let v727 : BitVec 32 := Scalar.subi v724 v726
  let v728 : BitVec 1 := Scalar.cmpi .ne v722 v727
  let v729 : BitVec 32 := Scalar.remsi v716 c6_i32_226
  let c0_i32_231 : BitVec 32 := 0#32
  let v730 : BitVec 1 := Scalar.cmpi .ne v729 c0_i32_231
  let v731 : BitVec 1 := Scalar.andi v728 v730
  let v717 : BitVec 32 := Scalar.divsi v716 c6_i32_226
  let c1_i32_232 : BitVec 32 := 1#32
  let v732 : BitVec 32 := Scalar.subi v717 c1_i32_232
  let v733 : BitVec 32 := Scalar.select v731 v732 v717
  let c0_i32_240 : BitVec 32 := 0#32
  let v745 : BitVec 1 := Scalar.cmpi .sgt v733 c0_i32_240
  let v746 : BitVec 32 := Scalar.extui v745
  let c0_i32_241 : BitVec 32 := 0#32
  let v747 : BitVec 1 := Scalar.cmpi .slt v733 c0_i32_241
  let v748 : BitVec 32 := Scalar.extui v747
  let v749 : BitVec 32 := Scalar.subi v746 v748
  let c67_i32_239 : BitVec 32 := 67#32
  let c0_i32_242 : BitVec 32 := 0#32
  let v750 : BitVec 1 := Scalar.cmpi .sgt c67_i32_239 c0_i32_242
  let v751 : BitVec 32 := Scalar.extui v750
  let c0_i32_243 : BitVec 32 := 0#32
  let v752 : BitVec 1 := Scalar.cmpi .slt c67_i32_239 c0_i32_243
  let v753 : BitVec 32 := Scalar.extui v752
  let v754 : BitVec 32 := Scalar.subi v751 v753
  let v755 : BitVec 1 := Scalar.cmpi .ne v749 v754
  let v756 : BitVec 32 := Scalar.remsi v733 c67_i32_239
  let c0_i32_244 : BitVec 32 := 0#32
  let v757 : BitVec 1 := Scalar.cmpi .ne v756 c0_i32_244
  let v758 : BitVec 1 := Scalar.andi v755 v757
  let v744 : BitVec 32 := Scalar.divsi v733 c67_i32_239
  let c1_i32_245 : BitVec 32 := 1#32
  let v759 : BitVec 32 := Scalar.subi v744 c1_i32_245
  let v760 : BitVec 32 := Scalar.select v758 v759 v744
  let c8_i32_252 : BitVec 32 := 8#32
  let c67_i32_246 : BitVec 32 := 67#32
  let c0_i32_247 : BitVec 32 := 0#32
  let v761 : BitVec 1 := Scalar.cmpi .eq c67_i32_246 c0_i32_247
  let c1_i32_248 : BitVec 32 := 1#32
  let v762 : BitVec 32 := Scalar.select v761 c1_i32_248 c67_i32_246
  let v763 : BitVec 32 := Scalar.remsi v733 v762
  let c0_i32_250 : BitVec 32 := 0#32
  let v765 : BitVec 1 := Scalar.cmpi .slt v763 c0_i32_250
  let c0_i32_251 : BitVec 32 := 0#32
  let v766 : BitVec 1 := Scalar.cmpi .slt v762 c0_i32_251
  let v767 : BitVec 1 := Scalar.xori v765 v766
  let c0_i32_249 : BitVec 32 := 0#32
  let v764 : BitVec 1 := Scalar.cmpi .ne v763 c0_i32_249
  let v768 : BitVec 1 := Scalar.andi v767 v764
  let v769 : BitVec 32 := Scalar.addi v763 v762
  let v770 : BitVec 32 := Scalar.select v768 v769 v763
  let v771 : BitVec 32 := Scalar.muli c8_i32_252 v770
  let c2048_i32_253 : BitVec 32 := 2048#32
  let c6_i32_233 : BitVec 32 := 6#32
  let c0_i32_234 : BitVec 32 := 0#32
  let v734 : BitVec 1 := Scalar.cmpi .eq c6_i32_233 c0_i32_234
  let c1_i32_235 : BitVec 32 := 1#32
  let v735 : BitVec 32 := Scalar.select v734 c1_i32_235 c6_i32_233
  let v736 : BitVec 32 := Scalar.remsi v716 v735
  let c0_i32_237 : BitVec 32 := 0#32
  let v738 : BitVec 1 := Scalar.cmpi .slt v736 c0_i32_237
  let c0_i32_238 : BitVec 32 := 0#32
  let v739 : BitVec 1 := Scalar.cmpi .slt v735 c0_i32_238
  let v740 : BitVec 1 := Scalar.xori v738 v739
  let c0_i32_236 : BitVec 32 := 0#32
  let v737 : BitVec 1 := Scalar.cmpi .ne v736 c0_i32_236
  let v741 : BitVec 1 := Scalar.andi v740 v737
  let v742 : BitVec 32 := Scalar.addi v736 v735
  let v743 : BitVec 32 := Scalar.select v741 v742 v736
  let v772 : BitVec 32 := Scalar.muli c2048_i32_253 v743
  ![v760.toNat, v771.toNat, v772.toNat]
def k0_off4 (i : grid0.Coords) (k0_t1 : Fin (k0_t1_loop i).trips) : Fin 1 → Nat :=
  let c0_i32_220 : BitVec 32 := 0#32
  let c1_i32_222 : BitVec 32 := 1#32
  let arg8 : BitVec 32 := Scf.iv c0_i32_220 c1_i32_222 k0_t1
  let c4_i32 : BitVec 32 := 4#32
  let v715 : BitVec 32 := Scalar.remsi arg8 c4_i32
  ![v715.toNat]
@[reducible] def k0_t2_loop : Scf.Loop 32 :=
  let c0_i32_258 : BitVec 32 := 0#32
  let c128_i32 : BitVec 32 := 128#32
  let v783 : BitVec 32 := Scalar.addi c0_i32_258 c128_i32
  let c1_i32_259 : BitVec 32 := 1#32
  ⟨c0_i32_258, v783, c1_i32_259⟩
def k0_off5 (i : grid0.Coords) (k0_t1 : Fin (k0_t1_loop i).trips) (k0_t2 : Fin k0_t2_loop.trips) : Fin 3 → Nat :=
  let c0_i32_220 : BitVec 32 := 0#32
  let c1_i32_222 : BitVec 32 := 1#32
  let arg8 : BitVec 32 := Scf.iv c0_i32_220 c1_i32_222 k0_t1
  let c4_i32 : BitVec 32 := 4#32
  let v715 : BitVec 32 := Scalar.remsi arg8 c4_i32
  let v946 : Index := Scalar.indexCast v715
  let c0_i32_274 : BitVec 32 := 0#32
  let v947 : Index := Scalar.indexCast c0_i32_274
  let c0_i32_258 : BitVec 32 := 0#32
  let c1_i32_259 : BitVec 32 := 1#32
  let arg9 : BitVec 32 := Scf.iv c0_i32_258 c1_i32_259 k0_t2
  let c16_i32_273 : BitVec 32 := 16#32
  let v945 : BitVec 32 := Scalar.muli arg9 c16_i32_273
  let v948 : Index := Scalar.indexCast v945
  ![v946.toNat, 0, v948.toNat]
def k0_off6 (i : grid0.Coords) (k0_t1 : Fin (k0_t1_loop i).trips) (k0_t2 : Fin k0_t2_loop.trips) : Fin 3 → Nat :=
  let c0_i32_220 : BitVec 32 := 0#32
  let c1_i32_222 : BitVec 32 := 1#32
  let arg8 : BitVec 32 := Scf.iv c0_i32_220 c1_i32_222 k0_t1
  let c4_i32 : BitVec 32 := 4#32
  let v715 : BitVec 32 := Scalar.remsi arg8 c4_i32
  let v955 : Index := Scalar.indexCast v715
  let c1_i32_276 : BitVec 32 := 1#32
  let v956 : Index := Scalar.indexCast c1_i32_276
  let c0_i32_258 : BitVec 32 := 0#32
  let c1_i32_259 : BitVec 32 := 1#32
  let arg9 : BitVec 32 := Scf.iv c0_i32_258 c1_i32_259 k0_t2
  let c16_i32_275 : BitVec 32 := 16#32
  let v954 : BitVec 32 := Scalar.muli arg9 c16_i32_275
  let v957 : Index := Scalar.indexCast v954
  ![v955.toNat, 1, v957.toNat]
def k0_off7 (i : grid0.Coords) (k0_t1 : Fin (k0_t1_loop i).trips) (k0_t2 : Fin k0_t2_loop.trips) : Fin 3 → Nat :=
  let c0_i32_220 : BitVec 32 := 0#32
  let c1_i32_222 : BitVec 32 := 1#32
  let arg8 : BitVec 32 := Scf.iv c0_i32_220 c1_i32_222 k0_t1
  let c4_i32 : BitVec 32 := 4#32
  let v715 : BitVec 32 := Scalar.remsi arg8 c4_i32
  let v964 : Index := Scalar.indexCast v715
  let c2_i32_278 : BitVec 32 := 2#32
  let v965 : Index := Scalar.indexCast c2_i32_278
  let c0_i32_258 : BitVec 32 := 0#32
  let c1_i32_259 : BitVec 32 := 1#32
  let arg9 : BitVec 32 := Scf.iv c0_i32_258 c1_i32_259 k0_t2
  let c16_i32_277 : BitVec 32 := 16#32
  let v963 : BitVec 32 := Scalar.muli arg9 c16_i32_277
  let v966 : Index := Scalar.indexCast v963
  ![v964.toNat, 2, v966.toNat]
def k0_off8 (i : grid0.Coords) (k0_t1 : Fin (k0_t1_loop i).trips) (k0_t2 : Fin k0_t2_loop.trips) : Fin 3 → Nat :=
  let c0_i32_220 : BitVec 32 := 0#32
  let c1_i32_222 : BitVec 32 := 1#32
  let arg8 : BitVec 32 := Scf.iv c0_i32_220 c1_i32_222 k0_t1
  let c4_i32 : BitVec 32 := 4#32
  let v715 : BitVec 32 := Scalar.remsi arg8 c4_i32
  let v973 : Index := Scalar.indexCast v715
  let c3_i32_280 : BitVec 32 := 3#32
  let v974 : Index := Scalar.indexCast c3_i32_280
  let c0_i32_258 : BitVec 32 := 0#32
  let c1_i32_259 : BitVec 32 := 1#32
  let arg9 : BitVec 32 := Scf.iv c0_i32_258 c1_i32_259 k0_t2
  let c16_i32_279 : BitVec 32 := 16#32
  let v972 : BitVec 32 := Scalar.muli arg9 c16_i32_279
  let v975 : Index := Scalar.indexCast v972
  ![v973.toNat, 3, v975.toNat]
def k0_off9 (i : grid0.Coords) (k0_t1 : Fin (k0_t1_loop i).trips) (k0_t2 : Fin k0_t2_loop.trips) : Fin 3 → Nat :=
  let c0_i32_220 : BitVec 32 := 0#32
  let c1_i32_222 : BitVec 32 := 1#32
  let arg8 : BitVec 32 := Scf.iv c0_i32_220 c1_i32_222 k0_t1
  let c4_i32 : BitVec 32 := 4#32
  let v715 : BitVec 32 := Scalar.remsi arg8 c4_i32
  let v982 : Index := Scalar.indexCast v715
  let c4_i32_282 : BitVec 32 := 4#32
  let v983 : Index := Scalar.indexCast c4_i32_282
  let c0_i32_258 : BitVec 32 := 0#32
  let c1_i32_259 : BitVec 32 := 1#32
  let arg9 : BitVec 32 := Scf.iv c0_i32_258 c1_i32_259 k0_t2
  let c16_i32_281 : BitVec 32 := 16#32
  let v981 : BitVec 32 := Scalar.muli arg9 c16_i32_281
  let v984 : Index := Scalar.indexCast v981
  ![v982.toNat, 4, v984.toNat]
def k0_off10 (i : grid0.Coords) (k0_t1 : Fin (k0_t1_loop i).trips) (k0_t2 : Fin k0_t2_loop.trips) : Fin 3 → Nat :=
  let c0_i32_220 : BitVec 32 := 0#32
  let c1_i32_222 : BitVec 32 := 1#32
  let arg8 : BitVec 32 := Scf.iv c0_i32_220 c1_i32_222 k0_t1
  let c4_i32 : BitVec 32 := 4#32
  let v715 : BitVec 32 := Scalar.remsi arg8 c4_i32
  let v991 : Index := Scalar.indexCast v715
  let c5_i32 : BitVec 32 := 5#32
  let v992 : Index := Scalar.indexCast c5_i32
  let c0_i32_258 : BitVec 32 := 0#32
  let c1_i32_259 : BitVec 32 := 1#32
  let arg9 : BitVec 32 := Scf.iv c0_i32_258 c1_i32_259 k0_t2
  let c16_i32_283 : BitVec 32 := 16#32
  let v990 : BitVec 32 := Scalar.muli arg9 c16_i32_283
  let v993 : Index := Scalar.indexCast v990
  ![v991.toNat, 5, v993.toNat]
def k0_off11 (i : grid0.Coords) (k0_t1 : Fin (k0_t1_loop i).trips) (k0_t2 : Fin k0_t2_loop.trips) : Fin 3 → Nat :=
  let c0_i32_220 : BitVec 32 := 0#32
  let c1_i32_222 : BitVec 32 := 1#32
  let arg8 : BitVec 32 := Scf.iv c0_i32_220 c1_i32_222 k0_t1
  let c4_i32 : BitVec 32 := 4#32
  let v715 : BitVec 32 := Scalar.remsi arg8 c4_i32
  let v1000 : Index := Scalar.indexCast v715
  let c6_i32_285 : BitVec 32 := 6#32
  let v1001 : Index := Scalar.indexCast c6_i32_285
  let c0_i32_258 : BitVec 32 := 0#32
  let c1_i32_259 : BitVec 32 := 1#32
  let arg9 : BitVec 32 := Scf.iv c0_i32_258 c1_i32_259 k0_t2
  let c16_i32_284 : BitVec 32 := 16#32
  let v999 : BitVec 32 := Scalar.muli arg9 c16_i32_284
  let v1002 : Index := Scalar.indexCast v999
  ![v1000.toNat, 6, v1002.toNat]
def k0_off12 (i : grid0.Coords) (k0_t1 : Fin (k0_t1_loop i).trips) (k0_t2 : Fin k0_t2_loop.trips) : Fin 3 → Nat :=
  let c0_i32_220 : BitVec 32 := 0#32
  let c1_i32_222 : BitVec 32 := 1#32
  let arg8 : BitVec 32 := Scf.iv c0_i32_220 c1_i32_222 k0_t1
  let c4_i32 : BitVec 32 := 4#32
  let v715 : BitVec 32 := Scalar.remsi arg8 c4_i32
  let v1009 : Index := Scalar.indexCast v715
  let c7_i32 : BitVec 32 := 7#32
  let v1010 : Index := Scalar.indexCast c7_i32
  let c0_i32_258 : BitVec 32 := 0#32
  let c1_i32_259 : BitVec 32 := 1#32
  let arg9 : BitVec 32 := Scf.iv c0_i32_258 c1_i32_259 k0_t2
  let c16_i32_286 : BitVec 32 := 16#32
  let v1008 : BitVec 32 := Scalar.muli arg9 c16_i32_286
  let v1011 : Index := Scalar.indexCast v1008
  ![v1009.toNat, 7, v1011.toNat]
def k0_off13 (i : grid0.Coords) (k0_t1 : Fin (k0_t1_loop i).trips) (c0_i32_269 : BitVec 32) : Fin 1 → Nat :=
  let c1206_i32 : BitVec 32 := 1206#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.muli c1206_i32 v1
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c0_i32_220 : BitVec 32 := 0#32
  let c1_i32_222 : BitVec 32 := 1#32
  let arg8 : BitVec 32 := Scf.iv c0_i32_220 c1_i32_222 k0_t1
  let v785 : BitVec 32 := Scalar.addi v19 arg8
  let c0_i32_262 : BitVec 32 := 0#32
  let v787 : BitVec 1 := Scalar.cmpi .sgt v785 c0_i32_262
  let v788 : BitVec 32 := Scalar.extui v787
  let c0_i32_263 : BitVec 32 := 0#32
  let v789 : BitVec 1 := Scalar.cmpi .slt v785 c0_i32_263
  let v790 : BitVec 32 := Scalar.extui v789
  let v791 : BitVec 32 := Scalar.subi v788 v790
  let c6_i32_261 : BitVec 32 := 6#32
  let c0_i32_264 : BitVec 32 := 0#32
  let v792 : BitVec 1 := Scalar.cmpi .sgt c6_i32_261 c0_i32_264
  let v793 : BitVec 32 := Scalar.extui v792
  let c0_i32_265 : BitVec 32 := 0#32
  let v794 : BitVec 1 := Scalar.cmpi .slt c6_i32_261 c0_i32_265
  let v795 : BitVec 32 := Scalar.extui v794
  let v796 : BitVec 32 := Scalar.subi v793 v795
  let v797 : BitVec 1 := Scalar.cmpi .ne v791 v796
  let v798 : BitVec 32 := Scalar.remsi v785 c6_i32_261
  let c0_i32_266 : BitVec 32 := 0#32
  let v799 : BitVec 1 := Scalar.cmpi .ne v798 c0_i32_266
  let v800 : BitVec 1 := Scalar.andi v797 v799
  let v786 : BitVec 32 := Scalar.divsi v785 c6_i32_261
  let c1_i32_267 : BitVec 32 := 1#32
  let v801 : BitVec 32 := Scalar.subi v786 c1_i32_267
  let v802 : BitVec 32 := Scalar.select v800 v801 v786
  let c0_i32_13 : BitVec 32 := 0#32
  let v41 : BitVec 1 := Scalar.cmpi .sgt v19 c0_i32_13
  let v42 : BitVec 32 := Scalar.extui v41
  let c0_i32_14 : BitVec 32 := 0#32
  let v43 : BitVec 1 := Scalar.cmpi .slt v19 c0_i32_14
  let v44 : BitVec 32 := Scalar.extui v43
  let v45 : BitVec 32 := Scalar.subi v42 v44
  let c6_i32 : BitVec 32 := 6#32
  let c0_i32_15 : BitVec 32 := 0#32
  let v46 : BitVec 1 := Scalar.cmpi .sgt c6_i32 c0_i32_15
  let v47 : BitVec 32 := Scalar.extui v46
  let c0_i32_16 : BitVec 32 := 0#32
  let v48 : BitVec 1 := Scalar.cmpi .slt c6_i32 c0_i32_16
  let v49 : BitVec 32 := Scalar.extui v48
  let v50 : BitVec 32 := Scalar.subi v47 v49
  let v51 : BitVec 1 := Scalar.cmpi .ne v45 v50
  let v52 : BitVec 32 := Scalar.remsi v19 c6_i32
  let c0_i32_17 : BitVec 32 := 0#32
  let v53 : BitVec 1 := Scalar.cmpi .ne v52 c0_i32_17
  let v54 : BitVec 1 := Scalar.andi v51 v53
  let v40 : BitVec 32 := Scalar.divsi v19 c6_i32
  let c1_i32_18 : BitVec 32 := 1#32
  let v55 : BitVec 32 := Scalar.subi v40 c1_i32_18
  let v56 : BitVec 32 := Scalar.select v54 v55 v40
  let v803 : BitVec 32 := Scalar.subi v802 v56
  let c128_i32_268 : BitVec 32 := 128#32
  let v804 : BitVec 32 := Scalar.muli v803 c128_i32_268
  let v805 : BitVec 32 := Scalar.addi v804 c0_i32_269
  let v806 : Index := Scalar.indexCast v805
  ![v806.toNat]
def k0_cond1 (i : grid0.Coords) (k0_t1 : Fin (k0_t1_loop i).trips) : BitVec 1 :=
  let c0_i32_220 : BitVec 32 := 0#32
  let c1_i32_222 : BitVec 32 := 1#32
  let arg8 : BitVec 32 := Scf.iv c0_i32_220 c1_i32_222 k0_t1
  let c4_i32_271 : BitVec 32 := 4#32
  let v941 : BitVec 32 := Scalar.addi arg8 c4_i32_271
  let c1206_i32_5 : BitVec 32 := 1206#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_4 : BitVec 32 := 1#32
  let v20 : BitVec 32 := Scalar.addi v1 c1_i32_4
  let v21 : BitVec 32 := Scalar.muli c1206_i32_5 v20
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c1206_i32 : BitVec 32 := 1206#32
  let v2 : BitVec 32 := Scalar.muli c1206_i32 v1
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let v39 : BitVec 32 := Scalar.subi v38 v19
  let v942 : BitVec 1 := Scalar.cmpi .slt v941 v39
  let v943 : BitVec 32 := Scalar.extui v942
  let c0_i32_272 : BitVec 32 := 0#32
  let v944 : BitVec 1 := Scalar.cmpi .ne v943 c0_i32_272
  v944

def k0_off14 (i : grid0.Coords) (k0_t1 : Fin (k0_t1_loop i).trips) : Fin 3 → Nat :=
  let c0_i32_220 : BitVec 32 := 0#32
  let c1_i32_222 : BitVec 32 := 1#32
  let arg8 : BitVec 32 := Scf.iv c0_i32_220 c1_i32_222 k0_t1
  let c4_i32 : BitVec 32 := 4#32
  let v715 : BitVec 32 := Scalar.remsi arg8 c4_i32
  let c0_i32_302 : BitVec 32 := 0#32
  let c0_i32_303 : BitVec 32 := 0#32
  ![v715.toNat, 0, 0]
def k0_off15 (i : grid0.Coords) (k0_t1 : Fin (k0_t1_loop i).trips) : Fin 3 → Nat :=
  let c1206_i32 : BitVec 32 := 1206#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.muli c1206_i32 v1
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c0_i32_220 : BitVec 32 := 0#32
  let c1_i32_222 : BitVec 32 := 1#32
  let arg8 : BitVec 32 := Scf.iv c0_i32_220 c1_i32_222 k0_t1
  let c4_i32_273 : BitVec 32 := 4#32
  let v945 : BitVec 32 := Scalar.addi arg8 c4_i32_273
  let v946 : BitVec 32 := Scalar.addi v19 v945
  let c0_i32_275 : BitVec 32 := 0#32
  let v948 : BitVec 1 := Scalar.cmpi .sgt v946 c0_i32_275
  let v949 : BitVec 32 := Scalar.extui v948
  let c0_i32_276 : BitVec 32 := 0#32
  let v950 : BitVec 1 := Scalar.cmpi .slt v946 c0_i32_276
  let v951 : BitVec 32 := Scalar.extui v950
  let v952 : BitVec 32 := Scalar.subi v949 v951
  let c6_i32_274 : BitVec 32 := 6#32
  let c0_i32_277 : BitVec 32 := 0#32
  let v953 : BitVec 1 := Scalar.cmpi .sgt c6_i32_274 c0_i32_277
  let v954 : BitVec 32 := Scalar.extui v953
  let c0_i32_278 : BitVec 32 := 0#32
  let v955 : BitVec 1 := Scalar.cmpi .slt c6_i32_274 c0_i32_278
  let v956 : BitVec 32 := Scalar.extui v955
  let v957 : BitVec 32 := Scalar.subi v954 v956
  let v958 : BitVec 1 := Scalar.cmpi .ne v952 v957
  let v959 : BitVec 32 := Scalar.remsi v946 c6_i32_274
  let c0_i32_279 : BitVec 32 := 0#32
  let v960 : BitVec 1 := Scalar.cmpi .ne v959 c0_i32_279
  let v961 : BitVec 1 := Scalar.andi v958 v960
  let v947 : BitVec 32 := Scalar.divsi v946 c6_i32_274
  let c1_i32_280 : BitVec 32 := 1#32
  let v962 : BitVec 32 := Scalar.subi v947 c1_i32_280
  let v963 : BitVec 32 := Scalar.select v961 v962 v947
  let c0_i32_288 : BitVec 32 := 0#32
  let v975 : BitVec 1 := Scalar.cmpi .sgt v963 c0_i32_288
  let v976 : BitVec 32 := Scalar.extui v975
  let c0_i32_289 : BitVec 32 := 0#32
  let v977 : BitVec 1 := Scalar.cmpi .slt v963 c0_i32_289
  let v978 : BitVec 32 := Scalar.extui v977
  let v979 : BitVec 32 := Scalar.subi v976 v978
  let c67_i32_287 : BitVec 32 := 67#32
  let c0_i32_290 : BitVec 32 := 0#32
  let v980 : BitVec 1 := Scalar.cmpi .sgt c67_i32_287 c0_i32_290
  let v981 : BitVec 32 := Scalar.extui v980
  let c0_i32_291 : BitVec 32 := 0#32
  let v982 : BitVec 1 := Scalar.cmpi .slt c67_i32_287 c0_i32_291
  let v983 : BitVec 32 := Scalar.extui v982
  let v984 : BitVec 32 := Scalar.subi v981 v983
  let v985 : BitVec 1 := Scalar.cmpi .ne v979 v984
  let v986 : BitVec 32 := Scalar.remsi v963 c67_i32_287
  let c0_i32_292 : BitVec 32 := 0#32
  let v987 : BitVec 1 := Scalar.cmpi .ne v986 c0_i32_292
  let v988 : BitVec 1 := Scalar.andi v985 v987
  let v974 : BitVec 32 := Scalar.divsi v963 c67_i32_287
  let c1_i32_293 : BitVec 32 := 1#32
  let v989 : BitVec 32 := Scalar.subi v974 c1_i32_293
  let v990 : BitVec 32 := Scalar.select v988 v989 v974
  let c8_i32_300 : BitVec 32 := 8#32
  let c67_i32_294 : BitVec 32 := 67#32
  let c0_i32_295 : BitVec 32 := 0#32
  let v991 : BitVec 1 := Scalar.cmpi .eq c67_i32_294 c0_i32_295
  let c1_i32_296 : BitVec 32 := 1#32
  let v992 : BitVec 32 := Scalar.select v991 c1_i32_296 c67_i32_294
  let v993 : BitVec 32 := Scalar.remsi v963 v992
  let c0_i32_298 : BitVec 32 := 0#32
  let v995 : BitVec 1 := Scalar.cmpi .slt v993 c0_i32_298
  let c0_i32_299 : BitVec 32 := 0#32
  let v996 : BitVec 1 := Scalar.cmpi .slt v992 c0_i32_299
  let v997 : BitVec 1 := Scalar.xori v995 v996
  let c0_i32_297 : BitVec 32 := 0#32
  let v994 : BitVec 1 := Scalar.cmpi .ne v993 c0_i32_297
  let v998 : BitVec 1 := Scalar.andi v997 v994
  let v999 : BitVec 32 := Scalar.addi v993 v992
  let v1000 : BitVec 32 := Scalar.select v998 v999 v993
  let v1001 : BitVec 32 := Scalar.muli c8_i32_300 v1000
  let c2048_i32_301 : BitVec 32 := 2048#32
  let c6_i32_281 : BitVec 32 := 6#32
  let c0_i32_282 : BitVec 32 := 0#32
  let v964 : BitVec 1 := Scalar.cmpi .eq c6_i32_281 c0_i32_282
  let c1_i32_283 : BitVec 32 := 1#32
  let v965 : BitVec 32 := Scalar.select v964 c1_i32_283 c6_i32_281
  let v966 : BitVec 32 := Scalar.remsi v946 v965
  let c0_i32_285 : BitVec 32 := 0#32
  let v968 : BitVec 1 := Scalar.cmpi .slt v966 c0_i32_285
  let c0_i32_286 : BitVec 32 := 0#32
  let v969 : BitVec 1 := Scalar.cmpi .slt v965 c0_i32_286
  let v970 : BitVec 1 := Scalar.xori v968 v969
  let c0_i32_284 : BitVec 32 := 0#32
  let v967 : BitVec 1 := Scalar.cmpi .ne v966 c0_i32_284
  let v971 : BitVec 1 := Scalar.andi v970 v967
  let v972 : BitVec 32 := Scalar.addi v966 v965
  let v973 : BitVec 32 := Scalar.select v971 v972 v966
  let v1002 : BitVec 32 := Scalar.muli c2048_i32_301 v973
  ![v990.toNat, v1001.toNat, v1002.toNat]
def k0_off16 (i : grid0.Coords) (k0_t1 : Fin (k0_t1_loop i).trips) : Fin 1 → Nat :=
  let c0_i32_220 : BitVec 32 := 0#32
  let c1_i32_222 : BitVec 32 := 1#32
  let arg8 : BitVec 32 := Scf.iv c0_i32_220 c1_i32_222 k0_t1
  let c4_i32 : BitVec 32 := 4#32
  let v715 : BitVec 32 := Scalar.remsi arg8 c4_i32
  ![v715.toNat]
@[reducible] def k0_t3_loop (i : grid0.Coords) : Scf.Loop 32 :=
  let c0_i32_220 : BitVec 32 := 0#32
  let c1206_i32_5 : BitVec 32 := 1206#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_4 : BitVec 32 := 1#32
  let v20 : BitVec 32 := Scalar.addi v1 c1_i32_4
  let v21 : BitVec 32 := Scalar.muli c1206_i32_5 v20
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c1206_i32 : BitVec 32 := 1206#32
  let v2 : BitVec 32 := Scalar.muli c1206_i32 v1
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let v39 : BitVec 32 := Scalar.subi v38 v19
  let v710 : BitVec 32 := Scalar.subi v39 c0_i32_220
  let c1_i32_221 : BitVec 32 := 1#32
  let v712 : BitVec 32 := Scalar.divsi v710 c1_i32_221
  let v713 : BitVec 32 := Scalar.muli v712 c1_i32_221
  let v714 : BitVec 32 := Scalar.addi c0_i32_220 v713
  let v711 : BitVec 32 := Scalar.addi c0_i32_220 v710
  let c1_i32_223 : BitVec 32 := 1#32
  ⟨v714, v711, c1_i32_223⟩
def k0_off17 (i : grid0.Coords) (k0_t3 : Fin (k0_t3_loop i).trips) : Fin 3 → Nat :=
  let c0_i32_220 : BitVec 32 := 0#32
  let c1206_i32_5 : BitVec 32 := 1206#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_4 : BitVec 32 := 1#32
  let v20 : BitVec 32 := Scalar.addi v1 c1_i32_4
  let v21 : BitVec 32 := Scalar.muli c1206_i32_5 v20
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c1206_i32 : BitVec 32 := 1206#32
  let v2 : BitVec 32 := Scalar.muli c1206_i32 v1
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let v39 : BitVec 32 := Scalar.subi v38 v19
  let v710 : BitVec 32 := Scalar.subi v39 c0_i32_220
  let c1_i32_221 : BitVec 32 := 1#32
  let v712 : BitVec 32 := Scalar.divsi v710 c1_i32_221
  let v713 : BitVec 32 := Scalar.muli v712 c1_i32_221
  let v714 : BitVec 32 := Scalar.addi c0_i32_220 v713
  let c1_i32_223 : BitVec 32 := 1#32
  let arg8 : BitVec 32 := Scf.iv v714 c1_i32_223 k0_t3
  let c4_i32 : BitVec 32 := 4#32
  let v715 : BitVec 32 := Scalar.remsi arg8 c4_i32
  let c0_i32_254 : BitVec 32 := 0#32
  let c0_i32_255 : BitVec 32 := 0#32
  ![v715.toNat, 0, 0]
def k0_off18 (i : grid0.Coords) (k0_t3 : Fin (k0_t3_loop i).trips) : Fin 3 → Nat :=
  let c1206_i32 : BitVec 32 := 1206#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.muli c1206_i32 v1
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c0_i32_220 : BitVec 32 := 0#32
  let c1206_i32_5 : BitVec 32 := 1206#32
  let c1_i32_4 : BitVec 32 := 1#32
  let v20 : BitVec 32 := Scalar.addi v1 c1_i32_4
  let v21 : BitVec 32 := Scalar.muli c1206_i32_5 v20
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let v39 : BitVec 32 := Scalar.subi v38 v19
  let v710 : BitVec 32 := Scalar.subi v39 c0_i32_220
  let c1_i32_221 : BitVec 32 := 1#32
  let v712 : BitVec 32 := Scalar.divsi v710 c1_i32_221
  let v713 : BitVec 32 := Scalar.muli v712 c1_i32_221
  let v714 : BitVec 32 := Scalar.addi c0_i32_220 v713
  let c1_i32_223 : BitVec 32 := 1#32
  let arg8 : BitVec 32 := Scf.iv v714 c1_i32_223 k0_t3
  let v716 : BitVec 32 := Scalar.addi v19 arg8
  let c0_i32_227 : BitVec 32 := 0#32
  let v718 : BitVec 1 := Scalar.cmpi .sgt v716 c0_i32_227
  let v719 : BitVec 32 := Scalar.extui v718
  let c0_i32_228 : BitVec 32 := 0#32
  let v720 : BitVec 1 := Scalar.cmpi .slt v716 c0_i32_228
  let v721 : BitVec 32 := Scalar.extui v720
  let v722 : BitVec 32 := Scalar.subi v719 v721
  let c6_i32_226 : BitVec 32 := 6#32
  let c0_i32_229 : BitVec 32 := 0#32
  let v723 : BitVec 1 := Scalar.cmpi .sgt c6_i32_226 c0_i32_229
  let v724 : BitVec 32 := Scalar.extui v723
  let c0_i32_230 : BitVec 32 := 0#32
  let v725 : BitVec 1 := Scalar.cmpi .slt c6_i32_226 c0_i32_230
  let v726 : BitVec 32 := Scalar.extui v725
  let v727 : BitVec 32 := Scalar.subi v724 v726
  let v728 : BitVec 1 := Scalar.cmpi .ne v722 v727
  let v729 : BitVec 32 := Scalar.remsi v716 c6_i32_226
  let c0_i32_231 : BitVec 32 := 0#32
  let v730 : BitVec 1 := Scalar.cmpi .ne v729 c0_i32_231
  let v731 : BitVec 1 := Scalar.andi v728 v730
  let v717 : BitVec 32 := Scalar.divsi v716 c6_i32_226
  let c1_i32_232 : BitVec 32 := 1#32
  let v732 : BitVec 32 := Scalar.subi v717 c1_i32_232
  let v733 : BitVec 32 := Scalar.select v731 v732 v717
  let c0_i32_240 : BitVec 32 := 0#32
  let v745 : BitVec 1 := Scalar.cmpi .sgt v733 c0_i32_240
  let v746 : BitVec 32 := Scalar.extui v745
  let c0_i32_241 : BitVec 32 := 0#32
  let v747 : BitVec 1 := Scalar.cmpi .slt v733 c0_i32_241
  let v748 : BitVec 32 := Scalar.extui v747
  let v749 : BitVec 32 := Scalar.subi v746 v748
  let c67_i32_239 : BitVec 32 := 67#32
  let c0_i32_242 : BitVec 32 := 0#32
  let v750 : BitVec 1 := Scalar.cmpi .sgt c67_i32_239 c0_i32_242
  let v751 : BitVec 32 := Scalar.extui v750
  let c0_i32_243 : BitVec 32 := 0#32
  let v752 : BitVec 1 := Scalar.cmpi .slt c67_i32_239 c0_i32_243
  let v753 : BitVec 32 := Scalar.extui v752
  let v754 : BitVec 32 := Scalar.subi v751 v753
  let v755 : BitVec 1 := Scalar.cmpi .ne v749 v754
  let v756 : BitVec 32 := Scalar.remsi v733 c67_i32_239
  let c0_i32_244 : BitVec 32 := 0#32
  let v757 : BitVec 1 := Scalar.cmpi .ne v756 c0_i32_244
  let v758 : BitVec 1 := Scalar.andi v755 v757
  let v744 : BitVec 32 := Scalar.divsi v733 c67_i32_239
  let c1_i32_245 : BitVec 32 := 1#32
  let v759 : BitVec 32 := Scalar.subi v744 c1_i32_245
  let v760 : BitVec 32 := Scalar.select v758 v759 v744
  let c8_i32_252 : BitVec 32 := 8#32
  let c67_i32_246 : BitVec 32 := 67#32
  let c0_i32_247 : BitVec 32 := 0#32
  let v761 : BitVec 1 := Scalar.cmpi .eq c67_i32_246 c0_i32_247
  let c1_i32_248 : BitVec 32 := 1#32
  let v762 : BitVec 32 := Scalar.select v761 c1_i32_248 c67_i32_246
  let v763 : BitVec 32 := Scalar.remsi v733 v762
  let c0_i32_250 : BitVec 32 := 0#32
  let v765 : BitVec 1 := Scalar.cmpi .slt v763 c0_i32_250
  let c0_i32_251 : BitVec 32 := 0#32
  let v766 : BitVec 1 := Scalar.cmpi .slt v762 c0_i32_251
  let v767 : BitVec 1 := Scalar.xori v765 v766
  let c0_i32_249 : BitVec 32 := 0#32
  let v764 : BitVec 1 := Scalar.cmpi .ne v763 c0_i32_249
  let v768 : BitVec 1 := Scalar.andi v767 v764
  let v769 : BitVec 32 := Scalar.addi v763 v762
  let v770 : BitVec 32 := Scalar.select v768 v769 v763
  let v771 : BitVec 32 := Scalar.muli c8_i32_252 v770
  let c2048_i32_253 : BitVec 32 := 2048#32
  let c6_i32_233 : BitVec 32 := 6#32
  let c0_i32_234 : BitVec 32 := 0#32
  let v734 : BitVec 1 := Scalar.cmpi .eq c6_i32_233 c0_i32_234
  let c1_i32_235 : BitVec 32 := 1#32
  let v735 : BitVec 32 := Scalar.select v734 c1_i32_235 c6_i32_233
  let v736 : BitVec 32 := Scalar.remsi v716 v735
  let c0_i32_237 : BitVec 32 := 0#32
  let v738 : BitVec 1 := Scalar.cmpi .slt v736 c0_i32_237
  let c0_i32_238 : BitVec 32 := 0#32
  let v739 : BitVec 1 := Scalar.cmpi .slt v735 c0_i32_238
  let v740 : BitVec 1 := Scalar.xori v738 v739
  let c0_i32_236 : BitVec 32 := 0#32
  let v737 : BitVec 1 := Scalar.cmpi .ne v736 c0_i32_236
  let v741 : BitVec 1 := Scalar.andi v740 v737
  let v742 : BitVec 32 := Scalar.addi v736 v735
  let v743 : BitVec 32 := Scalar.select v741 v742 v736
  let v772 : BitVec 32 := Scalar.muli c2048_i32_253 v743
  ![v760.toNat, v771.toNat, v772.toNat]
def k0_off19 (i : grid0.Coords) (k0_t3 : Fin (k0_t3_loop i).trips) : Fin 1 → Nat :=
  let c0_i32_220 : BitVec 32 := 0#32
  let c1206_i32_5 : BitVec 32 := 1206#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_4 : BitVec 32 := 1#32
  let v20 : BitVec 32 := Scalar.addi v1 c1_i32_4
  let v21 : BitVec 32 := Scalar.muli c1206_i32_5 v20
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c1206_i32 : BitVec 32 := 1206#32
  let v2 : BitVec 32 := Scalar.muli c1206_i32 v1
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let v39 : BitVec 32 := Scalar.subi v38 v19
  let v710 : BitVec 32 := Scalar.subi v39 c0_i32_220
  let c1_i32_221 : BitVec 32 := 1#32
  let v712 : BitVec 32 := Scalar.divsi v710 c1_i32_221
  let v713 : BitVec 32 := Scalar.muli v712 c1_i32_221
  let v714 : BitVec 32 := Scalar.addi c0_i32_220 v713
  let c1_i32_223 : BitVec 32 := 1#32
  let arg8 : BitVec 32 := Scf.iv v714 c1_i32_223 k0_t3
  let c4_i32 : BitVec 32 := 4#32
  let v715 : BitVec 32 := Scalar.remsi arg8 c4_i32
  ![v715.toNat]
@[reducible] def k0_t4_loop : Scf.Loop 32 :=
  let c0_i32_258 : BitVec 32 := 0#32
  let c128_i32 : BitVec 32 := 128#32
  let v783 : BitVec 32 := Scalar.addi c0_i32_258 c128_i32
  let c1_i32_259 : BitVec 32 := 1#32
  ⟨c0_i32_258, v783, c1_i32_259⟩
def k0_off20 (i : grid0.Coords) (k0_t3 : Fin (k0_t3_loop i).trips) (k0_t4 : Fin k0_t4_loop.trips) : Fin 3 → Nat :=
  let c0_i32_220 : BitVec 32 := 0#32
  let c1206_i32_5 : BitVec 32 := 1206#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_4 : BitVec 32 := 1#32
  let v20 : BitVec 32 := Scalar.addi v1 c1_i32_4
  let v21 : BitVec 32 := Scalar.muli c1206_i32_5 v20
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c1206_i32 : BitVec 32 := 1206#32
  let v2 : BitVec 32 := Scalar.muli c1206_i32 v1
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let v39 : BitVec 32 := Scalar.subi v38 v19
  let v710 : BitVec 32 := Scalar.subi v39 c0_i32_220
  let c1_i32_221 : BitVec 32 := 1#32
  let v712 : BitVec 32 := Scalar.divsi v710 c1_i32_221
  let v713 : BitVec 32 := Scalar.muli v712 c1_i32_221
  let v714 : BitVec 32 := Scalar.addi c0_i32_220 v713
  let c1_i32_223 : BitVec 32 := 1#32
  let arg8 : BitVec 32 := Scf.iv v714 c1_i32_223 k0_t3
  let c4_i32 : BitVec 32 := 4#32
  let v715 : BitVec 32 := Scalar.remsi arg8 c4_i32
  let v946 : Index := Scalar.indexCast v715
  let c0_i32_274 : BitVec 32 := 0#32
  let v947 : Index := Scalar.indexCast c0_i32_274
  let c0_i32_258 : BitVec 32 := 0#32
  let c1_i32_259 : BitVec 32 := 1#32
  let arg9 : BitVec 32 := Scf.iv c0_i32_258 c1_i32_259 k0_t4
  let c16_i32_273 : BitVec 32 := 16#32
  let v945 : BitVec 32 := Scalar.muli arg9 c16_i32_273
  let v948 : Index := Scalar.indexCast v945
  ![v946.toNat, 0, v948.toNat]
def k0_off21 (i : grid0.Coords) (k0_t3 : Fin (k0_t3_loop i).trips) (k0_t4 : Fin k0_t4_loop.trips) : Fin 3 → Nat :=
  let c0_i32_220 : BitVec 32 := 0#32
  let c1206_i32_5 : BitVec 32 := 1206#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_4 : BitVec 32 := 1#32
  let v20 : BitVec 32 := Scalar.addi v1 c1_i32_4
  let v21 : BitVec 32 := Scalar.muli c1206_i32_5 v20
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c1206_i32 : BitVec 32 := 1206#32
  let v2 : BitVec 32 := Scalar.muli c1206_i32 v1
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let v39 : BitVec 32 := Scalar.subi v38 v19
  let v710 : BitVec 32 := Scalar.subi v39 c0_i32_220
  let c1_i32_221 : BitVec 32 := 1#32
  let v712 : BitVec 32 := Scalar.divsi v710 c1_i32_221
  let v713 : BitVec 32 := Scalar.muli v712 c1_i32_221
  let v714 : BitVec 32 := Scalar.addi c0_i32_220 v713
  let c1_i32_223 : BitVec 32 := 1#32
  let arg8 : BitVec 32 := Scf.iv v714 c1_i32_223 k0_t3
  let c4_i32 : BitVec 32 := 4#32
  let v715 : BitVec 32 := Scalar.remsi arg8 c4_i32
  let v955 : Index := Scalar.indexCast v715
  let c1_i32_276 : BitVec 32 := 1#32
  let v956 : Index := Scalar.indexCast c1_i32_276
  let c0_i32_258 : BitVec 32 := 0#32
  let c1_i32_259 : BitVec 32 := 1#32
  let arg9 : BitVec 32 := Scf.iv c0_i32_258 c1_i32_259 k0_t4
  let c16_i32_275 : BitVec 32 := 16#32
  let v954 : BitVec 32 := Scalar.muli arg9 c16_i32_275
  let v957 : Index := Scalar.indexCast v954
  ![v955.toNat, 1, v957.toNat]
def k0_off22 (i : grid0.Coords) (k0_t3 : Fin (k0_t3_loop i).trips) (k0_t4 : Fin k0_t4_loop.trips) : Fin 3 → Nat :=
  let c0_i32_220 : BitVec 32 := 0#32
  let c1206_i32_5 : BitVec 32 := 1206#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_4 : BitVec 32 := 1#32
  let v20 : BitVec 32 := Scalar.addi v1 c1_i32_4
  let v21 : BitVec 32 := Scalar.muli c1206_i32_5 v20
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c1206_i32 : BitVec 32 := 1206#32
  let v2 : BitVec 32 := Scalar.muli c1206_i32 v1
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let v39 : BitVec 32 := Scalar.subi v38 v19
  let v710 : BitVec 32 := Scalar.subi v39 c0_i32_220
  let c1_i32_221 : BitVec 32 := 1#32
  let v712 : BitVec 32 := Scalar.divsi v710 c1_i32_221
  let v713 : BitVec 32 := Scalar.muli v712 c1_i32_221
  let v714 : BitVec 32 := Scalar.addi c0_i32_220 v713
  let c1_i32_223 : BitVec 32 := 1#32
  let arg8 : BitVec 32 := Scf.iv v714 c1_i32_223 k0_t3
  let c4_i32 : BitVec 32 := 4#32
  let v715 : BitVec 32 := Scalar.remsi arg8 c4_i32
  let v964 : Index := Scalar.indexCast v715
  let c2_i32_278 : BitVec 32 := 2#32
  let v965 : Index := Scalar.indexCast c2_i32_278
  let c0_i32_258 : BitVec 32 := 0#32
  let c1_i32_259 : BitVec 32 := 1#32
  let arg9 : BitVec 32 := Scf.iv c0_i32_258 c1_i32_259 k0_t4
  let c16_i32_277 : BitVec 32 := 16#32
  let v963 : BitVec 32 := Scalar.muli arg9 c16_i32_277
  let v966 : Index := Scalar.indexCast v963
  ![v964.toNat, 2, v966.toNat]
def k0_off23 (i : grid0.Coords) (k0_t3 : Fin (k0_t3_loop i).trips) (k0_t4 : Fin k0_t4_loop.trips) : Fin 3 → Nat :=
  let c0_i32_220 : BitVec 32 := 0#32
  let c1206_i32_5 : BitVec 32 := 1206#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_4 : BitVec 32 := 1#32
  let v20 : BitVec 32 := Scalar.addi v1 c1_i32_4
  let v21 : BitVec 32 := Scalar.muli c1206_i32_5 v20
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c1206_i32 : BitVec 32 := 1206#32
  let v2 : BitVec 32 := Scalar.muli c1206_i32 v1
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let v39 : BitVec 32 := Scalar.subi v38 v19
  let v710 : BitVec 32 := Scalar.subi v39 c0_i32_220
  let c1_i32_221 : BitVec 32 := 1#32
  let v712 : BitVec 32 := Scalar.divsi v710 c1_i32_221
  let v713 : BitVec 32 := Scalar.muli v712 c1_i32_221
  let v714 : BitVec 32 := Scalar.addi c0_i32_220 v713
  let c1_i32_223 : BitVec 32 := 1#32
  let arg8 : BitVec 32 := Scf.iv v714 c1_i32_223 k0_t3
  let c4_i32 : BitVec 32 := 4#32
  let v715 : BitVec 32 := Scalar.remsi arg8 c4_i32
  let v973 : Index := Scalar.indexCast v715
  let c3_i32_280 : BitVec 32 := 3#32
  let v974 : Index := Scalar.indexCast c3_i32_280
  let c0_i32_258 : BitVec 32 := 0#32
  let c1_i32_259 : BitVec 32 := 1#32
  let arg9 : BitVec 32 := Scf.iv c0_i32_258 c1_i32_259 k0_t4
  let c16_i32_279 : BitVec 32 := 16#32
  let v972 : BitVec 32 := Scalar.muli arg9 c16_i32_279
  let v975 : Index := Scalar.indexCast v972
  ![v973.toNat, 3, v975.toNat]
def k0_off24 (i : grid0.Coords) (k0_t3 : Fin (k0_t3_loop i).trips) (k0_t4 : Fin k0_t4_loop.trips) : Fin 3 → Nat :=
  let c0_i32_220 : BitVec 32 := 0#32
  let c1206_i32_5 : BitVec 32 := 1206#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_4 : BitVec 32 := 1#32
  let v20 : BitVec 32 := Scalar.addi v1 c1_i32_4
  let v21 : BitVec 32 := Scalar.muli c1206_i32_5 v20
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c1206_i32 : BitVec 32 := 1206#32
  let v2 : BitVec 32 := Scalar.muli c1206_i32 v1
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let v39 : BitVec 32 := Scalar.subi v38 v19
  let v710 : BitVec 32 := Scalar.subi v39 c0_i32_220
  let c1_i32_221 : BitVec 32 := 1#32
  let v712 : BitVec 32 := Scalar.divsi v710 c1_i32_221
  let v713 : BitVec 32 := Scalar.muli v712 c1_i32_221
  let v714 : BitVec 32 := Scalar.addi c0_i32_220 v713
  let c1_i32_223 : BitVec 32 := 1#32
  let arg8 : BitVec 32 := Scf.iv v714 c1_i32_223 k0_t3
  let c4_i32 : BitVec 32 := 4#32
  let v715 : BitVec 32 := Scalar.remsi arg8 c4_i32
  let v982 : Index := Scalar.indexCast v715
  let c4_i32_282 : BitVec 32 := 4#32
  let v983 : Index := Scalar.indexCast c4_i32_282
  let c0_i32_258 : BitVec 32 := 0#32
  let c1_i32_259 : BitVec 32 := 1#32
  let arg9 : BitVec 32 := Scf.iv c0_i32_258 c1_i32_259 k0_t4
  let c16_i32_281 : BitVec 32 := 16#32
  let v981 : BitVec 32 := Scalar.muli arg9 c16_i32_281
  let v984 : Index := Scalar.indexCast v981
  ![v982.toNat, 4, v984.toNat]
def k0_off25 (i : grid0.Coords) (k0_t3 : Fin (k0_t3_loop i).trips) (k0_t4 : Fin k0_t4_loop.trips) : Fin 3 → Nat :=
  let c0_i32_220 : BitVec 32 := 0#32
  let c1206_i32_5 : BitVec 32 := 1206#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_4 : BitVec 32 := 1#32
  let v20 : BitVec 32 := Scalar.addi v1 c1_i32_4
  let v21 : BitVec 32 := Scalar.muli c1206_i32_5 v20
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c1206_i32 : BitVec 32 := 1206#32
  let v2 : BitVec 32 := Scalar.muli c1206_i32 v1
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let v39 : BitVec 32 := Scalar.subi v38 v19
  let v710 : BitVec 32 := Scalar.subi v39 c0_i32_220
  let c1_i32_221 : BitVec 32 := 1#32
  let v712 : BitVec 32 := Scalar.divsi v710 c1_i32_221
  let v713 : BitVec 32 := Scalar.muli v712 c1_i32_221
  let v714 : BitVec 32 := Scalar.addi c0_i32_220 v713
  let c1_i32_223 : BitVec 32 := 1#32
  let arg8 : BitVec 32 := Scf.iv v714 c1_i32_223 k0_t3
  let c4_i32 : BitVec 32 := 4#32
  let v715 : BitVec 32 := Scalar.remsi arg8 c4_i32
  let v991 : Index := Scalar.indexCast v715
  let c5_i32 : BitVec 32 := 5#32
  let v992 : Index := Scalar.indexCast c5_i32
  let c0_i32_258 : BitVec 32 := 0#32
  let c1_i32_259 : BitVec 32 := 1#32
  let arg9 : BitVec 32 := Scf.iv c0_i32_258 c1_i32_259 k0_t4
  let c16_i32_283 : BitVec 32 := 16#32
  let v990 : BitVec 32 := Scalar.muli arg9 c16_i32_283
  let v993 : Index := Scalar.indexCast v990
  ![v991.toNat, 5, v993.toNat]
def k0_off26 (i : grid0.Coords) (k0_t3 : Fin (k0_t3_loop i).trips) (k0_t4 : Fin k0_t4_loop.trips) : Fin 3 → Nat :=
  let c0_i32_220 : BitVec 32 := 0#32
  let c1206_i32_5 : BitVec 32 := 1206#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_4 : BitVec 32 := 1#32
  let v20 : BitVec 32 := Scalar.addi v1 c1_i32_4
  let v21 : BitVec 32 := Scalar.muli c1206_i32_5 v20
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c1206_i32 : BitVec 32 := 1206#32
  let v2 : BitVec 32 := Scalar.muli c1206_i32 v1
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let v39 : BitVec 32 := Scalar.subi v38 v19
  let v710 : BitVec 32 := Scalar.subi v39 c0_i32_220
  let c1_i32_221 : BitVec 32 := 1#32
  let v712 : BitVec 32 := Scalar.divsi v710 c1_i32_221
  let v713 : BitVec 32 := Scalar.muli v712 c1_i32_221
  let v714 : BitVec 32 := Scalar.addi c0_i32_220 v713
  let c1_i32_223 : BitVec 32 := 1#32
  let arg8 : BitVec 32 := Scf.iv v714 c1_i32_223 k0_t3
  let c4_i32 : BitVec 32 := 4#32
  let v715 : BitVec 32 := Scalar.remsi arg8 c4_i32
  let v1000 : Index := Scalar.indexCast v715
  let c6_i32_285 : BitVec 32 := 6#32
  let v1001 : Index := Scalar.indexCast c6_i32_285
  let c0_i32_258 : BitVec 32 := 0#32
  let c1_i32_259 : BitVec 32 := 1#32
  let arg9 : BitVec 32 := Scf.iv c0_i32_258 c1_i32_259 k0_t4
  let c16_i32_284 : BitVec 32 := 16#32
  let v999 : BitVec 32 := Scalar.muli arg9 c16_i32_284
  let v1002 : Index := Scalar.indexCast v999
  ![v1000.toNat, 6, v1002.toNat]
def k0_off27 (i : grid0.Coords) (k0_t3 : Fin (k0_t3_loop i).trips) (k0_t4 : Fin k0_t4_loop.trips) : Fin 3 → Nat :=
  let c0_i32_220 : BitVec 32 := 0#32
  let c1206_i32_5 : BitVec 32 := 1206#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_4 : BitVec 32 := 1#32
  let v20 : BitVec 32 := Scalar.addi v1 c1_i32_4
  let v21 : BitVec 32 := Scalar.muli c1206_i32_5 v20
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c1206_i32 : BitVec 32 := 1206#32
  let v2 : BitVec 32 := Scalar.muli c1206_i32 v1
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let v39 : BitVec 32 := Scalar.subi v38 v19
  let v710 : BitVec 32 := Scalar.subi v39 c0_i32_220
  let c1_i32_221 : BitVec 32 := 1#32
  let v712 : BitVec 32 := Scalar.divsi v710 c1_i32_221
  let v713 : BitVec 32 := Scalar.muli v712 c1_i32_221
  let v714 : BitVec 32 := Scalar.addi c0_i32_220 v713
  let c1_i32_223 : BitVec 32 := 1#32
  let arg8 : BitVec 32 := Scf.iv v714 c1_i32_223 k0_t3
  let c4_i32 : BitVec 32 := 4#32
  let v715 : BitVec 32 := Scalar.remsi arg8 c4_i32
  let v1009 : Index := Scalar.indexCast v715
  let c7_i32 : BitVec 32 := 7#32
  let v1010 : Index := Scalar.indexCast c7_i32
  let c0_i32_258 : BitVec 32 := 0#32
  let c1_i32_259 : BitVec 32 := 1#32
  let arg9 : BitVec 32 := Scf.iv c0_i32_258 c1_i32_259 k0_t4
  let c16_i32_286 : BitVec 32 := 16#32
  let v1008 : BitVec 32 := Scalar.muli arg9 c16_i32_286
  let v1011 : Index := Scalar.indexCast v1008
  ![v1009.toNat, 7, v1011.toNat]
def k0_off28 (i : grid0.Coords) (k0_t3 : Fin (k0_t3_loop i).trips) (c0_i32_269 : BitVec 32) : Fin 1 → Nat :=
  let c1206_i32 : BitVec 32 := 1206#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.muli c1206_i32 v1
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c0_i32_220 : BitVec 32 := 0#32
  let c1206_i32_5 : BitVec 32 := 1206#32
  let c1_i32_4 : BitVec 32 := 1#32
  let v20 : BitVec 32 := Scalar.addi v1 c1_i32_4
  let v21 : BitVec 32 := Scalar.muli c1206_i32_5 v20
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let v39 : BitVec 32 := Scalar.subi v38 v19
  let v710 : BitVec 32 := Scalar.subi v39 c0_i32_220
  let c1_i32_221 : BitVec 32 := 1#32
  let v712 : BitVec 32 := Scalar.divsi v710 c1_i32_221
  let v713 : BitVec 32 := Scalar.muli v712 c1_i32_221
  let v714 : BitVec 32 := Scalar.addi c0_i32_220 v713
  let c1_i32_223 : BitVec 32 := 1#32
  let arg8 : BitVec 32 := Scf.iv v714 c1_i32_223 k0_t3
  let v785 : BitVec 32 := Scalar.addi v19 arg8
  let c0_i32_262 : BitVec 32 := 0#32
  let v787 : BitVec 1 := Scalar.cmpi .sgt v785 c0_i32_262
  let v788 : BitVec 32 := Scalar.extui v787
  let c0_i32_263 : BitVec 32 := 0#32
  let v789 : BitVec 1 := Scalar.cmpi .slt v785 c0_i32_263
  let v790 : BitVec 32 := Scalar.extui v789
  let v791 : BitVec 32 := Scalar.subi v788 v790
  let c6_i32_261 : BitVec 32 := 6#32
  let c0_i32_264 : BitVec 32 := 0#32
  let v792 : BitVec 1 := Scalar.cmpi .sgt c6_i32_261 c0_i32_264
  let v793 : BitVec 32 := Scalar.extui v792
  let c0_i32_265 : BitVec 32 := 0#32
  let v794 : BitVec 1 := Scalar.cmpi .slt c6_i32_261 c0_i32_265
  let v795 : BitVec 32 := Scalar.extui v794
  let v796 : BitVec 32 := Scalar.subi v793 v795
  let v797 : BitVec 1 := Scalar.cmpi .ne v791 v796
  let v798 : BitVec 32 := Scalar.remsi v785 c6_i32_261
  let c0_i32_266 : BitVec 32 := 0#32
  let v799 : BitVec 1 := Scalar.cmpi .ne v798 c0_i32_266
  let v800 : BitVec 1 := Scalar.andi v797 v799
  let v786 : BitVec 32 := Scalar.divsi v785 c6_i32_261
  let c1_i32_267 : BitVec 32 := 1#32
  let v801 : BitVec 32 := Scalar.subi v786 c1_i32_267
  let v802 : BitVec 32 := Scalar.select v800 v801 v786
  let c0_i32_13 : BitVec 32 := 0#32
  let v41 : BitVec 1 := Scalar.cmpi .sgt v19 c0_i32_13
  let v42 : BitVec 32 := Scalar.extui v41
  let c0_i32_14 : BitVec 32 := 0#32
  let v43 : BitVec 1 := Scalar.cmpi .slt v19 c0_i32_14
  let v44 : BitVec 32 := Scalar.extui v43
  let v45 : BitVec 32 := Scalar.subi v42 v44
  let c6_i32 : BitVec 32 := 6#32
  let c0_i32_15 : BitVec 32 := 0#32
  let v46 : BitVec 1 := Scalar.cmpi .sgt c6_i32 c0_i32_15
  let v47 : BitVec 32 := Scalar.extui v46
  let c0_i32_16 : BitVec 32 := 0#32
  let v48 : BitVec 1 := Scalar.cmpi .slt c6_i32 c0_i32_16
  let v49 : BitVec 32 := Scalar.extui v48
  let v50 : BitVec 32 := Scalar.subi v47 v49
  let v51 : BitVec 1 := Scalar.cmpi .ne v45 v50
  let v52 : BitVec 32 := Scalar.remsi v19 c6_i32
  let c0_i32_17 : BitVec 32 := 0#32
  let v53 : BitVec 1 := Scalar.cmpi .ne v52 c0_i32_17
  let v54 : BitVec 1 := Scalar.andi v51 v53
  let v40 : BitVec 32 := Scalar.divsi v19 c6_i32
  let c1_i32_18 : BitVec 32 := 1#32
  let v55 : BitVec 32 := Scalar.subi v40 c1_i32_18
  let v56 : BitVec 32 := Scalar.select v54 v55 v40
  let v803 : BitVec 32 := Scalar.subi v802 v56
  let c128_i32_268 : BitVec 32 := 128#32
  let v804 : BitVec 32 := Scalar.muli v803 c128_i32_268
  let v805 : BitVec 32 := Scalar.addi v804 c0_i32_269
  let v806 : Index := Scalar.indexCast v805
  ![v806.toNat]
def k0_cond2 (i : grid0.Coords) (k0_t3 : Fin (k0_t3_loop i).trips) : BitVec 1 :=
  let c0_i32_220 : BitVec 32 := 0#32
  let c1206_i32_5 : BitVec 32 := 1206#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_4 : BitVec 32 := 1#32
  let v20 : BitVec 32 := Scalar.addi v1 c1_i32_4
  let v21 : BitVec 32 := Scalar.muli c1206_i32_5 v20
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c1206_i32 : BitVec 32 := 1206#32
  let v2 : BitVec 32 := Scalar.muli c1206_i32 v1
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let v39 : BitVec 32 := Scalar.subi v38 v19
  let v710 : BitVec 32 := Scalar.subi v39 c0_i32_220
  let c1_i32_221 : BitVec 32 := 1#32
  let v712 : BitVec 32 := Scalar.divsi v710 c1_i32_221
  let v713 : BitVec 32 := Scalar.muli v712 c1_i32_221
  let v714 : BitVec 32 := Scalar.addi c0_i32_220 v713
  let c1_i32_223 : BitVec 32 := 1#32
  let arg8 : BitVec 32 := Scf.iv v714 c1_i32_223 k0_t3
  let c4_i32_271 : BitVec 32 := 4#32
  let v941 : BitVec 32 := Scalar.addi arg8 c4_i32_271
  let v942 : BitVec 1 := Scalar.cmpi .slt v941 v39
  let v943 : BitVec 32 := Scalar.extui v942
  let c0_i32_272 : BitVec 32 := 0#32
  let v944 : BitVec 1 := Scalar.cmpi .ne v943 c0_i32_272
  v944

def k0_off29 (i : grid0.Coords) (k0_t3 : Fin (k0_t3_loop i).trips) : Fin 3 → Nat :=
  let c0_i32_220 : BitVec 32 := 0#32
  let c1206_i32_5 : BitVec 32 := 1206#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_4 : BitVec 32 := 1#32
  let v20 : BitVec 32 := Scalar.addi v1 c1_i32_4
  let v21 : BitVec 32 := Scalar.muli c1206_i32_5 v20
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c1206_i32 : BitVec 32 := 1206#32
  let v2 : BitVec 32 := Scalar.muli c1206_i32 v1
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let v39 : BitVec 32 := Scalar.subi v38 v19
  let v710 : BitVec 32 := Scalar.subi v39 c0_i32_220
  let c1_i32_221 : BitVec 32 := 1#32
  let v712 : BitVec 32 := Scalar.divsi v710 c1_i32_221
  let v713 : BitVec 32 := Scalar.muli v712 c1_i32_221
  let v714 : BitVec 32 := Scalar.addi c0_i32_220 v713
  let c1_i32_223 : BitVec 32 := 1#32
  let arg8 : BitVec 32 := Scf.iv v714 c1_i32_223 k0_t3
  let c4_i32 : BitVec 32 := 4#32
  let v715 : BitVec 32 := Scalar.remsi arg8 c4_i32
  let c0_i32_302 : BitVec 32 := 0#32
  let c0_i32_303 : BitVec 32 := 0#32
  ![v715.toNat, 0, 0]
def k0_off30 (i : grid0.Coords) (k0_t3 : Fin (k0_t3_loop i).trips) : Fin 3 → Nat :=
  let c1206_i32 : BitVec 32 := 1206#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.muli c1206_i32 v1
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c0_i32_220 : BitVec 32 := 0#32
  let c1206_i32_5 : BitVec 32 := 1206#32
  let c1_i32_4 : BitVec 32 := 1#32
  let v20 : BitVec 32 := Scalar.addi v1 c1_i32_4
  let v21 : BitVec 32 := Scalar.muli c1206_i32_5 v20
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let v39 : BitVec 32 := Scalar.subi v38 v19
  let v710 : BitVec 32 := Scalar.subi v39 c0_i32_220
  let c1_i32_221 : BitVec 32 := 1#32
  let v712 : BitVec 32 := Scalar.divsi v710 c1_i32_221
  let v713 : BitVec 32 := Scalar.muli v712 c1_i32_221
  let v714 : BitVec 32 := Scalar.addi c0_i32_220 v713
  let c1_i32_223 : BitVec 32 := 1#32
  let arg8 : BitVec 32 := Scf.iv v714 c1_i32_223 k0_t3
  let c4_i32_273 : BitVec 32 := 4#32
  let v945 : BitVec 32 := Scalar.addi arg8 c4_i32_273
  let v946 : BitVec 32 := Scalar.addi v19 v945
  let c0_i32_275 : BitVec 32 := 0#32
  let v948 : BitVec 1 := Scalar.cmpi .sgt v946 c0_i32_275
  let v949 : BitVec 32 := Scalar.extui v948
  let c0_i32_276 : BitVec 32 := 0#32
  let v950 : BitVec 1 := Scalar.cmpi .slt v946 c0_i32_276
  let v951 : BitVec 32 := Scalar.extui v950
  let v952 : BitVec 32 := Scalar.subi v949 v951
  let c6_i32_274 : BitVec 32 := 6#32
  let c0_i32_277 : BitVec 32 := 0#32
  let v953 : BitVec 1 := Scalar.cmpi .sgt c6_i32_274 c0_i32_277
  let v954 : BitVec 32 := Scalar.extui v953
  let c0_i32_278 : BitVec 32 := 0#32
  let v955 : BitVec 1 := Scalar.cmpi .slt c6_i32_274 c0_i32_278
  let v956 : BitVec 32 := Scalar.extui v955
  let v957 : BitVec 32 := Scalar.subi v954 v956
  let v958 : BitVec 1 := Scalar.cmpi .ne v952 v957
  let v959 : BitVec 32 := Scalar.remsi v946 c6_i32_274
  let c0_i32_279 : BitVec 32 := 0#32
  let v960 : BitVec 1 := Scalar.cmpi .ne v959 c0_i32_279
  let v961 : BitVec 1 := Scalar.andi v958 v960
  let v947 : BitVec 32 := Scalar.divsi v946 c6_i32_274
  let c1_i32_280 : BitVec 32 := 1#32
  let v962 : BitVec 32 := Scalar.subi v947 c1_i32_280
  let v963 : BitVec 32 := Scalar.select v961 v962 v947
  let c0_i32_288 : BitVec 32 := 0#32
  let v975 : BitVec 1 := Scalar.cmpi .sgt v963 c0_i32_288
  let v976 : BitVec 32 := Scalar.extui v975
  let c0_i32_289 : BitVec 32 := 0#32
  let v977 : BitVec 1 := Scalar.cmpi .slt v963 c0_i32_289
  let v978 : BitVec 32 := Scalar.extui v977
  let v979 : BitVec 32 := Scalar.subi v976 v978
  let c67_i32_287 : BitVec 32 := 67#32
  let c0_i32_290 : BitVec 32 := 0#32
  let v980 : BitVec 1 := Scalar.cmpi .sgt c67_i32_287 c0_i32_290
  let v981 : BitVec 32 := Scalar.extui v980
  let c0_i32_291 : BitVec 32 := 0#32
  let v982 : BitVec 1 := Scalar.cmpi .slt c67_i32_287 c0_i32_291
  let v983 : BitVec 32 := Scalar.extui v982
  let v984 : BitVec 32 := Scalar.subi v981 v983
  let v985 : BitVec 1 := Scalar.cmpi .ne v979 v984
  let v986 : BitVec 32 := Scalar.remsi v963 c67_i32_287
  let c0_i32_292 : BitVec 32 := 0#32
  let v987 : BitVec 1 := Scalar.cmpi .ne v986 c0_i32_292
  let v988 : BitVec 1 := Scalar.andi v985 v987
  let v974 : BitVec 32 := Scalar.divsi v963 c67_i32_287
  let c1_i32_293 : BitVec 32 := 1#32
  let v989 : BitVec 32 := Scalar.subi v974 c1_i32_293
  let v990 : BitVec 32 := Scalar.select v988 v989 v974
  let c8_i32_300 : BitVec 32 := 8#32
  let c67_i32_294 : BitVec 32 := 67#32
  let c0_i32_295 : BitVec 32 := 0#32
  let v991 : BitVec 1 := Scalar.cmpi .eq c67_i32_294 c0_i32_295
  let c1_i32_296 : BitVec 32 := 1#32
  let v992 : BitVec 32 := Scalar.select v991 c1_i32_296 c67_i32_294
  let v993 : BitVec 32 := Scalar.remsi v963 v992
  let c0_i32_298 : BitVec 32 := 0#32
  let v995 : BitVec 1 := Scalar.cmpi .slt v993 c0_i32_298
  let c0_i32_299 : BitVec 32 := 0#32
  let v996 : BitVec 1 := Scalar.cmpi .slt v992 c0_i32_299
  let v997 : BitVec 1 := Scalar.xori v995 v996
  let c0_i32_297 : BitVec 32 := 0#32
  let v994 : BitVec 1 := Scalar.cmpi .ne v993 c0_i32_297
  let v998 : BitVec 1 := Scalar.andi v997 v994
  let v999 : BitVec 32 := Scalar.addi v993 v992
  let v1000 : BitVec 32 := Scalar.select v998 v999 v993
  let v1001 : BitVec 32 := Scalar.muli c8_i32_300 v1000
  let c2048_i32_301 : BitVec 32 := 2048#32
  let c6_i32_281 : BitVec 32 := 6#32
  let c0_i32_282 : BitVec 32 := 0#32
  let v964 : BitVec 1 := Scalar.cmpi .eq c6_i32_281 c0_i32_282
  let c1_i32_283 : BitVec 32 := 1#32
  let v965 : BitVec 32 := Scalar.select v964 c1_i32_283 c6_i32_281
  let v966 : BitVec 32 := Scalar.remsi v946 v965
  let c0_i32_285 : BitVec 32 := 0#32
  let v968 : BitVec 1 := Scalar.cmpi .slt v966 c0_i32_285
  let c0_i32_286 : BitVec 32 := 0#32
  let v969 : BitVec 1 := Scalar.cmpi .slt v965 c0_i32_286
  let v970 : BitVec 1 := Scalar.xori v968 v969
  let c0_i32_284 : BitVec 32 := 0#32
  let v967 : BitVec 1 := Scalar.cmpi .ne v966 c0_i32_284
  let v971 : BitVec 1 := Scalar.andi v970 v967
  let v972 : BitVec 32 := Scalar.addi v966 v965
  let v973 : BitVec 32 := Scalar.select v971 v972 v966
  let v1002 : BitVec 32 := Scalar.muli c2048_i32_301 v973
  ![v990.toNat, v1001.toNat, v1002.toNat]
def k0_off31 (i : grid0.Coords) (k0_t3 : Fin (k0_t3_loop i).trips) : Fin 1 → Nat :=
  let c0_i32_220 : BitVec 32 := 0#32
  let c1206_i32_5 : BitVec 32 := 1206#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_4 : BitVec 32 := 1#32
  let v20 : BitVec 32 := Scalar.addi v1 c1_i32_4
  let v21 : BitVec 32 := Scalar.muli c1206_i32_5 v20
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c1206_i32 : BitVec 32 := 1206#32
  let v2 : BitVec 32 := Scalar.muli c1206_i32 v1
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let v39 : BitVec 32 := Scalar.subi v38 v19
  let v710 : BitVec 32 := Scalar.subi v39 c0_i32_220
  let c1_i32_221 : BitVec 32 := 1#32
  let v712 : BitVec 32 := Scalar.divsi v710 c1_i32_221
  let v713 : BitVec 32 := Scalar.muli v712 c1_i32_221
  let v714 : BitVec 32 := Scalar.addi c0_i32_220 v713
  let c1_i32_223 : BitVec 32 := 1#32
  let arg8 : BitVec 32 := Scf.iv v714 c1_i32_223 k0_t3
  let c4_i32 : BitVec 32 := 4#32
  let v715 : BitVec 32 := Scalar.remsi arg8 c4_i32
  ![v715.toNat]
def k0_off32 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_224 : BitVec 32 := 0#32
  let c0_i32_226_r0 : BitVec 32 := 0#32
  ![v1.toNat, 0, 0]
def k0_off33 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_225 : BitVec 32 := 1#32
  let c0_i32_226_r1 : BitVec 32 := 0#32
  ![v1.toNat, 1, 0]
abbrev grid1 : Pipeline.Grid := ⟨1, ![3], ![false]⟩

def cc1_transform_0 (i : grid1.Coords) : Fin 3 → Nat :=
  let arg0 : BitVec 32 := BitVec.ofNat 32 (i 0).val
  let c0_i32 : BitVec 32 := 0#32
  let c3_i32 : BitVec 32 := 3#32
  let c0_i32_0 : BitVec 32 := 0#32
  ![arg0.toNat, c0_i32.toNat, c3_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x543x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x543x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x543x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x543x3 : Shape := ⟨3, ![16384, 543, 3]⟩
abbrev S16384x468x3 : Shape := ⟨3, ![16384, 468, 3]⟩
abbrev S16384x21x3 : Shape := ⟨3, ![16384, 21, 3]⟩
abbrev S16384x33x3 : Shape := ⟨3, ![16384, 33, 3]⟩
abbrev S16384x1404 : Shape := ⟨2, ![16384, 1404]⟩
abbrev S16384x63 : Shape := ⟨2, ![16384, 63]⟩
abbrev S16384x99 : Shape := ⟨2, ![16384, 99]⟩
abbrev S_ : Shape := ⟨0, ![]⟩
abbrev S16384 : Shape := ⟨1, ![16384]⟩
abbrev S16384x1 : Shape := ⟨2, ![16384, 1]⟩
abbrev S1404 : Shape := ⟨1, ![1404]⟩
abbrev S1x1404 : Shape := ⟨2, ![1, 1404]⟩
abbrev S63 : Shape := ⟨1, ![63]⟩
abbrev S1x63 : Shape := ⟨2, ![1, 63]⟩
abbrev S99 : Shape := ⟨1, ![99]⟩
abbrev S1x99 : Shape := ⟨2, ![1, 99]⟩
abbrev S3258 : Shape := ⟨1, ![3258]⟩

abbrev nBuf : Space → Nat
  | .hbm => 137
  | .vmem => 0
  | .smem => 0
  | _ => 0

abbrev hbmTy0_0 (i : Nat) : BufTy := match i % 128 with
  | 0 => ⟨S16384x543x3, .f32⟩
  | 1 => ⟨S16384x468x3, .f32⟩
  | 2 => ⟨S16384x21x3, .f32⟩
  | 3 => ⟨S16384x33x3, .f32⟩
  | 4 => ⟨S16384x21x3, .f32⟩
  | 5 => ⟨S16384x1404, .f32⟩
  | 6 => ⟨S16384x63, .f32⟩
  | 7 => ⟨S16384x99, .f32⟩
  | 8 => ⟨S16384x63, .f32⟩
  | 9 => ⟨S16384x1404, .i1⟩
  | 10 => ⟨S16384x1404, .i1⟩
  | 11 => ⟨S_, .i1⟩
  | 12 => ⟨S16384, .i1⟩
  | 13 => ⟨S16384, .f32⟩
  | 14 => ⟨S_, .f32⟩
  | 15 => ⟨S_, .f32⟩
  | 16 => ⟨S16384x1, .i1⟩
  | 17 => ⟨S_, .f32⟩
  | 18 => ⟨S16384x1404, .f32⟩
  | 19 => ⟨S16384x1404, .i1⟩
  | 20 => ⟨S16384x1404, .f32⟩
  | 21 => ⟨S_, .f32⟩
  | 22 => ⟨S1404, .f32⟩
  | 23 => ⟨S1404, .f32⟩
  | 24 => ⟨S1404, .f32⟩
  | 25 => ⟨S16384x1, .i1⟩
  | 26 => ⟨S1x1404, .f32⟩
  | 27 => ⟨S16384x1404, .f32⟩
  | 28 => ⟨S16384x1404, .f32⟩
  | 29 => ⟨S_, .f32⟩
  | 30 => ⟨S16384x1404, .f32⟩
  | 31 => ⟨S16384x1404, .i1⟩
  | 32 => ⟨S16384x1404, .f32⟩
  | 33 => ⟨S16384x1404, .f32⟩
  | 34 => ⟨S_, .f32⟩
  | 35 => ⟨S1404, .f32⟩
  | 36 => ⟨S1404, .f32⟩
  | 37 => ⟨S1404, .f32⟩
  | 38 => ⟨S1404, .f32⟩
  | 39 => ⟨S16384x63, .i1⟩
  | 40 => ⟨S16384x63, .i1⟩
  | 41 => ⟨S_, .i1⟩
  | 42 => ⟨S16384, .i1⟩
  | 43 => ⟨S16384, .f32⟩
  | 44 => ⟨S_, .f32⟩
  | 45 => ⟨S_, .f32⟩
  | 46 => ⟨S16384x1, .i1⟩
  | 47 => ⟨S_, .f32⟩
  | 48 => ⟨S16384x63, .f32⟩
  | 49 => ⟨S16384x63, .i1⟩
  | 50 => ⟨S16384x63, .f32⟩
  | 51 => ⟨S_, .f32⟩
  | 52 => ⟨S63, .f32⟩
  | 53 => ⟨S63, .f32⟩
  | 54 => ⟨S63, .f32⟩
  | 55 => ⟨S16384x1, .i1⟩
  | 56 => ⟨S1x63, .f32⟩
  | 57 => ⟨S16384x63, .f32⟩
  | 58 => ⟨S16384x63, .f32⟩
  | 59 => ⟨S_, .f32⟩
  | 60 => ⟨S16384x63, .f32⟩
  | 61 => ⟨S16384x63, .i1⟩
  | 62 => ⟨S16384x63, .f32⟩
  | 63 => ⟨S16384x63, .f32⟩
  | 64 => ⟨S_, .f32⟩
  | 65 => ⟨S63, .f32⟩
  | 66 => ⟨S63, .f32⟩
  | 67 => ⟨S63, .f32⟩
  | 68 => ⟨S63, .f32⟩
  | 69 => ⟨S16384x99, .i1⟩
  | 70 => ⟨S16384x99, .i1⟩
  | 71 => ⟨S_, .i1⟩
  | 72 => ⟨S16384, .i1⟩
  | 73 => ⟨S16384, .f32⟩
  | 74 => ⟨S_, .f32⟩
  | 75 => ⟨S_, .f32⟩
  | 76 => ⟨S16384x1, .i1⟩
  | 77 => ⟨S_, .f32⟩
  | 78 => ⟨S16384x99, .f32⟩
  | 79 => ⟨S16384x99, .i1⟩
  | 80 => ⟨S16384x99, .f32⟩
  | 81 => ⟨S_, .f32⟩
  | 82 => ⟨S99, .f32⟩
  | 83 => ⟨S99, .f32⟩
  | 84 => ⟨S99, .f32⟩
  | 85 => ⟨S16384x1, .i1⟩
  | 86 => ⟨S1x99, .f32⟩
  | 87 => ⟨S16384x99, .f32⟩
  | 88 => ⟨S16384x99, .f32⟩
  | 89 => ⟨S_, .f32⟩
  | 90 => ⟨S16384x99, .f32⟩
  | 91 => ⟨S16384x99, .i1⟩
  | 92 => ⟨S16384x99, .f32⟩
  | 93 => ⟨S16384x99, .f32⟩
  | 94 => ⟨S_, .f32⟩
  | 95 => ⟨S99, .f32⟩
  | 96 => ⟨S99, .f32⟩
  | 97 => ⟨S99, .f32⟩
  | 98 => ⟨S99, .f32⟩
  | 99 => ⟨S16384x63, .i1⟩
  | 100 => ⟨S16384x63, .i1⟩
  | 101 => ⟨S_, .i1⟩
  | 102 => ⟨S16384, .i1⟩
  | 103 => ⟨S16384, .f32⟩
  | 104 => ⟨S_, .f32⟩
  | 105 => ⟨S_, .f32⟩
  | 106 => ⟨S16384x1, .i1⟩
  | 107 => ⟨S_, .f32⟩
  | 108 => ⟨S16384x63, .f32⟩
  | 109 => ⟨S16384x63, .i1⟩
  | 110 => ⟨S16384x63, .f32⟩
  | 111 => ⟨S_, .f32⟩
  | 112 => ⟨S63, .f32⟩
  | 113 => ⟨S63, .f32⟩
  | 114 => ⟨S63, .f32⟩
  | 115 => ⟨S16384x1, .i1⟩
  | 116 => ⟨S1x63, .f32⟩
  | 117 => ⟨S16384x63, .f32⟩
  | 118 => ⟨S16384x63, .f32⟩
  | 119 => ⟨S_, .f32⟩
  | 120 => ⟨S16384x63, .f32⟩
  | 121 => ⟨S16384x63, .i1⟩
  | 122 => ⟨S16384x63, .f32⟩
  | 123 => ⟨S16384x63, .f32⟩
  | 124 => ⟨S_, .f32⟩
  | 125 => ⟨S63, .f32⟩
  | 126 => ⟨S63, .f32⟩
  | 127 => ⟨S63, .f32⟩
  | _ => ⟨S16384x543x3, .f32⟩

abbrev hbmTy0_1 (i : Nat) : BufTy := match i % 128 with
  | 0 => ⟨S63, .f32⟩
  | 1 => ⟨S3258, .f32⟩
  | 2 => ⟨S3258, .f32⟩
  | 3 => ⟨S_, .f32⟩
  | 4 => ⟨S3258, .f32⟩
  | 5 => ⟨S3258, .i1⟩
  | 6 => ⟨S_, .f32⟩
  | 7 => ⟨S3258, .f32⟩
  | 8 => ⟨S3258, .f32⟩
  | _ => ⟨S16384x543x3, .f32⟩

abbrev hbmTy (i : Nat) : BufTy := match i / 128 with
  | 0 => hbmTy0_0 i
  | 1 => hbmTy0_1 i
  | _ => ⟨S16384x543x3, .f32⟩

abbrev bufTy : (tb : Table) → Fin (tcTables nBuf tb) → BufTy
  | .hbm, ⟨i, _⟩ => hbmTy i
  | _, _ => ⟨S16384x543x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_c : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_call0_v0 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_call1_v0 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_c_4 : Ref sig .tc := ⟨.hbm, 41, rfl⟩
abbrev main_v32 : Ref sig .tc := ⟨.hbm, 42, rfl⟩
abbrev main_v33 : Ref sig .tc := ⟨.hbm, 43, rfl⟩
abbrev main_cst_5 : Ref sig .tc := ⟨.hbm, 44, rfl⟩
abbrev main_v34 : Ref sig .tc := ⟨.hbm, 45, rfl⟩
abbrev main_v35 : Ref sig .tc := ⟨.hbm, 46, rfl⟩
abbrev main_cst_6 : Ref sig .tc := ⟨.hbm, 47, rfl⟩
abbrev main_v36 : Ref sig .tc := ⟨.hbm, 48, rfl⟩
abbrev main_call2_v0 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_8 : Ref sig .tc := ⟨.hbm, 59, rfl⟩
abbrev main_v45 : Ref sig .tc := ⟨.hbm, 60, rfl⟩
abbrev main_call3_v0 : Ref sig .tc := ⟨.hbm, 61, rfl⟩
abbrev main_v46 : Ref sig .tc := ⟨.hbm, 62, rfl⟩
abbrev main_v47 : Ref sig .tc := ⟨.hbm, 63, rfl⟩
abbrev main_cst_9 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_c_10 : Ref sig .tc := ⟨.hbm, 71, rfl⟩
abbrev main_v54 : Ref sig .tc := ⟨.hbm, 72, rfl⟩
abbrev main_v55 : Ref sig .tc := ⟨.hbm, 73, rfl⟩
abbrev main_cst_11 : Ref sig .tc := ⟨.hbm, 74, rfl⟩
abbrev main_v56 : Ref sig .tc := ⟨.hbm, 75, rfl⟩
abbrev main_v57 : Ref sig .tc := ⟨.hbm, 76, rfl⟩
abbrev main_cst_12 : Ref sig .tc := ⟨.hbm, 77, rfl⟩
abbrev main_v58 : Ref sig .tc := ⟨.hbm, 78, rfl⟩
abbrev main_call4_v0 : Ref sig .tc := ⟨.hbm, 79, rfl⟩
abbrev main_v59 : Ref sig .tc := ⟨.hbm, 80, rfl⟩
abbrev main_cst_13 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_14 : Ref sig .tc := ⟨.hbm, 89, rfl⟩
abbrev main_v67 : Ref sig .tc := ⟨.hbm, 90, rfl⟩
abbrev main_call5_v0 : Ref sig .tc := ⟨.hbm, 91, rfl⟩
abbrev main_v68 : Ref sig .tc := ⟨.hbm, 92, rfl⟩
abbrev main_v69 : Ref sig .tc := ⟨.hbm, 93, rfl⟩
abbrev main_cst_15 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_c_16 : Ref sig .tc := ⟨.hbm, 101, rfl⟩
abbrev main_v76 : Ref sig .tc := ⟨.hbm, 102, rfl⟩
abbrev main_v77 : Ref sig .tc := ⟨.hbm, 103, rfl⟩
abbrev main_cst_17 : Ref sig .tc := ⟨.hbm, 104, rfl⟩
abbrev main_v78 : Ref sig .tc := ⟨.hbm, 105, rfl⟩
abbrev main_v79 : Ref sig .tc := ⟨.hbm, 106, rfl⟩
abbrev main_cst_18 : Ref sig .tc := ⟨.hbm, 107, rfl⟩
abbrev main_v80 : Ref sig .tc := ⟨.hbm, 108, rfl⟩
abbrev main_call6_v0 : Ref sig .tc := ⟨.hbm, 109, rfl⟩
abbrev main_v81 : Ref sig .tc := ⟨.hbm, 110, rfl⟩
abbrev main_cst_19 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_cst_20 : Ref sig .tc := ⟨.hbm, 119, rfl⟩
abbrev main_v89 : Ref sig .tc := ⟨.hbm, 120, rfl⟩
abbrev main_call7_v0 : Ref sig .tc := ⟨.hbm, 121, rfl⟩
abbrev main_v90 : Ref sig .tc := ⟨.hbm, 122, rfl⟩
abbrev main_v91 : Ref sig .tc := ⟨.hbm, 123, rfl⟩
abbrev main_cst_21 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_cst_22 : Ref sig .tc := ⟨.hbm, 131, rfl⟩
abbrev main_v98 : Ref sig .tc := ⟨.hbm, 132, rfl⟩
abbrev main_v99 : Ref sig .tc := ⟨.hbm, 133, rfl⟩
abbrev main_cst_23 : Ref sig .tc := ⟨.hbm, 134, rfl⟩
abbrev main_v100 : Ref sig .tc := ⟨.hbm, 135, rfl⟩
abbrev main_v101 : Ref sig .tc := ⟨.hbm, 136, rfl⟩

abbrev nD : Nat := 1
abbrev τ : Topo := Topo.v7x

variable {F : FTy → Type} [FloatOps F]
-- ==== Proof.Arith.lean ====
/- The SparseCore kernel's index arithmetic in closed form. The kernel computes with 32-bit words — where a
   tile's run of work units starts, how many units it has, which block of the input a unit reads, which slot of
   the accumulators it adds to — and here each of those is a formula in natural numbers. -/
module

public import proofs.«01_k».proof.Proof.Gen.KernelIdeal
public import Idealize.ShloMosaic.Lib.WordArith.Masks
public import Idealize.ShloMosaic.Lib.Affine

@[expose] public section

namespace Cert.Proof.Arith

open Cert.KernelIdeal Cert.KernelIdeal.Gen
open Idealize.ShloMosaic

/-- The tile's number, 0 … 31: two SparseCores of sixteen tiles, the SparseCore counted fastest. -/
def wid (i : grid0.Coords) : ℕ := 2 * (i 1).val + (i 0).val

/-- The first of the 1206 work units that tile `w` takes. -/
def base (w : ℕ) : ℕ := 1206 * w / 32

/-- How many units tile `w` takes: 37 or 38. -/
def cnt (w : ℕ) : ℕ := 1206 * (w + 1) / 32 - 1206 * w / 32

theorem wid_lt (i : grid0.Coords) : wid i < 32 := by
  have h0 : (i 0).val < 2 := (i 0).isLt
  have h1 : (i 1).val < 16 := (i 1).isLt
  unfold wid; omega

theorem base_add_cnt (w : ℕ) : base w + cnt w = base (w + 1) := by unfold base cnt; omega

theorem cnt_bounds (w : ℕ) : 37 ≤ cnt w ∧ cnt w ≤ 38 := by unfold cnt; omega

theorem base_le (w : ℕ) (h : w ≤ 32) : base w ≤ 1206 := by unfold base; omega

theorem unit_lt (i : grid0.Coords) (t : ℕ) (h : t < cnt (wid i)) : base (wid i) + t < 1206 := by
  have := base_add_cnt (wid i); have := base_le (wid i + 1) (wid_lt i); omega

theorem trips1 : ∀ i : grid0.Coords, (k0_t1_loop i).trips = cnt (wid i) := by decide +kernel

theorem trips2 : k0_t2_loop.trips = 128 := by decide +kernel

theorem trips3 : ∀ i : grid0.Coords, (k0_t3_loop i).trips = 0 := by decide +kernel

/-- Where unit `u`'s block starts in the input: its coordinate, its first landmark, its first frame. -/
def blk (u : ℕ) : Fin 3 → ℕ := ![u / 6 / 67, 8 * (u / 6 % 67), 2048 * (u % 6)]

theorem off1_eq : ∀ (i : grid0.Coords) (r : Fin 4), k0_off1 i (BitVec.ofNat 32 r.val) = blk (base (wid i) + r.val) := by
  decide +kernel

theorem off3_eq : ∀ (i : grid0.Coords) (t : Fin (k0_t1_loop i).trips), k0_off3 i t = blk (base (wid i) + t.val) := by
  decide +kernel

theorem cond1_iff : ∀ (i : grid0.Coords) (t : Fin (k0_t1_loop i).trips), k0_cond1 i t = 1#1 ↔ t.val + 4 < cnt (wid i) := by
  decide +kernel

theorem off15_eq : ∀ (i : grid0.Coords) (t : Fin (k0_t1_loop i).trips), k0_off15 i t = blk (base (wid i) + t.val + 4) := by
  decide +kernel

theorem off13_eq : ∀ (i : grid0.Coords) (t : Fin (k0_t1_loop i).trips) (r : Fin 8),
    k0_off13 i t (BitVec.ofNat 32 (16 * r.val)) = ![((base (wid i) + t.val) / 6 - base (wid i) / 6) * 128 + r.val * 16] := by
  decide +kernel

theorem off2_eq : ∀ (i : grid0.Coords) (t : Fin (k0_t1_loop i).trips), k0_off2 i t = ![t.val % 4, 0, 0] := by decide +kernel

theorem off14_eq : ∀ (i : grid0.Coords) (t : Fin (k0_t1_loop i).trips), k0_off14 i t = ![t.val % 4, 0, 0] := by decide +kernel

theorem off4_eq : ∀ (i : grid0.Coords) (t : Fin (k0_t1_loop i).trips), k0_off4 i t = ![t.val % 4] := by decide +kernel

theorem off16_eq : ∀ (i : grid0.Coords) (t : Fin (k0_t1_loop i).trips), k0_off16 i t = ![t.val % 4] := by decide +kernel

theorem off32_eq : ∀ i : grid0.Coords, k0_off32 i = ![wid i, 0, 0] := by decide +kernel

theorem off33_eq : ∀ i : grid0.Coords, k0_off33 i = ![wid i, 1, 0] := by decide +kernel

/-- The ring slot a trip uses, as the kernel's words compute it. -/
theorem slot_word (t : ℕ) (h : t < 2 ^ 31) : (Scalar.remsi (Scf.iv 0#32 1#32 t) 4#32).toNat = t % 4 := by
  have h0 : Affine.IsInt 0#32 (0) := Affine.ofNat _ (by omega)
  have h1 : Affine.IsInt 1#32 (1) := Affine.ofNat _ (by omega)
  have h8 : Affine.IsInt _ (t : Int) := Affine.iv h0 h1 t (by omega)
  have h4 : Affine.IsInt 4#32 (4) := Affine.ofNat _ (by omega)
  have hr : Affine.IsInt (Scalar.remsi (Scf.iv 0#32 1#32 t) 4#32) ((t : Int) % 4) := Affine.remsi h8 h4 (by omega)
  exact Affine.nat_eq hr _ (by omega)

/-- The first frame an inner trip reads, as the kernel's words compute it. -/
theorem frame_word (n : ℕ) (h : n < 2 ^ 20) : (Scalar.muli (Scf.iv 0#32 1#32 n) 16#32).toNat = 16 * n := by
  have h0 : Affine.IsInt 0#32 (0) := Affine.ofNat _ (by omega)
  have h1 : Affine.IsInt 1#32 (1) := Affine.ofNat _ (by omega)
  have h8 : Affine.IsInt _ (n : Int) := Affine.iv h0 h1 n (by omega)
  have h4 : Affine.IsInt 16#32 (16) := Affine.ofNat _ (by omega)
  have hr : Affine.IsInt (Scalar.muli (Scf.iv 0#32 1#32 n) 16#32) (16 * (n : Int)) := Affine.muli h8 h4 (by omega)
  exact Affine.nat_eq hr _ (by omega)

variable (i : grid0.Coords) (t : Fin (k0_t1_loop i).trips) (n : Fin k0_t2_loop.trips)

theorem t1_lt : t.val < 2 ^ 31 := by
  have h := t.isLt.trans_eq (trips1 i); have := cnt_bounds (wid i); omega

theorem t2_lt : n.val < 2 ^ 20 := by have h := n.isLt.trans_eq trips2; omega

/-- A slot, a landmark row and a frame, from the two words of them. -/
theorem vec_eq (x y : BitVec 32) (l : ℕ) (hx : x.toNat = t.val % 4) (hy : y.toNat = 16 * n.val) :
    (![x.toNat, l, y.toNat] : Fin 3 → ℕ) = ![t.val % 4, l, 16 * n.val] := by rw [hx, hy]

theorem off5_eq : k0_off5 i t n = ![t.val % 4, 0, 16 * n.val] := vec_eq i t n _ _ 0 (slot_word _ (t1_lt i t)) (frame_word _ (t2_lt n))
theorem off6_eq : k0_off6 i t n = ![t.val % 4, 1, 16 * n.val] := vec_eq i t n _ _ 1 (slot_word _ (t1_lt i t)) (frame_word _ (t2_lt n))
theorem off7_eq : k0_off7 i t n = ![t.val % 4, 2, 16 * n.val] := vec_eq i t n _ _ 2 (slot_word _ (t1_lt i t)) (frame_word _ (t2_lt n))
theorem off8_eq : k0_off8 i t n = ![t.val % 4, 3, 16 * n.val] := vec_eq i t n _ _ 3 (slot_word _ (t1_lt i t)) (frame_word _ (t2_lt n))
theorem off9_eq : k0_off9 i t n = ![t.val % 4, 4, 16 * n.val] := vec_eq i t n _ _ 4 (slot_word _ (t1_lt i t)) (frame_word _ (t2_lt n))
theorem off10_eq : k0_off10 i t n = ![t.val % 4, 5, 16 * n.val] := vec_eq i t n _ _ 5 (slot_word _ (t1_lt i t)) (frame_word _ (t2_lt n))
theorem off11_eq : k0_off11 i t n = ![t.val % 4, 6, 16 * n.val] := vec_eq i t n _ _ 6 (slot_word _ (t1_lt i t)) (frame_word _ (t2_lt n))
theorem off12_eq : k0_off12 i t n = ![t.val % 4, 7, 16 * n.val] := vec_eq i t n _ _ 7 (slot_word _ (t1_lt i t)) (frame_word _ (t2_lt n))

end Cert.Proof.Arith
-- ==== Proof.Values.lean ====
/- What the SparseCore tiles compute, as plain functions of the transposed input: a work unit's sums over its frames
   (of the elements, and of their squares), and a tile's two accumulators after any number of its units. -/
module

public import proofs.«01_k».proof.Proof.Arith
public import Idealize.ShloMosaic.Lib.ValueIdxCore

@[expose] public section

noncomputable section

namespace Cert.Proof.Values

open Cert.KernelIdeal Cert.KernelIdeal.Gen
open Idealize.ShloMosaic
open Cert.Proof.Arith

variable {F : FTy → Type} [FloatOps F]

/-- The float zero every sum starts from. -/
def z0 : F .f32 := Scalar.ofBits .f32 0x00000000#32

/-- The transposed input at a coordinate, a landmark and a frame. -/
def at3 (X : FVec F S3x543x16384 .f32) (c l f : ℕ) : F .f32 :=
  X (ValueIdx.ix3 ⟨c % 3, Nat.mod_lt _ (by decide)⟩ ⟨l % 543, Nat.mod_lt _ (by decide)⟩ ⟨f % 16384, Nat.mod_lt _ (by decide)⟩)

/-- What is summed: the element, or its square. -/
def term (q : Bool) (v : F .f32) : F .f32 := bif q then FloatOps.mulf v v else v

/-- Unit `u`'s sum for its landmark `lm` and lane `lane`, over its first `n` vectors. -/
def unitS (q : Bool) (X : FVec F S3x543x16384 .f32) (u lm lane : ℕ) : ℕ → F .f32
  | 0 => z0
  | n + 1 => FloatOps.addf (unitS q X u lm lane n) (term q (at3 X (u / 6 / 67) (8 * (u / 6 % 67) + lm) (2048 * (u % 6) + (16 * n + lane))))

/-- The sixteen lanes of `unitS` as a vector. -/
def unitV (q : Bool) (X : FVec F S3x543x16384 .f32) (u lm n : ℕ) : FVec F S16 .f32 := fun j => unitS q X u lm (j 0).val n

/-- Entry `e` of the accumulator of a tile whose units start at `b`, after `n` of them. -/
def acc (q : Bool) (X : FVec F S3x543x16384 .f32) (b : ℕ) : ℕ → ℕ → F .f32
  | 0, _ => z0
  | n + 1, e => if (b + n) / 6 - b / 6 = e / 128
      then FloatOps.addf (acc q X b n e) (unitS q X (b + n) (e / 16 % 8) (e % 16) 128) else acc q X b n e

def accV (q : Bool) (X : FVec F S3x543x16384 .f32) (b n : ℕ) : FVec F S1024 .f32 := fun j => acc q X b n (j 0).val

/-- A vector added into sixteen entries of an accumulator, from entry `o` on. -/
def bump (f : FVec F S1024 .f32) (o : ℕ) (v : FVec F S16 .f32) : FVec F S1024 .f32 := fun j =>
  if h : o ≤ (j 0).val ∧ (j 0).val < o + 16 then FloatOps.addf (f j) (v (ValueIdx.ix1 ⟨(j 0).val - o, by omega⟩)) else f j

/-- What a unit's copy leaves in a ring slot. -/
def ring (X : FVec F S3x543x16384 .f32) (u : ℕ) : FVec F S4x8x2048 .f32 := fun j =>
  at3 X (u / 6 / 67) (8 * (u / 6 % 67) + (j 1).val) (2048 * (u % 6) + (j 2).val)

/-- What the SparseCore call leaves in its result: row `w`, part 0 the sums and part 1 the sums of squares of tile `w`. -/
def scOut (X : FVec F S3x543x16384 .f32) : FVec F S32x2x1024 .f32 := fun j =>
  acc (decide ((j 1).val = 1)) X (base (j 0).val) (cnt (j 0).val) (j 2).val

variable (q : Bool) (X : FVec F S3x543x16384 .f32) (b n : ℕ)

/-- The eight additions a unit makes are one step of the accumulator. -/
theorem bump_step :
    bump (bump (bump (bump (bump (bump (bump (bump (accV q X b n)
      (((b + n) / 6 - b / 6) * 128 + 0 * 16) (unitV q X (b + n) 0 128))
      (((b + n) / 6 - b / 6) * 128 + 1 * 16) (unitV q X (b + n) 1 128))
      (((b + n) / 6 - b / 6) * 128 + 2 * 16) (unitV q X (b + n) 2 128))
      (((b + n) / 6 - b / 6) * 128 + 3 * 16) (unitV q X (b + n) 3 128))
      (((b + n) / 6 - b / 6) * 128 + 4 * 16) (unitV q X (b + n) 4 128))
      (((b + n) / 6 - b / 6) * 128 + 5 * 16) (unitV q X (b + n) 5 128))
      (((b + n) / 6 - b / 6) * 128 + 6 * 16) (unitV q X (b + n) 6 128))
      (((b + n) / 6 - b / 6) * 128 + 7 * 16) (unitV q X (b + n) 7 128) = accV q X b (n + 1) := by
  generalize hσ : (b + n) / 6 - b / 6 = σ
  funext j
  have step : ∀ (f : FVec F S1024 .f32) (r : ℕ), bump f (σ * 128 + r * 16) (unitV q X (b + n) r 128) j
      = if (j 0).val / 16 = σ * 8 + r then FloatOps.addf (f j) (unitS q X (b + n) r ((j 0).val % 16) 128) else f j := by
    intro f r
    unfold bump unitV
    by_cases h : (j 0).val / 16 = σ * 8 + r
    · rw [if_pos h, dif_pos (by omega)]
      show FloatOps.addf (f j) (unitS q X (b + n) r ((j 0).val - (σ * 128 + r * 16)) 128) = _
      rw [show (j 0).val - (σ * 128 + r * 16) = (j 0).val % 16 by omega]
    · rw [if_neg h, dif_neg (by omega)]
  simp only [step]
  show _ = acc q X b (n + 1) (j 0).val
  rw [acc, hσ]
  by_cases h : σ = (j 0).val / 128
  · rw [if_pos h]
    have hr : (j 0).val / 16 = σ * 8 + (j 0).val / 16 % 8 := by omega
    have h8 : (j 0).val / 16 % 8 < 8 := Nat.mod_lt _ (by decide)
    show _ = FloatOps.addf (accV q X b n j) _
    generalize (j 0).val / 16 % 8 = r at hr h8
    rw [hr]
    interval_cases r <;> simp
  · rw [if_neg h]
    rw [if_neg (by omega), if_neg (by omega), if_neg (by omega), if_neg (by omega), if_neg (by omega), if_neg (by omega),
      if_neg (by omega), if_neg (by omega)]
    rfl

end Cert.Proof.Values

end
-- ==== Proof.Base.lean ====
/- The launch as the certificate sees it: the resource algebra, the tiles' buffers and semaphores, a ring slot and
   what one copy into it does. -/
module

public import proofs.«01_k».proof.Proof.Values
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal.Skeleton

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Arith Cert.Proof.Values

variable {F : FTy → Type}

/-! ## The program and its resource algebra -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, the TensorCore pipeline's rounds, the transfers' counters. -/
abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-! ## A tile's buffers -/

abbrev xLoc (d : Dev nD) : Loc nD τ sig := (SparseCore.T d).loc main_v0
abbrev outLoc (d : Dev nD) : Loc nD τ sig := (SparseCore.T d).loc main_v1

local notation "xV" => (Memref.whole Cert.KernelIdeal.main_v0_scv : Memref Cert.KernelIdeal.sig Kind.scVector Space.hbm Cert.KernelIdeal.S3x543x16384 EltTy.f32)
local notation "oV" => (Memref.whole Cert.KernelIdeal.main_v1_scv : Memref Cert.KernelIdeal.sig Kind.scVector Space.hbm Cert.KernelIdeal.S32x2x1024 EltTy.f32)
local notation "rV" => (Memref.whole Cert.KernelIdeal.cc0_scratch0 : Memref Cert.KernelIdeal.sig Kind.scVector Space.vmem Cert.KernelIdeal.S4x8x2048 EltTy.f32)
local notation "sV" => (Memref.whole Cert.KernelIdeal.cc0_scratch1 : Memref Cert.KernelIdeal.sig Kind.scVector Space.vmem Cert.KernelIdeal.S1024 EltTy.f32)
local notation "qV" => (Memref.whole Cert.KernelIdeal.cc0_scratch2 : Memref Cert.KernelIdeal.sig Kind.scVector Space.vmem Cert.KernelIdeal.S1024 EltTy.f32)

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- Ring slot `p`: the elements whose first coordinate is `p`. -/
def slotSet (p : ℕ) : Finset S4x8x2048.Idx := Finset.univ.filter fun j => (j 0).val = p

/-- The ring slot at an offset, and the input block at one, as the kernel addresses them. -/
abbrev slotM (o : Fin 3 → ℕ) (h : ∀ a, o a + S1x8x2048.size a ≤ S4x8x2048.size a) : Memref sig .scVector .vmem S8x2048 .f32 :=
  ((rV).slice (Rect.unit (s := S4x8x2048) o S1x8x2048.size h) (fun _ => rfl)).squeeze S8x2048 squeezes_S1x8x2048_S8x2048
abbrev blkM (o : Fin 3 → ℕ) (h : ∀ a, o a + S1x8x2048.size a ≤ S3x543x16384.size a) : Memref sig .scVector .hbm S8x2048 .f32 :=
  ((xV).slice (Rect.unit (s := S3x543x16384) o S1x8x2048.size h) (fun _ => rfl)).squeeze S8x2048 squeezes_S1x8x2048_S8x2048
abbrev semM (o : Fin 1 → ℕ) (h : ∀ a, o a + S1.size a ≤ S4.size a) : DmaSem sig :=
  ((cc0_scratch3.slice (Rect.unit (s := S4) o S1.size h)).squeeze S_ squeezes_S1_S_).sem

/-- The semaphore of ring slot `p`. -/
def semP (p : ℕ) : DmaSem sig := ⟨p % 4, lt_of_lt_of_le (Nat.mod_lt _ (by decide)) (by decide)⟩

theorem semM_eq (p : ℕ) (hp : p < 4) (o : Fin 1 → ℕ) (h : ∀ a, o a + S1.size a ≤ S4.size a) (ho : o = ![p]) : semM o h = semP p := by
  subst ho
  have key : ∀ (r : Fin 4) (h : ∀ a, (![r.val] : Fin 1 → ℕ) a + S1.size a ≤ S4.size a), semM ![r.val] h = semP r.val := by decide +kernel
  exact key ⟨p, hp⟩ h

theorem set_slotM (p : ℕ) (o : Fin 3 → ℕ) (h) (ho : o = ![p, 0, 0]) : (slotM o h).view.set = slotSet p := by
  show (((rV).view.slice (Rect.unit (s := S4x8x2048) o S1x8x2048.size h)).reshape S8x2048 squeezes_S1x8x2048_S8x2048.numel_eq).set = _
  rw [View.set_reshape]
  show ((View.whole (cc0_scratch0 : Ref sig .scVector)).slice (Rect.unit (s := S4x8x2048) o S1x8x2048.size h)).set = _
  rw [View.set_slice_whole]
  subst ho
  ext j
  rw [Rect.mem_set_unit]
  unfold slotSet
  rw [Finset.mem_filter]
  have h1 : (j 1).val < 8 := (j 1).isLt
  have h2 : (j 2).val < 2048 := (j 2).isLt
  constructor
  · intro hj
    have h0 : p ≤ (j 0).val ∧ (j 0).val < p + 1 := hj 0
    exact ⟨Finset.mem_univ _, by omega⟩
  · rintro ⟨-, hj⟩ a
    match a with
    | 0 => show p ≤ (j 0).val ∧ (j 0).val < p + 1; omega
    | 1 => show 0 ≤ (j 1).val ∧ (j 1).val < 0 + 8; omega
    | 2 => show 0 ≤ (j 2).val ∧ (j 2).val < 0 + 2048; omega

variable [FloatOps F]

/-- What a unit's copy writes into its ring slot, on the slot's elements: the block of the input. -/
theorem write_ring (X : FVec F S3x543x16384 .f32) (p u : ℕ) (hu : u < 1206) (o : Fin 3 → ℕ) (h) (ho : o = ![p, 0, 0])
    (os : Fin 3 → ℕ) (hs) (hos : os = blk u) (f : FVec F S4x8x2048 .f32) :
    ∀ j ∈ slotSet p, (slotM o h).view.write (Elt F) f ((blkM os hs).view.read (Elt F) X) Finset.univ j = ring X u j := by
  intro j hj
  rw [← set_slotM p o h ho] at hj
  obtain ⟨y, -, rfl⟩ := Finset.mem_map.mp hj
  rw [View.write_emb_of_mem _ _ (Finset.mem_univ y), View.read_apply]
  subst ho hos
  obtain ⟨z, hz⟩ : ∃ z : S1x8x2048.Idx, z = Shape.reshapeEquiv squeezes_S1x8x2048_S8x2048.numel_eq y := ⟨_, rfl⟩
  have e1 : ((slotM ![p, 0, 0] h).view.emb y 1).val = 0 + 1 * (z 1).val := by subst hz; rfl
  have e2 : ((slotM ![p, 0, 0] h).view.emb y 2).val = 0 + 1 * (z 2).val := by subst hz; rfl
  have b0 : ((blkM (blk u) hs).view.emb y 0).val = u / 6 / 67 + 1 * (z 0).val := by subst hz; rfl
  have b1 : ((blkM (blk u) hs).view.emb y 1).val = 8 * (u / 6 % 67) + 1 * (z 1).val := by subst hz; rfl
  have b2 : ((blkM (blk u) hs).view.emb y 2).val = 2048 * (u % 6) + 1 * (z 2).val := by subst hz; rfl
  have z0 : (z 0).val < 1 := (z 0).isLt
  have z1 : (z 1).val < 8 := (z 1).isLt
  have z2 : (z 2).val < 2048 := (z 2).isLt
  show X ((blkM (blk u) hs).view.emb y) = X (ValueIdx.ix3 _ _ _)
  refine congrArg X (funext fun a => Fin.ext ?_)
  match a with
  | 0 => rw [b0]; show _ = u / 6 / 67 % 3; omega
  | 1 => rw [b1]; show _ = (8 * (u / 6 % 67) + ((slotM _ h).view.emb y 1).val) % 543; rw [e1]; omega
  | 2 => rw [b2]; show _ = (2048 * (u % 6) + ((slotM _ h).view.emb y 2).val) % 16384; rw [e2]; omega

end Cert.Proof.Sc

end
-- ==== Proof.Mem.lean ====
/- The tile's memory operations on its ring and accumulators: starting a unit's copy, waiting for it, reading a
   vector of it, and adding a vector into an accumulator. -/
module

public import proofs.«01_k».proof.Proof.Base
public import Idealize.ShloMosaic.Lib.Pipeline.Value

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Arith Cert.Proof.Values

variable {F : FTy → Type} [FloatOps F]

local notation "𝕄" => MT nD τ sig (HIx 1) (Elt F) ℕ UU ℕ

local notation "rV" => (Memref.whole Cert.KernelIdeal.cc0_scratch0 : Memref Cert.KernelIdeal.sig Kind.scVector Space.vmem Cert.KernelIdeal.S4x8x2048 EltTy.f32)
local notation "sV" => (Memref.whole Cert.KernelIdeal.cc0_scratch1 : Memref Cert.KernelIdeal.sig Kind.scVector Space.vmem Cert.KernelIdeal.S1024 EltTy.f32)
local notation "qV" => (Memref.whole Cert.KernelIdeal.cc0_scratch2 : Memref Cert.KernelIdeal.sig Kind.scVector Space.vmem Cert.KernelIdeal.S1024 EltTy.f32)

variable (d : Dev nD) (L : grid0.Coords) (X : FVec F S3x543x16384 .f32)

abbrev ringLoc : Loc nD τ sig := (thr d L).loc cc0_scratch0
abbrev sLoc : Loc nD τ sig := (thr d L).loc cc0_scratch1
abbrev qLoc : Loc nD τ sig := (thr d L).loc cc0_scratch2

/-- The credit of a copy into a ring slot. -/
abbrev ringN : ℕ := (slotM ![0, 0, 0] inb_S4x8x2048_S1x8x2048_0_0_0).view.dmaCredit

/-- Unit `u`'s copy into ring slot `p`, in flight: it will deliver the slot at the unit's block, and the part of the
    input's share `qx` it reads; the rest of that share is kept meanwhile. -/
def Fly (p u : ℕ) (qx : PosShare TreeShare) : sProp 𝕄 :=
  iprop(∃ S : Finset S3x543x16384.Idx,
    Transfers.Flight (countersEmb (Val := Elt F) (Ix := HIx 1) (Name := ℕ) (U := UU) (Lvl := ℕ)) (thr d L) (.dma (semP p)) (default : HIx 1) ringN
      iprop((ringLoc d L ↦[slotSet p]{fullShare} ring X u) ∗ (xLoc d ↦[S]{qx} X))
    ∗ (xLoc d ↦[Finset.univ \ S]{qx} X))

theorem wp_start {p u : ℕ} (hp : p < 4) (hu : u < 1206) {o : Fin 3 → ℕ} {h} (ho : o = ![p, 0, 0])
    {os : Fin 3 → ℕ} {hs} (hos : os = blk u) {sm : DmaSem sig} (hsm : sm = semP p) {qx : PosShare TreeShare}
    {f : FVec F S4x8x2048 .f32} {hsrc hdst hty} {α : Type}
    {k : PUnit → Prog (TpuEff nD τ sig (Elt F) Λ₀ (.scVector ((L 0).castLE hcore0) ((L 1).castLE hsub0))) α} {Q : α → sProp 𝕄} :
    iprop((xLoc d ↦{qx} X) ∗ (ringLoc d L ↦[slotSet p]{fullShare} f) ∗ semVal (thr d L, SemLoc.dma (semP p)) 0)
      ⊢ iprop((Fly d L X p u qx -∗ wp frame (wpE (defs₀ (F := F)) 𝒱₀ (thr d L) none) Set.univ (k ⟨⟩) Q)
          -∗ wp frame (wpE (defs₀ (F := F)) 𝒱₀ (thr d L) none) Set.univ
              (.op (.enqueueDma (blkM os hs) (.here (slotM o h)) (.dma sm) hsrc hdst hty) k) Q) := by
  subst hsm
  iintro ⟨Hx, Hr, Hv⟩ Hk
  ihave Hxs := (pointsTo_split_subset (q := qx) (f := X) (S := Finset.univ) (Finset.subset_univ (blkM os hs).view.set)).1 $$ Hx
  icases Hxs with ⟨Hxs, Hxr⟩
  iapply (Transfers.wp_dmaLocal (countersEmb (Val := Elt F) (Ix := HIx 1) (Name := ℕ) (U := UU) (Lvl := ℕ)) 𝒱₀ (thr d L) none
    (src := blkM os hs) (dst := slotM o h) (sm := .dma (semP p)) (Sd := slotSet p) (fd := f) (fs := X) (default : HIx 1) ringN rfl
    (by decide) (by rw [set_slotM p o h ho])) $$ [Hxs Hr Hv]
  · isplitl [Hxs]; · iexact Hxs
    isplitl [Hr]; · iexact Hr
    iexact Hv
  iintro Hfl
  iapply Hk
  unfold Fly
  iexists (blkM os hs).view.set
  isplitl [Hfl]
  · iapply (Transfers.Flight_mono (EC := countersEmb (Val := Elt F) (Ix := HIx 1) (Name := ℕ) (U := UU) (Lvl := ℕ)) (c := thr d L) (sep_mono_left (Entails.of_eq (pointsTo_congr (write_ring X p u hu o h ho os hs hos f)))))
    iexact Hfl
  · iexact Hxr

theorem wp_land {p u : ℕ} (hp : p < 4) {sm : DmaSem sig} (hsm : sm = semP p) {o : Fin 3 → ℕ} {h}
    {os : Fin 3 → ℕ} {hs} {qx : PosShare TreeShare} {hsrc hdst}
    {O : CellTallies nD τ sig (HIx 1)} {W : Waits sig (HIx 1)} {α : Type}
    {k : PUnit → Prog (TpuEff nD τ sig (Elt F) Λ₀ (.scVector ((L 0).castLE hcore0) ((L 1).castLE hsub0))) α} {Q : α → sProp 𝕄} :
    iprop(Fly d L X p u qx ∗ owes (thr d L) O W ∗ Transfers.MayWaits (thr d L) (default : HIx 1) O)
      ⊢ iprop((iprop((xLoc d ↦{qx} X) ∗ (ringLoc d L ↦[slotSet p]{fullShare} ring X u) ∗ semVal (thr d L, SemLoc.dma (semP p)) 0
              ∗ owes (thr d L) O (insert (SemLoc.dma (semP p), (default : HIx 1)) W))
            -∗ wp frame (wpE (defs₀ (F := F)) 𝒱₀ (thr d L) none) Set.univ (k ⟨⟩) Q)
          -∗ wp frame (wpE (defs₀ (F := F)) 𝒱₀ (thr d L) none) Set.univ
              (.op (.waitDma2 sm (blkM os hs) (slotM o h) hsrc hdst) k) Q) := by
  subst hsm
  unfold Fly
  iintro ⟨⟨%S, Hfl, Hxr⟩, HO, Hmw⟩ Hk
  iapply (Transfers.wp_waitLocalO countersEmb 𝒱₀ (thr d L) none (dstw := slotM o h) (default : HIx 1) (rfl : (slotM o h).view.dmaCredit = ringN)) $$ [Hfl HO Hmw]
  · isplitl [Hfl]; · iexact Hfl
    isplitl [HO]; · iexact HO
    iapply (Transfers.MayWaits.elim (SemLoc.dma (semP p))); iexact Hmw
  iintro ⟨⟨Hr, Hxs⟩, Hv, HO⟩
  iapply Hk
  ihave Hx := (pointsTo_split_subset (ℓ := xLoc d) (q := qx) (f := X) (S := Finset.univ) (Finset.subset_univ S)).2 $$ [Hxs Hxr]
  · isplitl [Hxs] <;> iassumption
  isplitl [Hx]; · iexact Hx
  isplitl [Hr]; · iexact Hr
  isplitl [Hv]; · iexact Hv
  iexact HO

/-- What one vector load of unit `u`'s slot reads: landmark row `lm`, sixteen frames from `16 n` on. -/
def loaded (u lm n : ℕ) : Vec F S1x1x16 .f32 := fun z =>
  at3 X (u / 6 / 67) (8 * (u / 6 % 67) + lm) (2048 * (u % 6) + (16 * n + (z 2).val))

theorem readAt_ring {p u lm n : ℕ} {o : Fin 3 → ℕ} {h : ∀ a, o a + S1x1x16.size a ≤ S4x8x2048.size a} (ho : o = ![p, lm, 16 * n]) :
    (rV).view.readAt (Elt F) (Rect.unit (s := S4x8x2048) o S1x1x16.size h).toLoadRect (ring X u) = loaded X u lm n := by
  subst ho
  funext z
  have z1 : (z 1).val < 1 := (z 1).isLt
  show at3 X _ (8 * (u / 6 % 67) + (lm + 1 * (z 1).val)) (2048 * (u % 6) + (16 * n + 1 * (z 2).val)) = _
  unfold loaded
  rw [show lm + 1 * (z 1).val = lm by omega, show 16 * n + 1 * (z 2).val = 16 * n + (z 2).val by omega]

/-- The loaded vector, its unit axes dropped. -/
theorem loaded_apply (u lm n : ℕ) (hc : S1x1x16.ShapeCasts S16) (j : S16.Idx) :
    shapeCast S16 (loaded X u lm n) hc j = at3 X (u / 6 / 67) (8 * (u / 6 % 67) + lm) (2048 * (u % 6) + (16 * n + (j 0).val)) := by
  refine (shapeCast_apply _ hc j (ValueIdx.ix3 (n0 := 1) (n1 := 1) (n2 := 16) 0 0 (j 0)) ?_).trans rfl
  rw [Shape.rowMajor_val_three, Shape.rowMajor_val_one]
  show (0 * 1 + 0) * 16 + (j 0).val = (j 0).val
  omega

theorem sub_slot {p lm e : ℕ} {o : Fin 3 → ℕ} {h : ∀ a, o a + S1x1x16.size a ≤ S4x8x2048.size a} (ho : o = ![p, lm, e]) :
    (rV).view.setOn (Rect.unit (s := S4x8x2048) o S1x1x16.size h).toLoadRect.set ⊆ slotSet p := by
  intro j hj
  obtain ⟨y, hy, rfl⟩ := Finset.mem_map.mp hj
  have hm : y ∈ (Rect.unit (s := S4x8x2048) o S1x1x16.size h).set := hy
  rw [Rect.mem_set_unit] at hm
  subst ho
  have h0 : p ≤ (y 0).val ∧ (y 0).val < p + 1 := hm 0
  exact Finset.mem_filter.mpr ⟨Finset.mem_univ _, show (y 0).val = p by omega⟩

theorem wp_ld {p u lm n : ℕ} {o : Fin 3 → ℕ} {h : ∀ a, o a + S1x1x16.size a ≤ S4x8x2048.size a} (ho : o = ![p, lm, 16 * n]) {hl} {α : Type}
    {k : (S1x1x16.Idx → Elt F .f32) → Prog (TpuEff nD τ sig (Elt F) Λ₀ (.scVector ((L 0).castLE hcore0) ((L 1).castLE hsub0))) α} {Q : α → sProp 𝕄} :
    (ringLoc d L ↦[slotSet p]{fullShare} ring X u)
      ⊢ iprop(((ringLoc d L ↦[slotSet p]{fullShare} ring X u) -∗ wp frame (wpE (defs₀ (F := F)) 𝒱₀ (thr d L) none) Set.univ (k (loaded X u lm n)) Q)
          -∗ wp frame (wpE (defs₀ (F := F)) 𝒱₀ (thr d L) none) Set.univ
              (.op (.load rV (Rect.unit (s := S4x8x2048) o S1x1x16.size h).toLoadRect hl) k) Q) := by
  have hS := sub_slot (h := h) ho
  have e := readAt_ring X (u := u) (h := h) ho
  iintro Hr Hk
  iapply (wp_load (defs := defs₀ (F := F)) 𝒱₀ (thr d L) none Set.univ (m := rV) (S := slotSet p) (f := ring X u) hS) $$ Hr
  iintro Hr
  rw [e]
  iapply Hk
  iexact Hr

/-- A store of an accumulator's sixteen entries plus a vector is that vector added in. -/
theorem write_bump_s (f : FVec F S1024 .f32) (v : FVec F S16 .f32) {o : Fin 1 → ℕ} (h : ∀ a, o a + S16.size a ≤ S1024.size a) (e : ℕ) (ho : o = ![e])
    (w : FVec F S16 .f32) (hw : w = addf ((sV).view.readAt (Elt F) (Rect.unit (s := S1024) o S16.size h).toLoadRect f) v) :
    ((sV).access (Rect.unit (s := S1024) o S16.size h)).write (Elt F) f w Finset.univ = bump f e v := by
  subst ho hw
  funext j
  by_cases hj : e ≤ (j 0).val ∧ (j 0).val < e + 16
  · have ej : j = ((sV).access (Rect.unit (s := S1024) ![e] S16.size h)).emb (ValueIdx.ix1 ⟨(j 0).val - e, by omega⟩) := by
      funext a
      match a with
      | 0 => exact Fin.ext (show (j 0).val = e + 1 * ((j 0).val - e) by omega)
    unfold bump
    rw [dif_pos hj]
    conv_lhs => rw [ej]
    rw [View.write_emb_of_mem _ _ (Finset.mem_univ _)]
    show FloatOps.addf (f _) _ = FloatOps.addf (f j) _
    congr 2
    exact ej.symm
  · unfold bump
    rw [dif_neg hj]
    refine View.write_of_not_mem _ _ _ ?_
    intro hm
    obtain ⟨y, -, rfl⟩ := Finset.mem_map.mp hm
    have hy : (y 0).val < 16 := (y 0).isLt
    exact hj (show e ≤ e + 1 * (y 0).val ∧ e + 1 * (y 0).val < e + 16 by omega)

end Cert.Proof.Sc

end
-- ==== Proof.Acc.lean ====
/- The two accumulators of a tile: loads of sixteen entries, stores over them, and the addition of a vector. -/
module

public import proofs.«01_k».proof.Proof.Mem

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Arith Cert.Proof.Values

variable {F : FTy → Type} [FloatOps F]

local notation "𝕄" => MT nD τ sig (HIx 1) (Elt F) ℕ UU ℕ
local notation "xV" => (Memref.whole Cert.KernelIdeal.main_v0_scv : Memref Cert.KernelIdeal.sig Kind.scVector Space.hbm Cert.KernelIdeal.S3x543x16384 EltTy.f32)
local notation "oV" => (Memref.whole Cert.KernelIdeal.main_v1_scv : Memref Cert.KernelIdeal.sig Kind.scVector Space.hbm Cert.KernelIdeal.S32x2x1024 EltTy.f32)
local notation "rV" => (Memref.whole Cert.KernelIdeal.cc0_scratch0 : Memref Cert.KernelIdeal.sig Kind.scVector Space.vmem Cert.KernelIdeal.S4x8x2048 EltTy.f32)
local notation "sV" => (Memref.whole Cert.KernelIdeal.cc0_scratch1 : Memref Cert.KernelIdeal.sig Kind.scVector Space.vmem Cert.KernelIdeal.S1024 EltTy.f32)
local notation "qV" => (Memref.whole Cert.KernelIdeal.cc0_scratch2 : Memref Cert.KernelIdeal.sig Kind.scVector Space.vmem Cert.KernelIdeal.S1024 EltTy.f32)

/-- The sixteen entries from `o` on. -/
def win (f : FVec F S1024 .f32) (o : Fin 1 → ℕ) (h : ∀ a, o a + S16.size a ≤ S1024.size a) : FVec F S16 .f32 :=
  (sV).view.readAt (Elt F) (Rect.unit (s := S1024) o S16.size h).toLoadRect f

/-- `w` written over the sixteen entries from `o` on. -/
def put (f : FVec F S1024 .f32) (o : Fin 1 → ℕ) (h : ∀ a, o a + S16.size a ≤ S1024.size a) (w : FVec F S16 .f32) : FVec F S1024 .f32 :=
  ((sV).access (Rect.unit (s := S1024) o S16.size h)).write (Elt F) f w Finset.univ

theorem put_bump (f : FVec F S1024 .f32) (v : FVec F S16 .f32) {o : Fin 1 → ℕ} (h : ∀ a, o a + S16.size a ≤ S1024.size a)
    (w : FVec F S16 .f32) (hw : w = addf (win f o h) v) : put f o h w = bump f (o 0) v :=
  write_bump_s f v h (o 0) (by funext a; match a with | 0 => rfl) w hw

/-- Away from the sixteen entries nothing changes; on them `w` stands. -/
theorem put_apply (f : FVec F S1024 .f32) {o : Fin 1 → ℕ} (h : ∀ a, o a + S16.size a ≤ S1024.size a) (w : FVec F S16 .f32) (j : S1024.Idx) :
    put f o h w j = if hj : o 0 ≤ (j 0).val ∧ (j 0).val < o 0 + 16 then w (ValueIdx.ix1 ⟨(j 0).val - o 0, by omega⟩) else f j := by
  unfold put
  split
  · rename_i hj
    have ej : j = ((sV).access (Rect.unit (s := S1024) o S16.size h)).emb (ValueIdx.ix1 ⟨(j 0).val - o 0, by omega⟩) := by
      funext a
      match a with
      | 0 => exact Fin.ext (show (j 0).val = o 0 + 1 * ((j 0).val - o 0) by omega)
    conv_lhs => rw [ej]
    rw [View.write_emb_of_mem _ _ (Finset.mem_univ _)]
    rfl
  · rename_i hj
    refine View.write_of_not_mem _ _ _ ?_
    intro hm
    obtain ⟨y, -, rfl⟩ := Finset.mem_map.mp hm
    have hy : (y 0).val < 16 := (y 0).isLt
    exact hj (show o 0 ≤ o 0 + 1 * (y 0).val ∧ o 0 + 1 * (y 0).val < o 0 + 16 by omega)

variable (d : Dev nD) (L : grid0.Coords) (X : FVec F S3x543x16384 .f32)

/-- The accumulator of sums, held whole at contents `f`. -/
def SA (f : FVec F S1024 .f32) : sProp 𝕄 := sLoc d L ↦{fullShare} f

/-- A load of sixteen entries of it reads them. -/
theorem wp_ldS {f : FVec F S1024 .f32} {o : Fin 1 → ℕ} {h : ∀ a, o a + S16.size a ≤ S1024.size a} {hl} {α : Type}
    {k : (S16.Idx → Elt F .f32) → Prog (TpuEff nD τ sig (Elt F) Λ₀ (.scVector ((L 0).castLE hcore0) ((L 1).castLE hsub0))) α} {Q : α → sProp 𝕄} :
    SA d L f
      ⊢ iprop((SA d L f -∗ wp frame (wpE (defs₀ (F := F)) 𝒱₀ (thr d L) none) Set.univ (k (win f o h)) Q)
          -∗ wp frame (wpE (defs₀ (F := F)) 𝒱₀ (thr d L) none) Set.univ
              (.op (.load sV (Rect.unit (s := S1024) o S16.size h).toLoadRect hl) k) Q) :=
  wp_load (defs := defs₀ (F := F)) 𝒱₀ (thr d L) none Set.univ (m := sV) (S := Finset.univ) (f := f) (Finset.subset_univ _)

/-- A store of `w` over sixteen entries of it. -/
theorem wp_putS {f : FVec F S1024 .f32} {o : Fin 1 → ℕ} {h : ∀ a, o a + S16.size a ≤ S1024.size a} {w : FVec F S16 .f32} {hx hm} {α : Type}
    {k : PUnit → Prog (TpuEff nD τ sig (Elt F) Λ₀ (.scVector ((L 0).castLE hcore0) ((L 1).castLE hsub0))) α} {Q : α → sProp 𝕄} :
    SA d L f
      ⊢ iprop((SA d L (put f o h w) -∗ wp frame (wpE (defs₀ (F := F)) 𝒱₀ (thr d L) none) Set.univ (k ⟨⟩) Q)
          -∗ wp frame (wpE (defs₀ (F := F)) 𝒱₀ (thr d L) none) Set.univ
              (.op (.store sV (Rect.unit (s := S1024) o S16.size h) w Finset.univ hx hm) k) Q) := by
  unfold SA put
  iintro Hr Hk
  iapply (wp_store (defs := defs₀ (F := F)) 𝒱₀ (thr d L) none Set.univ (m := sV) (r := Rect.unit (s := S1024) o S16.size h) (w := w) (Mk := Finset.univ) (hx := hx) (hm := hm) (k := k) (Q := Q) (S := (Finset.univ : Finset S1024.Idx)) (f := f) (Finset.subset_univ _)) $$ Hr
  iintro Hr
  iapply Hk
  iexact Hr

/-- A store of what a load read plus `v` adds `v` in. -/
theorem wp_addS {f : FVec F S1024 .f32} {o : Fin 1 → ℕ} {h : ∀ a, o a + S16.size a ≤ S1024.size a} {v w : FVec F S16 .f32} {hx hm} {α : Type}
    {k : PUnit → Prog (TpuEff nD τ sig (Elt F) Λ₀ (.scVector ((L 0).castLE hcore0) ((L 1).castLE hsub0))) α} {Q : α → sProp 𝕄}
    (hw : w = shapeCast S16 (addf (shapeCast S16 (win f o h) shapeCasts_S16_S16) v) shapeCasts_S16_S16) :
    SA d L f
      ⊢ iprop((SA d L (bump f (o 0) v) -∗ wp frame (wpE (defs₀ (F := F)) 𝒱₀ (thr d L) none) Set.univ (k ⟨⟩) Q)
          -∗ wp frame (wpE (defs₀ (F := F)) 𝒱₀ (thr d L) none) Set.univ
              (.op (.store sV (Rect.unit (s := S1024) o S16.size h) w Finset.univ hx hm) k) Q) := by
  rw [← put_bump f v h w (by rw [hw, shapeCast_self, shapeCast_self])]
  exact wp_putS d L

/-- The accumulator of sums of squares, held whole at contents `f`. -/
def QA (f : FVec F S1024 .f32) : sProp 𝕄 := qLoc d L ↦{fullShare} f

/-- A load of sixteen entries of it reads them. -/
theorem wp_ldQ {f : FVec F S1024 .f32} {o : Fin 1 → ℕ} {h : ∀ a, o a + S16.size a ≤ S1024.size a} {hl} {α : Type}
    {k : (S16.Idx → Elt F .f32) → Prog (TpuEff nD τ sig (Elt F) Λ₀ (.scVector ((L 0).castLE hcore0) ((L 1).castLE hsub0))) α} {Q : α → sProp 𝕄} :
    QA d L f
      ⊢ iprop((QA d L f -∗ wp frame (wpE (defs₀ (F := F)) 𝒱₀ (thr d L) none) Set.univ (k (win f o h)) Q)
          -∗ wp frame (wpE (defs₀ (F := F)) 𝒱₀ (thr d L) none) Set.univ
              (.op (.load qV (Rect.unit (s := S1024) o S16.size h).toLoadRect hl) k) Q) :=
  wp_load (defs := defs₀ (F := F)) 𝒱₀ (thr d L) none Set.univ (m := qV) (S := Finset.univ) (f := f) (Finset.subset_univ _)

/-- A store of `w` over sixteen entries of it. -/
theorem wp_putQ {f : FVec F S1024 .f32} {o : Fin 1 → ℕ} {h : ∀ a, o a + S16.size a ≤ S1024.size a} {w : FVec F S16 .f32} {hx hm} {α : Type}
    {k : PUnit → Prog (TpuEff nD τ sig (Elt F) Λ₀ (.scVector ((L 0).castLE hcore0) ((L 1).castLE hsub0))) α} {Q : α → sProp 𝕄} :
    QA d L f
      ⊢ iprop((QA d L (put f o h w) -∗ wp frame (wpE (defs₀ (F := F)) 𝒱₀ (thr d L) none) Set.univ (k ⟨⟩) Q)
          -∗ wp frame (wpE (defs₀ (F := F)) 𝒱₀ (thr d L) none) Set.univ
              (.op (.store qV (Rect.unit (s := S1024) o S16.size h) w Finset.univ hx hm) k) Q) := by
  unfold QA put
  iintro Hr Hk
  iapply (wp_store (defs := defs₀ (F := F)) 𝒱₀ (thr d L) none Set.univ (m := qV) (r := Rect.unit (s := S1024) o S16.size h) (w := w) (Mk := Finset.univ) (hx := hx) (hm := hm) (k := k) (Q := Q) (S := (Finset.univ : Finset S1024.Idx)) (f := f) (Finset.subset_univ _)) $$ Hr
  iintro Hr
  iapply Hk
  iexact Hr

/-- A store of what a load read plus `v` adds `v` in. -/
theorem wp_addQ {f : FVec F S1024 .f32} {o : Fin 1 → ℕ} {h : ∀ a, o a + S16.size a ≤ S1024.size a} {v w : FVec F S16 .f32} {hx hm} {α : Type}
    {k : PUnit → Prog (TpuEff nD τ sig (Elt F) Λ₀ (.scVector ((L 0).castLE hcore0) ((L 1).castLE hsub0))) α} {Q : α → sProp 𝕄}
    (hw : w = shapeCast S16 (addf (shapeCast S16 (win f o h) shapeCasts_S16_S16) v) shapeCasts_S16_S16) :
    QA d L f
      ⊢ iprop((QA d L (bump f (o 0) v) -∗ wp frame (wpE (defs₀ (F := F)) 𝒱₀ (thr d L) none) Set.univ (k ⟨⟩) Q)
          -∗ wp frame (wpE (defs₀ (F := F)) 𝒱₀ (thr d L) none) Set.univ
              (.op (.store qV (Rect.unit (s := S1024) o S16.size h) w Finset.univ hx hm) k) Q) := by
  rw [← put_bump f v h w (by rw [hw, shapeCast_self, shapeCast_self])]
  exact wp_putQ d L

end Cert.Proof.Sc

end
-- ==== Proof.Inner.lean ====
/- The inner loop: one unit's 128 vectors, eight landmarks at a time, summed with their squares. -/
module

public import proofs.«01_k».proof.Proof.Mem

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Arith Cert.Proof.Values

variable {F : FTy → Type} [FloatOps F]

local notation "𝕄" => MT nD τ sig (HIx 1) (Elt F) ℕ UU ℕ
local notation "xV" => (Memref.whole Cert.KernelIdeal.main_v0_scv : Memref Cert.KernelIdeal.sig Kind.scVector Space.hbm Cert.KernelIdeal.S3x543x16384 EltTy.f32)
local notation "oV" => (Memref.whole Cert.KernelIdeal.main_v1_scv : Memref Cert.KernelIdeal.sig Kind.scVector Space.hbm Cert.KernelIdeal.S32x2x1024 EltTy.f32)
local notation "rV" => (Memref.whole Cert.KernelIdeal.cc0_scratch0 : Memref Cert.KernelIdeal.sig Kind.scVector Space.vmem Cert.KernelIdeal.S4x8x2048 EltTy.f32)
local notation "sV" => (Memref.whole Cert.KernelIdeal.cc0_scratch1 : Memref Cert.KernelIdeal.sig Kind.scVector Space.vmem Cert.KernelIdeal.S1024 EltTy.f32)
local notation "qV" => (Memref.whole Cert.KernelIdeal.cc0_scratch2 : Memref Cert.KernelIdeal.sig Kind.scVector Space.vmem Cert.KernelIdeal.S1024 EltTy.f32)

variable (d : Dev nD) (L : grid0.Coords) (X : FVec F S3x543x16384 .f32)

/-- The sixteen vectors the inner loop carries after `n` trips: eight sums, eight sums of squares. -/
abbrev vecs (u n : ℕ) : FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 :=
  (unitV false X u 0 n, unitV false X u 1 n, unitV false X u 2 n, unitV false X u 3 n, unitV false X u 4 n, unitV false X u 5 n,
    unitV false X u 6 n, unitV false X u 7 n, unitV true X u 0 n, unitV true X u 1 n, unitV true X u 2 n, unitV true X u 3 n,
    unitV true X u 4 n, unitV true X u 5 n, unitV true X u 6 n, unitV true X u 7 n)

/-- Adding a loaded vector, or its square, to a running sum is one step of it. -/
theorem add_loaded (u lm n : ℕ) (hc : S1x1x16.ShapeCasts S16) :
    addf (unitV false X u lm n) (shapeCast S16 (loaded X u lm n) hc) = unitV false X u lm (n + 1) := by
  funext j
  show FloatOps.addf (unitS false X u lm (j 0).val n) _ = unitS false X u lm (j 0).val (n + 1)
  rw [loaded_apply, unitS]; rfl

theorem add_loaded_sq (u lm n : ℕ) (hc : S1x1x16.ShapeCasts S16) :
    addf (unitV true X u lm n) (mulf (shapeCast S16 (loaded X u lm n) hc) (shapeCast S16 (loaded X u lm n) hc)) = unitV true X u lm (n + 1) := by
  funext j
  show FloatOps.addf (unitS true X u lm (j 0).val n) (FloatOps.mulf _ _) = unitS true X u lm (j 0).val (n + 1)
  rw [loaded_apply, unitS]; rfl

set_option maxHeartbeats 4000000 in
set_option maxRecDepth 16384 in
theorem inner_step (t : Fin (k0_t1_loop L).trips) (n : Fin k0_t2_loop.trips) (u : ℕ) (v19 arg8 w1 w2 w3 w4 w5 w6 w7 : BitVec 32) (z : FVec F S16 .f32) :
    (ringLoc d L ↦[slotSet (t.val % 4)]{fullShare} ring X u : sProp 𝕄)
      ⊢ wp frame (wpE (defs₀ (F := F)) 𝒱₀ (thr d L) none) Set.univ
          (k0_t2_body L xV (Memref.isWhole_whole _) oV (Memref.isWhole_whole _) rV (Memref.isWhole_whole _) sV (Memref.isWhole_whole _)
            qV (Memref.isWhole_whole _) cc0_scratch3 cc0_scoped0 cc0_scoped1 v19 z t arg8 w1 w2 w3 w4 w5 w6 w7 n (vecs X u n.val))
          fun acc => iprop((ringLoc d L ↦[slotSet (t.val % 4)]{fullShare} ring X u) ∗ ⌜acc = vecs X u (n.val + 1)⌝) := by
  unfold k0_t2_body vecs
  simp only [k0_part1_eq_skeleton]; unfold k0_part1_skel
  iintro Hr
  sl_exec
  iapply (wp_ld d L X (lm := 0) (off5_eq L t n)) $$ Hr
  iintro Hr
  try sl_exec
  iapply (wp_ld d L X (lm := 1) (off6_eq L t n)) $$ Hr
  iintro Hr
  try sl_exec
  iapply (wp_ld d L X (lm := 2) (off7_eq L t n)) $$ Hr
  iintro Hr
  try sl_exec
  iapply (wp_ld d L X (lm := 3) (off8_eq L t n)) $$ Hr
  iintro Hr
  try sl_exec
  iapply (wp_ld d L X (lm := 4) (off9_eq L t n)) $$ Hr
  iintro Hr
  try sl_exec
  iapply (wp_ld d L X (lm := 5) (off10_eq L t n)) $$ Hr
  iintro Hr
  try sl_exec
  iapply (wp_ld d L X (lm := 6) (off11_eq L t n)) $$ Hr
  iintro Hr
  try sl_exec
  iapply (wp_ld d L X (lm := 7) (off12_eq L t n)) $$ Hr
  iintro Hr
  iapply (Idealize.SL.Sem.le_wp_ret _ _)
  isplitl [Hr]; · iexact Hr
  ipureintro
  simp only [← add_loaded X u _ _ shapeCasts_S1x1x16_S16, ← add_loaded_sq X u _ _ shapeCasts_S1x1x16_S16]
  rfl

/-- Before the first vector the running sums are zero. -/
theorem vecs_zero (u : ℕ) : vecs X u 0 = (k0_pay81, k0_pay81, k0_pay81, k0_pay81, k0_pay81, k0_pay81, k0_pay81, k0_pay81,
    k0_pay81, k0_pay81, k0_pay81, k0_pay81, k0_pay81, k0_pay81, k0_pay81, k0_pay81) := rfl

/-- The loop over a unit's 128 vectors, at the head of a program: it yields the unit's sixteen sums. -/
theorem inner_loop (t : Fin (k0_t1_loop L).trips) (u : ℕ) (v19 arg8 w1 w2 w3 w4 w5 w6 w7 : BitVec 32) (z : FVec F S16 .f32) (hz : z = k0_pay81)
    {β : Type} {kk} {Q : β → sProp 𝕄} :
    (ringLoc d L ↦[slotSet (t.val % 4)]{fullShare} ring X u : sProp 𝕄)
      ⊢ iprop(((ringLoc d L ↦[slotSet (t.val % 4)]{fullShare} ring X u) -∗ wp frame (wpE (defs₀ (F := F)) 𝒱₀ (thr d L) none) Set.univ (kk (vecs X u 128)) Q)
        -∗ wp frame (wpE (defs₀ (F := F)) 𝒱₀ (thr d L) none) Set.univ
          (Scf.Loop.for k0_t2_loop k0_t2_ok (z, z, z, z, z, z, z, z, z, z, z, z, z, z, z, z)
            (k0_t2_body L xV (Memref.isWhole_whole _) oV (Memref.isWhole_whole _) rV (Memref.isWhole_whole _) sV (Memref.isWhole_whole _)
              qV (Memref.isWhole_whole _) cc0_scratch3 cc0_scoped0 cc0_scoped1 v19 z t arg8 w1 w2 w3 w4 w5 w6 w7) >>= kk) Q) := by
  subst hz
  iintro Hr Hk
  iapply (Scf.wp_for_bind frame (wpE (defs₀ (F := F)) 𝒱₀ (thr d L) none) Set.univ _ _ _ k0_t2_ok _ _
    (fun n acc => iprop((ringLoc d L ↦[slotSet (t.val % 4)]{fullShare} ring X u) ∗ ⌜acc = vecs X u n⌝)) ?step) $$ [Hr]
  case step =>
    intro n acc
    iintro ⟨Hr, %e⟩
    subst e
    iapply (inner_step d L X t n u v19 arg8 w1 w2 w3 w4 w5 w6 w7 k0_pay81)
    iexact Hr
  · isplitl [Hr]; · iexact Hr
    ipureintro; exact (vecs_zero X u).symm
  iintro %acc ⟨Hr, %e⟩
  have e' : acc = vecs X u 128 := e.trans (congrArg (vecs X u) trips2)
  subst e'
  iapply Hk
  iexact Hr

end Cert.Proof.Sc

end
-- ==== Proof.Unit.lean ====
/- One unit of a tile's work. -/
module

public import proofs.«01_k».proof.Proof.Acc
public import proofs.«01_k».proof.Proof.Inner

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Arith Cert.Proof.Values

variable {F : FTy → Type} [FloatOps F]

local notation "𝕄" => MT nD τ sig (HIx 1) (Elt F) ℕ UU ℕ
local notation "xV" => (Memref.whole Cert.KernelIdeal.main_v0_scv : Memref Cert.KernelIdeal.sig Kind.scVector Space.hbm Cert.KernelIdeal.S3x543x16384 EltTy.f32)
local notation "oV" => (Memref.whole Cert.KernelIdeal.main_v1_scv : Memref Cert.KernelIdeal.sig Kind.scVector Space.hbm Cert.KernelIdeal.S32x2x1024 EltTy.f32)
local notation "rV" => (Memref.whole Cert.KernelIdeal.cc0_scratch0 : Memref Cert.KernelIdeal.sig Kind.scVector Space.vmem Cert.KernelIdeal.S4x8x2048 EltTy.f32)
local notation "sV" => (Memref.whole Cert.KernelIdeal.cc0_scratch1 : Memref Cert.KernelIdeal.sig Kind.scVector Space.vmem Cert.KernelIdeal.S1024 EltTy.f32)
local notation "qV" => (Memref.whole Cert.KernelIdeal.cc0_scratch2 : Memref Cert.KernelIdeal.sig Kind.scVector Space.vmem Cert.KernelIdeal.S1024 EltTy.f32)

variable (d : Dev nD) (L : grid0.Coords) (X : FVec F S3x543x16384 .f32)

/-- What a store of a landmark's sums does. -/
theorem off13_zero (t : Fin (k0_t1_loop L).trips) (r : Fin 8) :
    k0_off13 L t (BitVec.ofNat 32 (16 * r.val)) 0 = ((base (wid L) + t.val) / 6 - base (wid L) / 6) * 128 + r.val * 16 :=
  congrFun (off13_eq L t r) 0

/-- A trip's eight additions into an accumulator make one step of it. -/
theorem bump_off (t : Fin (k0_t1_loop L).trips) (q : Bool) :
    bump (bump (bump (bump (bump (bump (bump (bump (accV q X (base (wid L)) t.val)
      (k0_off13 L t 0#32 0) (unitV q X (base (wid L) + t.val) 0 128))
      (k0_off13 L t 16#32 0) (unitV q X (base (wid L) + t.val) 1 128))
      (k0_off13 L t 32#32 0) (unitV q X (base (wid L) + t.val) 2 128))
      (k0_off13 L t 48#32 0) (unitV q X (base (wid L) + t.val) 3 128))
      (k0_off13 L t 64#32 0) (unitV q X (base (wid L) + t.val) 4 128))
      (k0_off13 L t 80#32 0) (unitV q X (base (wid L) + t.val) 5 128))
      (k0_off13 L t 96#32 0) (unitV q X (base (wid L) + t.val) 6 128))
      (k0_off13 L t 112#32 0) (unitV q X (base (wid L) + t.val) 7 128) = accV q X (base (wid L)) (t.val + 1) := by
  have e0 : k0_off13 L t 0#32 0 = ((base (wid L) + t.val) / 6 - base (wid L) / 6) * 128 + 0 * 16 := off13_zero L t 0
  have e1 : k0_off13 L t 16#32 0 = ((base (wid L) + t.val) / 6 - base (wid L) / 6) * 128 + 1 * 16 := off13_zero L t 1
  have e2 : k0_off13 L t 32#32 0 = ((base (wid L) + t.val) / 6 - base (wid L) / 6) * 128 + 2 * 16 := off13_zero L t 2
  have e3 : k0_off13 L t 48#32 0 = ((base (wid L) + t.val) / 6 - base (wid L) / 6) * 128 + 3 * 16 := off13_zero L t 3
  have e4 : k0_off13 L t 64#32 0 = ((base (wid L) + t.val) / 6 - base (wid L) / 6) * 128 + 4 * 16 := off13_zero L t 4
  have e5 : k0_off13 L t 80#32 0 = ((base (wid L) + t.val) / 6 - base (wid L) / 6) * 128 + 5 * 16 := off13_zero L t 5
  have e6 : k0_off13 L t 96#32 0 = ((base (wid L) + t.val) / 6 - base (wid L) / 6) * 128 + 6 * 16 := off13_zero L t 6
  have e7 : k0_off13 L t 112#32 0 = ((base (wid L) + t.val) / 6 - base (wid L) / 6) * 128 + 7 * 16 := off13_zero L t 7
  rw [← bump_step, e0, e1, e2, e3, e4, e5, e6, e7]

/-- Ring slot `p` before the tile's unit `m`: its copy in flight, or, past the last unit, the slot idle, with its semaphore
    at zero and the share of the input that its copies read. -/
def Slot (p m : ℕ) (qx : PosShare TreeShare) : sProp 𝕄 :=
  if m < cnt (wid L) then Fly d L X p (base (wid L) + m) qx
  else iprop((∃ f, ringLoc d L ↦[slotSet p]{fullShare} f) ∗ semVal (thr d L, SemLoc.dma (semP p)) 0 ∗ (xLoc d ↦{qx} X))

/-- What the tile owes, its waits so far all at this kernel's own index. -/
def Owe (O : CellTallies nD τ sig (HIx 1)) (W : Waits sig (HIx 1)) : sProp 𝕄 :=
  iprop(∃ W', ⌜∀ p ∈ W', p ∈ W ∨ p.2 = none⌝ ∗ owes (thr d L) O W')

set_option maxHeartbeats 8000000 in
set_option maxRecDepth 16384 in
/-- One unit: its copy is waited for, its block's sums go into the accumulators, and the slot's next copy starts. -/
theorem unit_step (t : Fin (k0_t1_loop L).trips) (v19 v39 v56 c : BitVec 32) (v57 : FVec F S16 .f32) (hv : v57 = k0_pay81) (qx : PosShare TreeShare)
    (O : CellTallies nD τ sig (HIx 1)) (W : Waits sig (HIx 1)) :
    iprop(Slot d L X (t.val % 4) t.val qx ∗ SA d L (accV false X (base (wid L)) t.val) ∗ QA d L (accV true X (base (wid L)) t.val)
        ∗ Owe (F := F) d L O W ∗ Transfers.MayWaits (thr d L) (default : HIx 1) O)
      ⊢ wp frame (wpE (defs₀ (F := F)) 𝒱₀ (thr d L) none) Set.univ
          (k0_t1_body L xV (Memref.isWhole_whole _) oV (Memref.isWhole_whole _) rV (Memref.isWhole_whole _) sV (Memref.isWhole_whole _)
            qV (Memref.isWhole_whole _) cc0_scratch3 cc0_scoped0 cc0_scoped1 v19 v39 v56 v57 c t ⟨⟩)
          fun _ => iprop(Slot d L X (t.val % 4) (t.val + 4) qx ∗ SA d L (accV false X (base (wid L)) (t.val + 1))
            ∗ QA d L (accV true X (base (wid L)) (t.val + 1)) ∗ Owe (F := F) d L O W) := by
  have ht : t.val < cnt (wid L) := t.isLt.trans_eq (trips1 L)
  have hp : t.val % 4 < 4 := Nat.mod_lt _ (by decide)
  unfold k0_t1_body
  simp only [k0_part3_eq_skeleton, k0_part4_eq_skeleton, k0_part5_eq_skeleton, k0_part6_eq_skeleton, k0_part7_eq_skeleton]
  unfold k0_part3_skel k0_part4_skel k0_part5_skel k0_part6_skel k0_part7_skel
  unfold Owe
  iintro ⟨Hf, Hs, Hq, ⟨%W', %hW, HO⟩, #Hmw⟩
  ihave Hf := (Entails.of_eq (show Slot d L X (t.val % 4) t.val qx = Fly d L X (t.val % 4) (base (wid L) + t.val) qx from if_pos ht)) $$ Hf
  sl_exec
  iapply (wp_land d L X (qx := qx) (O := O) (W := W') hp (semM_eq _ hp _ _ (off4_eq L t))) $$ [Hf HO]
  · isplitl [Hf]; · iexact Hf
    isplitl [HO]; · iexact HO
    iexact Hmw
  iintro ⟨Hx, Hr, Hv, HO⟩
  try sl_exec
  rw [bind_assoc]
  iapply (inner_loop d L X t (base (wid L) + t.val) _ _ _ _ _ _ _ _ _ _ hv) $$ Hr
  iintro Hr
  unfold vecs
  try sl_exec
  iterate 8
    iapply (wp_ldS d L) $$ Hs
    iintro Hs
    try sl_exec
    iapply (wp_ldS d L) $$ Hs
    iintro Hs
    try sl_exec
    iapply (wp_addS d L rfl) $$ Hs
    iintro Hs
    try sl_exec
    iapply (wp_ldQ d L) $$ Hq
    iintro Hq
    try sl_exec
    iapply (wp_ldQ d L) $$ Hq
    iintro Hq
    try sl_exec
    iapply (wp_addQ d L rfl) $$ Hq
    iintro Hq
    try sl_exec
  ihave Hs := (Entails.of_eq (congrArg (SA d L) (bump_off L X t false))) $$ Hs
  ihave Hq := (Entails.of_eq (congrArg (QA d L) (bump_off L X t true))) $$ Hq
  have hW' : ∀ p ∈ insert (SemLoc.dma (semP (t.val % 4)), (default : HIx 1)) W', p ∈ W ∨ p.2 = none := by
    intro p hpm
    rcases Finset.mem_insert.mp hpm with rfl | h
    · exact Or.inr rfl
    · exact hW p h
  by_cases hc : k0_cond1 L t = 1#1
  · have hlt : t.val + 4 < cnt (wid L) := (cond1_iff L t).mp hc
    rw [dif_pos hc]
    simp only [k0_part2_eq_skeleton]
    unfold k0_part2_skel
    try sl_exec
    iapply (wp_start d L X (u := base (wid L) + (t.val + 4)) (qx := qx) (f := ring X (base (wid L) + t.val)) hp (unit_lt L _ hlt) (off14_eq L t)
      ((off15_eq L t).trans (by rw [Nat.add_assoc])) (semM_eq _ hp _ _ (off16_eq L t))) $$ [Hx Hr Hv]
    · isplitl [Hx]; · iexact Hx
      isplitl [Hr]; · iexact Hr
      iexact Hv
    iintro Hf
    iapply (Idealize.SL.Sem.le_wp_ret _ _)
    isplitl [Hf]
    · iapply (Entails.of_eq (show Slot d L X (t.val % 4) (t.val + 4) qx = Fly d L X (t.val % 4) (base (wid L) + (t.val + 4)) qx from if_pos hlt).symm)
      iexact Hf
    isplitl [Hs]; · iexact Hs
    isplitl [Hq]; · iexact Hq
    iexists _
    isplitr [HO]
    · ipureintro; exact hW'
    · iexact HO
  · have hlt : ¬ t.val + 4 < cnt (wid L) := fun h => hc ((cond1_iff L t).mpr h)
    rw [dif_neg hc]
    iapply (Idealize.SL.Sem.le_wp_ret _ _)
    isplitl [Hx Hr Hv]
    · iapply (Entails.of_eq (show Slot d L X (t.val % 4) (t.val + 4) qx = _ from if_neg hlt).symm)
      isplitl [Hr]; · iexists _; iexact Hr
      isplitl [Hv]; · iexact Hv
      iexact Hx
    isplitl [Hs]; · iexact Hs
    isplitl [Hq]; · iexact Hq
    iexists _
    isplitr [HO]
    · ipureintro; exact hW'
    · iexact HO

end Cert.Proof.Sc

end
-- ==== Proof.Loop.lean ====
/- The tile's loop over its units, and the zeroing of its accumulators. -/
module

public import proofs.«01_k».proof.Proof.Unit

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Arith Cert.Proof.Values

variable {F : FTy → Type} [FloatOps F]

local notation "𝕄" => MT nD τ sig (HIx 1) (Elt F) ℕ UU ℕ
local notation "xV" => (Memref.whole Cert.KernelIdeal.main_v0_scv : Memref Cert.KernelIdeal.sig Kind.scVector Space.hbm Cert.KernelIdeal.S3x543x16384 EltTy.f32)
local notation "oV" => (Memref.whole Cert.KernelIdeal.main_v1_scv : Memref Cert.KernelIdeal.sig Kind.scVector Space.hbm Cert.KernelIdeal.S32x2x1024 EltTy.f32)
local notation "rV" => (Memref.whole Cert.KernelIdeal.cc0_scratch0 : Memref Cert.KernelIdeal.sig Kind.scVector Space.vmem Cert.KernelIdeal.S4x8x2048 EltTy.f32)
local notation "sV" => (Memref.whole Cert.KernelIdeal.cc0_scratch1 : Memref Cert.KernelIdeal.sig Kind.scVector Space.vmem Cert.KernelIdeal.S1024 EltTy.f32)
local notation "qV" => (Memref.whole Cert.KernelIdeal.cc0_scratch2 : Memref Cert.KernelIdeal.sig Kind.scVector Space.vmem Cert.KernelIdeal.S1024 EltTy.f32)

variable (d : Dev nD) (L : grid0.Coords) (X : FVec F S3x543x16384 .f32)

/-- The unit that ring slot `p` holds, or is to hold, before trip `t`. -/
def nxt (t p : ℕ) : ℕ := t + (p + 4 - t % 4) % 4

theorem nxt_self (t : ℕ) : nxt t (t % 4) = t := by unfold nxt; omega
theorem nxt_self_succ (t : ℕ) : nxt (t + 1) (t % 4) = t + 4 := by unfold nxt; omega
theorem nxt_other (t p : ℕ) (hp : p < 4) (h : p ≠ t % 4) : nxt (t + 1) p = nxt t p := by unfold nxt; omega

/-- The unit loop's invariant before trip `t`: the four slots, the two accumulators over the first `t` units, what is owed. -/
def Inv (qs : Fin 4 → PosShare TreeShare) (O : CellTallies nD τ sig (HIx 1)) (W : Waits sig (HIx 1)) (t : ℕ) : sProp 𝕄 :=
  iprop((bigSep Finset.univ fun p : Fin 4 => Slot d L X p.val (nxt t p.val) (qs p)) ∗ SA d L (accV false X (base (wid L)) t)
    ∗ QA d L (accV true X (base (wid L)) t) ∗ Owe (F := F) d L O W ∗ Transfers.MayWaits (thr d L) (default : HIx 1) O)

theorem inv_step (qs : Fin 4 → PosShare TreeShare) (O : CellTallies nD τ sig (HIx 1)) (W : Waits sig (HIx 1))
    (v19 v39 v56 c : BitVec 32) (v57 : FVec F S16 .f32) (hv : v57 = k0_pay81) (t : Fin (k0_t1_loop L).trips) :
    Inv d L X qs O W t.val
      ⊢ wp frame (wpE (defs₀ (F := F)) 𝒱₀ (thr d L) none) Set.univ
          (k0_t1_body L xV (Memref.isWhole_whole _) oV (Memref.isWhole_whole _) rV (Memref.isWhole_whole _) sV (Memref.isWhole_whole _)
            qV (Memref.isWhole_whole _) cc0_scratch3 cc0_scoped0 cc0_scoped1 v19 v39 v56 v57 c t ⟨⟩)
          fun _ => Inv d L X qs O W (t.val + 1) := by
  have hp : t.val % 4 < 4 := Nat.mod_lt _ (by decide)
  unfold Inv
  rw [bigSep_univ_split (⟨t.val % 4, hp⟩ : Fin 4) (Φ := fun p : Fin 4 => Slot d L X p.val (nxt t.val p.val) (qs p)),
    bigSep_univ_split (⟨t.val % 4, hp⟩ : Fin 4) (Φ := fun p : Fin 4 => Slot d L X p.val (nxt (t.val + 1) p.val) (qs p))]
  rw [show (bigSep ((Finset.univ : Finset (Fin 4)).erase ⟨t.val % 4, hp⟩) fun p : Fin 4 => Slot d L X p.val (nxt (t.val + 1) p.val) (qs p))
      = bigSep ((Finset.univ : Finset (Fin 4)).erase ⟨t.val % 4, hp⟩) fun p : Fin 4 => Slot d L X p.val (nxt t.val p.val) (qs p) from
    bigSep_congr fun p hpm => by
      rw [nxt_other t.val p.val p.isLt fun e => (Finset.ne_of_mem_erase hpm) (Fin.ext e)]]
  show iprop((Slot d L X (t.val % 4) (nxt t.val (t.val % 4)) _ ∗ _) ∗ _) ⊢ wp _ _ _ _ fun _ => iprop((Slot d L X (t.val % 4) (nxt (t.val + 1) (t.val % 4)) _ ∗ _) ∗ _)
  rw [nxt_self, nxt_self_succ]
  iintro ⟨⟨Hsl, Hrest⟩, Hs, Hq, HO, #Hmw⟩
  iapply (wp_wand_r frame (wpE (defs₀ (F := F)) 𝒱₀ (thr d L) none) Set.univ)
  isplitl [Hsl Hs Hq HO]
  · iapply (unit_step d L X t v19 v39 v56 c v57 hv (qs ⟨t.val % 4, hp⟩) O W)
    isplitl [Hsl]; · iexact Hsl
    isplitl [Hs]; · iexact Hs
    isplitl [Hq]; · iexact Hq
    isplitl [HO]; · iexact HO
    iexact Hmw
  iintro %_ ⟨Hsl, Hs, Hq, HO⟩
  isplitl [Hsl Hrest]
  · isplitl [Hsl]; · iexact Hsl
    iexact Hrest
  isplitl [Hs]; · iexact Hs
  isplitl [Hq]; · iexact Hq
  isplitl [HO]; · iexact HO
  iexact Hmw

/-- The loop over the tile's units, at the head of a program. -/
theorem unit_loop (qs : Fin 4 → PosShare TreeShare) (O : CellTallies nD τ sig (HIx 1)) (W : Waits sig (HIx 1))
    (v19 v39 v56 c : BitVec 32) (v57 : FVec F S16 .f32) (hv : v57 = k0_pay81) {β : Type} {kk} {Q : β → sProp 𝕄} :
    Inv d L X qs O W 0
      ⊢ iprop((Inv d L X qs O W (cnt (wid L)) -∗ wp frame (wpE (defs₀ (F := F)) 𝒱₀ (thr d L) none) Set.univ (kk ⟨⟩) Q)
        -∗ wp frame (wpE (defs₀ (F := F)) 𝒱₀ (thr d L) none) Set.univ
          (Scf.Loop.for (k0_t1_loop L) (k0_t1_ok L) ⟨⟩
            (k0_t1_body L xV (Memref.isWhole_whole _) oV (Memref.isWhole_whole _) rV (Memref.isWhole_whole _) sV (Memref.isWhole_whole _)
              qV (Memref.isWhole_whole _) cc0_scratch3 cc0_scoped0 cc0_scoped1 v19 v39 v56 v57 c) >>= kk) Q) := by
  iintro HI Hk
  iapply (Scf.wp_for_bind frame (wpE (defs₀ (F := F)) 𝒱₀ (thr d L) none) Set.univ _ _ _ (k0_t1_ok L) _ _
    (fun t _ => Inv d L X qs O W t) ?step) $$ [HI]
  case step => exact fun t _ => inv_step d L X qs O W v19 v39 v56 c v57 hv t
  · iexact HI
  iintro %_ HI
  iapply Hk
  iapply (Entails.of_eq (congrArg (Inv d L X qs O W) (trips1 L)))
  iexact HI

/-- The remainder loop, of no trips. -/
theorem rest_loop (v19 v39 v56 v714 : BitVec 32) (v57 : FVec F S16 .f32) {β : Type}
    {kk : PUnit → Prog (TpuEff nD τ sig (Elt F) Λ₀ (.scVector ((L 0).castLE hcore0) ((L 1).castLE hsub0))) β} {Q : β → sProp 𝕄} :
    wp frame (wpE (defs₀ (F := F)) 𝒱₀ (thr d L) none) Set.univ (kk ⟨⟩) Q
      ⊢ wp frame (wpE (defs₀ (F := F)) 𝒱₀ (thr d L) none) Set.univ
          (Scf.Loop.for (k0_t3_loop L) (k0_t3_ok L) ⟨⟩
            (k0_t3_body L xV (Memref.isWhole_whole _) oV (Memref.isWhole_whole _) rV (Memref.isWhole_whole _) sV (Memref.isWhole_whole _)
              qV (Memref.isWhole_whole _) cc0_scratch3 cc0_scoped0 cc0_scoped1 v19 v39 v56 v57 v714) >>= kk) Q :=
  Scf.wp_for0_bind frame (wpE (defs₀ (F := F)) 𝒱₀ (thr d L) none) Set.univ _ _ _ (k0_t3_ok L) _ (trips3 L) kk Q _ .rfl

/-- The first `n` entries of an accumulator are zero. -/
def Zup (n : ℕ) (f : FVec F S1024 .f32) : Prop := ∀ j : S1024.Idx, (j 0).val < n → f j = z0

/-- The accumulators while they are zeroed from the front. -/
def SZ (n : ℕ) : sProp 𝕄 := iprop(∃ f, ⌜Zup n f⌝ ∗ SA (F := F) d L f)
def QZ (n : ℕ) : sProp 𝕄 := iprop(∃ f, ⌜Zup n f⌝ ∗ QA (F := F) d L f)

theorem zup_put {n : ℕ} {f : FVec F S1024 .f32} (hf : Zup n f) {o : Fin 1 → ℕ} {h : ∀ a, o a + S16.size a ≤ S1024.size a} (ho : o 0 = n)
    {w : FVec F S16 .f32} (hw : w = fun _ => z0) : Zup (n + 16) (put f o h w) := by
  intro j hj
  rw [put_apply]
  split
  · rw [hw]
  · exact hf j (by omega)

theorem acc_zero {f : FVec F S1024 .f32} (hf : Zup 1024 f) (q : Bool) (b : ℕ) : f = accV q X b 0 := by
  funext j
  exact (hf j (j 0).isLt).trans rfl

theorem wp_skipS {n : ℕ} {o : Fin 1 → ℕ} {h : ∀ a, o a + S16.size a ≤ S1024.size a} {hl} {α : Type}
    {k : (S16.Idx → Elt F .f32) → Prog (TpuEff nD τ sig (Elt F) Λ₀ (.scVector ((L 0).castLE hcore0) ((L 1).castLE hsub0))) α} {Q : α → sProp 𝕄} :
    SZ (F := F) d L n
      ⊢ iprop((∀ v, SZ (F := F) d L n -∗ wp frame (wpE (defs₀ (F := F)) 𝒱₀ (thr d L) none) Set.univ (k v) Q)
          -∗ wp frame (wpE (defs₀ (F := F)) 𝒱₀ (thr d L) none) Set.univ
              (.op (.load sV (Rect.unit (s := S1024) o S16.size h).toLoadRect hl) k) Q) := by
  unfold SZ
  iintro ⟨%f, %hf, Hs⟩ Hk
  iapply (wp_ldS d L) $$ Hs
  iintro Hs
  iapply Hk
  iexists f
  isplitr; · ipureintro; exact hf
  iexact Hs

theorem wp_zeroS {n : ℕ} {o : Fin 1 → ℕ} {h : ∀ a, o a + S16.size a ≤ S1024.size a} {w : FVec F S16 .f32} {hx hm} {α : Type}
    {k : PUnit → Prog (TpuEff nD τ sig (Elt F) Λ₀ (.scVector ((L 0).castLE hcore0) ((L 1).castLE hsub0))) α} {Q : α → sProp 𝕄} :
    SZ (F := F) d L n
      ⊢ iprop(⌜o 0 = n ∧ w = fun _ => z0⌝ -∗ (SZ (F := F) d L (n + 16) -∗ wp frame (wpE (defs₀ (F := F)) 𝒱₀ (thr d L) none) Set.univ (k ⟨⟩) Q)
          -∗ wp frame (wpE (defs₀ (F := F)) 𝒱₀ (thr d L) none) Set.univ
              (.op (.store sV (Rect.unit (s := S1024) o S16.size h) w Finset.univ hx hm) k) Q) := by
  unfold SZ
  iintro ⟨%f, %hf, Hs⟩ %hw Hk
  iapply (wp_putS d L) $$ Hs
  iintro Hs
  iapply Hk
  iexists (put f o h w)
  isplitr; · ipureintro; exact zup_put hf hw.1 hw.2
  iexact Hs

theorem wp_skipQ {n : ℕ} {o : Fin 1 → ℕ} {h : ∀ a, o a + S16.size a ≤ S1024.size a} {hl} {α : Type}
    {k : (S16.Idx → Elt F .f32) → Prog (TpuEff nD τ sig (Elt F) Λ₀ (.scVector ((L 0).castLE hcore0) ((L 1).castLE hsub0))) α} {Q : α → sProp 𝕄} :
    QZ (F := F) d L n
      ⊢ iprop((∀ v, QZ (F := F) d L n -∗ wp frame (wpE (defs₀ (F := F)) 𝒱₀ (thr d L) none) Set.univ (k v) Q)
          -∗ wp frame (wpE (defs₀ (F := F)) 𝒱₀ (thr d L) none) Set.univ
              (.op (.load qV (Rect.unit (s := S1024) o S16.size h).toLoadRect hl) k) Q) := by
  unfold QZ
  iintro ⟨%f, %hf, Hs⟩ Hk
  iapply (wp_ldQ d L) $$ Hs
  iintro Hs
  iapply Hk
  iexists f
  isplitr; · ipureintro; exact hf
  iexact Hs

theorem wp_zeroQ {n : ℕ} {o : Fin 1 → ℕ} {h : ∀ a, o a + S16.size a ≤ S1024.size a} {w : FVec F S16 .f32} {hx hm} {α : Type}
    {k : PUnit → Prog (TpuEff nD τ sig (Elt F) Λ₀ (.scVector ((L 0).castLE hcore0) ((L 1).castLE hsub0))) α} {Q : α → sProp 𝕄} :
    QZ (F := F) d L n
      ⊢ iprop(⌜o 0 = n ∧ w = fun _ => z0⌝ -∗ (QZ (F := F) d L (n + 16) -∗ wp frame (wpE (defs₀ (F := F)) 𝒱₀ (thr d L) none) Set.univ (k ⟨⟩) Q)
          -∗ wp frame (wpE (defs₀ (F := F)) 𝒱₀ (thr d L) none) Set.univ
              (.op (.store qV (Rect.unit (s := S1024) o S16.size h) w Finset.univ hx hm) k) Q) := by
  unfold QZ
  iintro ⟨%f, %hf, Hs⟩ %hw Hk
  iapply (wp_putQ d L) $$ Hs
  iintro Hs
  iapply Hk
  iexists (put f o h w)
  isplitr; · ipureintro; exact zup_put hf hw.1 hw.2
  iexact Hs

end Cert.Proof.Sc

end
-- ==== Proof.Out.lean ====
/- The copies of a tile's two accumulators into its rows of the output. -/
module

public import proofs.«01_k».proof.Proof.Loop

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Arith Cert.Proof.Values

variable {F : FTy → Type} [FloatOps F]

local notation "𝕄" => MT nD τ sig (HIx 1) (Elt F) ℕ UU ℕ
local notation "xV" => (Memref.whole Cert.KernelIdeal.main_v0_scv : Memref Cert.KernelIdeal.sig Kind.scVector Space.hbm Cert.KernelIdeal.S3x543x16384 EltTy.f32)
local notation "oV" => (Memref.whole Cert.KernelIdeal.main_v1_scv : Memref Cert.KernelIdeal.sig Kind.scVector Space.hbm Cert.KernelIdeal.S32x2x1024 EltTy.f32)
local notation "rV" => (Memref.whole Cert.KernelIdeal.cc0_scratch0 : Memref Cert.KernelIdeal.sig Kind.scVector Space.vmem Cert.KernelIdeal.S4x8x2048 EltTy.f32)
local notation "sV" => (Memref.whole Cert.KernelIdeal.cc0_scratch1 : Memref Cert.KernelIdeal.sig Kind.scVector Space.vmem Cert.KernelIdeal.S1024 EltTy.f32)
local notation "qV" => (Memref.whole Cert.KernelIdeal.cc0_scratch2 : Memref Cert.KernelIdeal.sig Kind.scVector Space.vmem Cert.KernelIdeal.S1024 EltTy.f32)

variable (d : Dev nD) (L : grid0.Coords) (X : FVec F S3x543x16384 .f32)

/-- Row `b` of the tile's part of the output, as the kernel addresses it. -/
abbrev outM (o : Fin 3 → ℕ) (h : ∀ a, o a + S1x1x1024.size a ≤ S32x2x1024.size a) : Memref sig .scVector .hbm S1024 .f32 :=
  ((oV).slice (Rect.unit (s := S32x2x1024) o S1x1x1024.size h) (fun _ => rfl)).squeeze S1024 squeezes_S1x1x1024_S1024

abbrev sem0 : GSem nD τ sig := (thr d L, SemLoc.dma cc0_scoped0.sem)
abbrev sem1 : GSem nD τ sig := (thr d L, SemLoc.dma cc0_scoped1.sem)

/-- Row `(w, b)` of the SparseCore's output. -/
def rowSet (w b : ℕ) : Finset S32x2x1024.Idx := Finset.univ.filter fun j => (j 0).val = w ∧ (j 1).val = b

theorem set_outM (w b : ℕ) (o : Fin 3 → ℕ) (h) (ho : o = ![w, b, 0]) : (outM o h).view.set = rowSet w b := by
  show (((oV).view.slice (Rect.unit (s := S32x2x1024) o S1x1x1024.size h)).reshape S1024 squeezes_S1x1x1024_S1024.numel_eq).set = _
  rw [View.set_reshape]
  show ((View.whole (main_v1_scv : Ref sig .scVector)).slice (Rect.unit (s := S32x2x1024) o S1x1x1024.size h)).set = _
  rw [View.set_slice_whole]
  subst ho
  ext j
  rw [Rect.mem_set_unit]
  unfold rowSet
  rw [Finset.mem_filter]
  have h2 : (j 2).val < 1024 := (j 2).isLt
  constructor
  · intro hj
    have h0 : w ≤ (j 0).val ∧ (j 0).val < w + 1 := hj 0
    have h1 : b ≤ (j 1).val ∧ (j 1).val < b + 1 := hj 1
    exact ⟨Finset.mem_univ _, by omega, by omega⟩
  · rintro ⟨-, hj, hb⟩ a
    match a with
    | 0 => show w ≤ (j 0).val ∧ (j 0).val < w + 1; omega
    | 1 => show b ≤ (j 1).val ∧ (j 1).val < b + 1; omega
    | 2 => show 0 ≤ (j 2).val ∧ (j 2).val < 0 + 1024; omega

/-- A whole row written reads back what was written. -/
theorem writes_row (o : Fin 3 → ℕ) (h) (g : FVec F S32x2x1024 .f32) (w : FVec F S1024 .f32) (y : S1024.Idx) :
    (outM o h).view.writes (Elt F) g [⟨Rect.whole S1024, w⟩] ((outM o h).view.emb y) = w y := by
  have er : (Rect.whole S1024).emb y = y := funext fun a => Fin.ext (by show 0 + 1 * (y a).val = _; omega)
  have ew := View.read_writes_cons_emb (Val := Elt F) (outM o h).view g (Rect.whole S1024) w [] y
  rw [er, View.read_apply] at ew
  exact ew

/-- What a copy of an accumulator writes into its row. -/
theorem write_row (b : ℕ) (o : Fin 3 → ℕ) (h) (ho : o = ![wid L, b, 0]) (g : FVec F S32x2x1024 .f32) :
    ∀ j ∈ rowSet (wid L) b, (outM o h).view.writes (Elt F) g [⟨Rect.whole S1024, accV (decide (b = 1)) X (base (wid L)) (cnt (wid L))⟩] j = scOut X j := by
  intro j hj
  have hj' := Finset.mem_filter.mp hj
  rw [← set_outM (wid L) b o h ho] at hj
  obtain ⟨y, -, rfl⟩ := Finset.mem_map.mp hj
  rw [writes_row]
  subst ho
  obtain ⟨z, hz⟩ : ∃ z : S1x1x1024.Idx, z = Shape.reshapeEquiv squeezes_S1x1x1024_S1024.numel_eq y := ⟨_, rfl⟩
  have e2 : ((outM ![wid L, b, 0] h).view.emb y 2).val = 0 + 1 * (z 2).val := by subst hz; rfl
  have hzy : (z 2).val = (y 0).val := by
    have e := congrArg (fun z => (Shape.rowMajor S1x1x1024 z).val) hz
    simp only [Shape.rowMajor_reshapeEquiv] at e
    rw [Shape.rowMajor_val_three, Shape.rowMajor_val_one] at e
    have z0 : (z 0).val < 1 := (z 0).isLt
    have z1 : (z 1).val < 1 := (z 1).isLt
    have : ((z 0).val * 1 + (z 1).val) * 1024 + (z 2).val = (y 0).val := e
    omega
  have e0 := hj'.2.1
  have e1 := hj'.2.2
  show _ = acc (decide (((outM _ h).view.emb y 1).val = 1)) X (base ((outM _ h).view.emb y 0).val) (cnt ((outM _ h).view.emb y 0).val) ((outM _ h).view.emb y 2).val
  rw [e0, e1, e2, hzy, Nat.zero_add, Nat.one_mul]
  rfl

theorem row_pts (b : ℕ) (o : Fin 3 → ℕ) (h) (ho : o = ![wid L, b, 0]) (f : FVec F S32x2x1024 .f32) :
    ((outM o h).view.loc (thr d L) ↦[(outM o h).view.set]{fullShare} f : sProp 𝕄) = outLoc d ↦[rowSet (wid L) b]{fullShare} f := by
  rw [set_outM (wid L) b o h ho]

set_option maxHeartbeats 4000000 in
/-- The two copies out, at the end of the body: the tile's rows of the output hold its two accumulators. -/
theorem out_run (O : CellTallies nD τ sig (HIx 1)) (W : Waits sig (HIx 1)) (g0 g1 : FVec F S32x2x1024 .f32) {h0 h1 h2 h3 h4 h5 h6 h7 h8 h9} :
    iprop(SA d L (accV false X (base (wid L)) (cnt (wid L))) ∗ QA d L (accV true X (base (wid L)) (cnt (wid L)))
        ∗ (outLoc d ↦[rowSet (wid L) 0]{fullShare} g0) ∗ (outLoc d ↦[rowSet (wid L) 1]{fullShare} g1)
        ∗ semVal (sem0 d L) 0 ∗ semVal (sem1 d L) 0 ∗ Owe (F := F) d L O W ∗ Transfers.MayWaits (thr d L) (default : HIx 1) O)
      ⊢ wp frame (wpE (defs₀ (F := F)) 𝒱₀ (thr d L) none) Set.univ
          (show Prog (TpuEff nD τ sig (Elt F) Λ₀ (.scVector ((L 0).castLE hcore0) ((L 1).castLE hsub0))) PUnit from do
            Prog.lift (.enqueueDma sV (.here (outM (k0_off32 L) (k0_off32_inb L))) (.dma cc0_scoped0.sem) h0 h1 h2)
            Prog.lift (.waitDma2 cc0_scoped0.sem sV (outM (k0_off32 L) (k0_off32_inb L)) h3 h4)
            Prog.lift (.enqueueDma qV (.here (outM (k0_off33 L) (k0_off33_inb L))) (.dma cc0_scoped1.sem) h5 h6 h7)
            Prog.lift (.waitDma2 cc0_scoped1.sem qV (outM (k0_off33 L) (k0_off33_inb L)) h8 h9)
            pure ⟨⟩)
          fun _ => iprop((∃ f, SA (F := F) d L f) ∗ (∃ f, QA (F := F) d L f)
            ∗ (outLoc d ↦[rowSet (wid L) 0]{fullShare} scOut X) ∗ (outLoc d ↦[rowSet (wid L) 1]{fullShare} scOut X)
            ∗ semVal (sem0 d L) 0 ∗ semVal (sem1 d L) 0 ∗ Owe (F := F) d L O W) := by
  unfold SA QA Owe
  iintro ⟨Hs, Hq, Ho0, Ho1, Hv0, Hv1, ⟨%W', %hW', HO⟩, #Hmw⟩
  ihave Ho0 := (Entails.of_eq (row_pts d L 0 _ (k0_off32_inb L) (off32_eq L) g0).symm) $$ Ho0
  ihave Ho1 := (Entails.of_eq (row_pts d L 1 _ (k0_off33_inb L) (off33_eq L) g1).symm) $$ Ho1
  ihave Hs := (Entails.of_eq (show (sLoc d L ↦{fullShare} _ : sProp 𝕄) = (sV).view.loc (thr d L) ↦{fullShare} _ from rfl)) $$ Hs
  ihave Hq := (Entails.of_eq (show (qLoc d L ↦{fullShare} _ : sProp 𝕄) = (qV).view.loc (thr d L) ↦{fullShare} _ from rfl)) $$ Hq
  sl_exec
  sl_step
  isplitl [Hs]; · iexists _; iexact Hs
  isplitl [Hq]; · iexists _; iexact Hq
  isplitl [Ho0]
  · iapply (Entails.of_eq (pointsTo_congr (write_row L X 0 _ (k0_off32_inb L) (off32_eq L) g0)))
    iapply (Entails.of_eq (row_pts d L 0 _ (k0_off32_inb L) (off32_eq L) _))
    iexact Ho0
  isplitl [Ho1]
  · iapply (Entails.of_eq (pointsTo_congr (write_row L X 1 _ (k0_off33_inb L) (off33_eq L) g1)))
    iapply (Entails.of_eq (row_pts d L 1 _ (k0_off33_inb L) (off33_eq L) _))
    iexact Ho1
  isplitl [Hv0]; · iexact Hv0
  isplitl [Hv1]; · iexact Hv1
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

end Cert.Proof.Sc

end
-- ==== Proof.Tile.lean ====
/- One tile's run of the kernel's body. -/
module

public import proofs.«01_k».proof.Proof.Out

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Arith Cert.Proof.Values

variable {F : FTy → Type} [FloatOps F]

local notation "𝕄" => MT nD τ sig (HIx 1) (Elt F) ℕ UU ℕ
local notation "xV" => (Memref.whole Cert.KernelIdeal.main_v0_scv : Memref Cert.KernelIdeal.sig Kind.scVector Space.hbm Cert.KernelIdeal.S3x543x16384 EltTy.f32)
local notation "oV" => (Memref.whole Cert.KernelIdeal.main_v1_scv : Memref Cert.KernelIdeal.sig Kind.scVector Space.hbm Cert.KernelIdeal.S32x2x1024 EltTy.f32)
local notation "rV" => (Memref.whole Cert.KernelIdeal.cc0_scratch0 : Memref Cert.KernelIdeal.sig Kind.scVector Space.vmem Cert.KernelIdeal.S4x8x2048 EltTy.f32)
local notation "sV" => (Memref.whole Cert.KernelIdeal.cc0_scratch1 : Memref Cert.KernelIdeal.sig Kind.scVector Space.vmem Cert.KernelIdeal.S1024 EltTy.f32)
local notation "qV" => (Memref.whole Cert.KernelIdeal.cc0_scratch2 : Memref Cert.KernelIdeal.sig Kind.scVector Space.vmem Cert.KernelIdeal.S1024 EltTy.f32)

variable (d : Dev nD) (L : grid0.Coords) (X : FVec F S3x543x16384 .f32)

/-- A ring slot that holds nothing: its buffer at anything, its semaphore at zero, its share of the input. -/
def Idle (p : ℕ) (qx : PosShare TreeShare) : sProp 𝕄 :=
  iprop((∃ f, ringLoc d L ↦[slotSet p]{fullShare} f) ∗ semVal (thr d L, SemLoc.dma (semP p)) 0 ∗ (xLoc d ↦{qx} X))

theorem slot_of_fly {p m : ℕ} (hm : m < cnt (wid L)) {u : ℕ} (hu : u = base (wid L) + m) (qx : PosShare TreeShare) :
    Fly d L X p u qx ⊢ Slot d L X p m qx := by
  subst hu
  unfold Slot
  rw [if_pos hm]

theorem idle_of_slot {p m : ℕ} (hm : cnt (wid L) ≤ m) (qx : PosShare TreeShare) :
    Slot d L X p m qx ⊢ Idle d L X p qx := by
  unfold Slot Idle
  rw [if_neg (Nat.not_lt.mpr hm)]

theorem wp_startI {p u : ℕ} (hp : p < 4) (hu : u < 1206) {o : Fin 3 → ℕ} {h} (ho : o = ![p, 0, 0])
    {os : Fin 3 → ℕ} {hs} (hos : os = blk u) {sm : DmaSem sig} (hsm : sm = semP p) {qx : PosShare TreeShare} {hsrc hdst hty} {α : Type}
    {k : PUnit → Prog (TpuEff nD τ sig (Elt F) Λ₀ (.scVector ((L 0).castLE hcore0) ((L 1).castLE hsub0))) α} {Q : α → sProp 𝕄} :
    Idle d L X p qx
      ⊢ iprop((Fly d L X p u qx -∗ wp frame (wpE (defs₀ (F := F)) 𝒱₀ (thr d L) none) Set.univ (k ⟨⟩) Q)
          -∗ wp frame (wpE (defs₀ (F := F)) 𝒱₀ (thr d L) none) Set.univ
              (.op (.enqueueDma (blkM os hs) (.here (slotM o h)) (.dma sm) hsrc hdst hty) k) Q) := by
  unfold Idle
  iintro ⟨⟨%f, Hr⟩, Hv, Hx⟩ Hk
  iapply (wp_start d L X hp hu ho hos hsm (qx := qx) (f := f)) $$ [Hr Hv Hx]
  · isplitl [Hx]; · iexact Hx
    isplitl [Hr]; · iexact Hr
    iexact Hv
  iexact Hk

theorem sz_start (f : FVec F S1024 .f32) : SA d L f ⊢ SZ (F := F) d L 0 := by
  unfold SZ; iintro H; iexists f; isplitr; · ipureintro; exact fun j hj => absurd hj (Nat.not_lt_zero _)
  iexact H
theorem qz_start (f : FVec F S1024 .f32) : QA d L f ⊢ QZ (F := F) d L 0 := by
  unfold QZ; iintro H; iexists f; isplitr; · ipureintro; exact fun j hj => absurd hj (Nat.not_lt_zero _)
  iexact H
theorem sz_end : SZ (F := F) d L 1024 ⊢ SA d L (accV false X (base (wid L)) 0) := by
  unfold SZ; iintro ⟨%f, %hf, H⟩; rw [acc_zero X hf false (base (wid L))]; iexact H
theorem qz_end : QZ (F := F) d L 1024 ⊢ QA d L (accV true X (base (wid L)) 0) := by
  unfold QZ; iintro ⟨%f, %hf, H⟩; rw [acc_zero X hf true (base (wid L))]; iexact H

theorem bigSep_fin4 (Φ : Fin 4 → sProp 𝕄) : bigSep Finset.univ Φ = iprop(Φ 0 ∗ Φ 1 ∗ Φ 2 ∗ Φ 3) := by
  rw [bigSep_univ_split (0 : Fin 4), show (Finset.univ : Finset (Fin 4)).erase 0 = {1, 2, 3} by decide,
    bigSep_insert (by decide), bigSep_insert (by decide), bigSep_singleton]
  rfl

theorem idle_four (qs : Fin 4 → PosShare TreeShare) :
    (bigSep Finset.univ fun p : Fin 4 => Idle d L X p.val (qs p)) = iprop(Idle d L X 0 (qs 0) ∗ Idle d L X 1 (qs 1) ∗ Idle d L X 2 (qs 2) ∗ Idle d L X 3 (qs 3)) :=
  bigSep_fin4 _

theorem start_lt (r : ℕ) (hr : r < 4) : base (wid L) + r < 1206 := unit_lt L r (by have := (cnt_bounds (wid L)).1; omega)

/-- The four copies just started, as the unit loop's slots. -/
theorem slots_start (qs : Fin 4 → PosShare TreeShare) :
    iprop(Fly d L X 0 (base (wid L) + 0) (qs 0) ∗ Fly d L X 1 (base (wid L) + 1) (qs 1) ∗ Fly d L X 2 (base (wid L) + 2) (qs 2) ∗ Fly d L X 3 (base (wid L) + 3) (qs 3))
      ⊢ bigSep Finset.univ fun p : Fin 4 => Slot d L X p.val (nxt 0 p.val) (qs p) := by
  have hc := (cnt_bounds (wid L)).1
  rw [bigSep_fin4]
  exact BI.sep_mono (slot_of_fly d L X (m := 0) (by omega) rfl _) (BI.sep_mono (slot_of_fly d L X (m := 1) (by omega) rfl _)
    (BI.sep_mono (slot_of_fly d L X (m := 2) (by omega) rfl _) (slot_of_fly d L X (m := 3) (by omega) rfl _)))

theorem slots_end (qs : Fin 4 → PosShare TreeShare) :
    (bigSep Finset.univ fun p : Fin 4 => Slot d L X p.val (nxt (cnt (wid L)) p.val) (qs p)) ⊢ bigSep Finset.univ fun p : Fin 4 => Idle d L X p.val (qs p) :=
  bigSep_mono fun p _ => idle_of_slot d L X (Nat.le_add_right _ _) _

set_option maxHeartbeats 40000000 in
set_option maxRecDepth 16384 in
theorem tile_run (qs : Fin 4 → PosShare TreeShare) (O : CellTallies nD τ sig (HIx 1)) (W : Waits sig (HIx 1))
    (g0 g1 : FVec F S32x2x1024 .f32) :
    iprop((bigSep Finset.univ fun p : Fin 4 => Idle d L X p.val (qs p)) ∗ SZ (F := F) d L 0 ∗ QZ (F := F) d L 0
        ∗ (outLoc d ↦[rowSet (wid L) 0]{fullShare} g0) ∗ (outLoc d ↦[rowSet (wid L) 1]{fullShare} g1)
        ∗ semVal (sem0 d L) 0 ∗ semVal (sem1 d L) 0 ∗ owes (thr d L) O W ∗ Transfers.MayWaits (thr d L) (default : HIx 1) O)
      ⊢ wp frame (wpE (defs₀ (F := F)) 𝒱₀ (thr d L) none) Set.univ
          (cc0_body L xV (Memref.isWhole_whole _) oV (Memref.isWhole_whole _) rV (Memref.isWhole_whole _) sV (Memref.isWhole_whole _)
            qV (Memref.isWhole_whole _) cc0_scratch3 cc0_scoped0 cc0_scoped1)
          fun _ => iprop((bigSep Finset.univ fun p : Fin 4 => Idle d L X p.val (qs p)) ∗ (∃ f, SA (F := F) d L f) ∗ (∃ f, QA (F := F) d L f)
            ∗ (outLoc d ↦[rowSet (wid L) 0]{fullShare} scOut X) ∗ (outLoc d ↦[rowSet (wid L) 1]{fullShare} scOut X)
            ∗ semVal (sem0 d L) 0 ∗ semVal (sem1 d L) 0 ∗ Owe (F := F) d L O W) := by
  rw [cc0_body_eq_skeleton]; unfold cc0_body_skel
  simp only [k0_part15_eq_skeleton, k0_part16_eq_skeleton, k0_part17_eq_skeleton, k0_part18_eq_skeleton, k0_part19_eq_skeleton,
    k0_part20_eq_skeleton, k0_part21_eq_skeleton, k0_part22_eq_skeleton, k0_part23_eq_skeleton, k0_part24_eq_skeleton, k0_part25_eq_skeleton,
    k0_part26_eq_skeleton, k0_part27_eq_skeleton, k0_part28_eq_skeleton, k0_part29_eq_skeleton, k0_part30_eq_skeleton, k0_part31_eq_skeleton,
    k0_part32_eq_skeleton, k0_part33_eq_skeleton]
  unfold k0_part15_skel k0_part16_skel k0_part17_skel k0_part18_skel k0_part19_skel k0_part20_skel k0_part21_skel k0_part22_skel
    k0_part23_skel k0_part24_skel k0_part25_skel k0_part26_skel k0_part27_skel k0_part28_skel k0_part29_skel k0_part30_skel k0_part31_skel
    k0_part32_skel k0_part33_skel
  rw [idle_four]
  iintro ⟨⟨H0, H1, H2, H3⟩, Hs, Hq, Ho0, Ho1, Hv0, Hv1, HO, #Hmw⟩
  sl_exec
  iapply (wp_skipS d L) $$ Hs; iintro %_ Hs; try sl_exec
  iapply (wp_zeroS d L) $$ Hs []; (ipureintro; exact ⟨rfl, rfl⟩); iintro Hs; try sl_exec
  iapply (wp_skipQ d L) $$ Hq; iintro %_ Hq; try sl_exec
  iapply (wp_zeroQ d L) $$ Hq []; (ipureintro; exact ⟨rfl, rfl⟩); iintro Hq; try sl_exec
  iterate 63
    (iapply (wp_skipS d L) $$ Hs; iintro %_ Hs; try sl_exec
     iapply (wp_zeroS d L) $$ Hs []; (ipureintro; exact ⟨rfl, rfl⟩); iintro Hs; try sl_exec
     iapply (wp_skipQ d L) $$ Hq; iintro %_ Hq; try sl_exec
     iapply (wp_zeroQ d L) $$ Hq []; (ipureintro; exact ⟨rfl, rfl⟩); iintro Hq; try sl_exec)
  ihave Hs := (sz_end d L X) $$ Hs
  ihave Hq := (qz_end d L X) $$ Hq
  iapply (wp_startI d L X (p := 0) (by decide) (start_lt L 0 (by decide)) rfl (off1_eq L 0) (semM_eq 0 (by decide) _ _ rfl)) $$ H0; iintro H0; try sl_exec
  iapply (wp_startI d L X (p := 1) (by decide) (start_lt L 1 (by decide)) rfl (off1_eq L 1) (semM_eq 1 (by decide) _ _ rfl)) $$ H1; iintro H1; try sl_exec
  iapply (wp_startI d L X (p := 2) (by decide) (start_lt L 2 (by decide)) rfl (off1_eq L 2) (semM_eq 2 (by decide) _ _ rfl)) $$ H2; iintro H2; try sl_exec
  iapply (wp_startI d L X (p := 3) (by decide) (start_lt L 3 (by decide)) rfl (off1_eq L 3) (semM_eq 3 (by decide) _ _ rfl)) $$ H3; iintro H3; try sl_exec
  ihave Hsl := (slots_start d L X qs) $$ [H0 H1 H2 H3]
  · isplitl [H0]; · iexact H0
    isplitl [H1]; · iexact H1
    isplitl [H2]; · iexact H2
    iexact H3
  iapply (unit_loop d L X qs O W _ _ _ _ _ rfl) $$ [Hsl Hs Hq HO]
  · unfold Inv
    isplitl [Hsl]; · iexact Hsl
    isplitl [Hs]; · iexact Hs
    isplitl [Hq]; · iexact Hq
    isplitl [HO]
    · unfold Owe; iexists W; isplitr
      · ipureintro; exact fun p hp => .inl hp
      · iexact HO
    iexact Hmw
  unfold Inv
  iintro ⟨Hsl, Hs, Hq, HO, -⟩
  ihave Hsl := (slots_end d L X qs) $$ Hsl
  iapply (rest_loop d L)
  iapply (wp_wand_r frame (wpE (defs₀ (F := F)) 𝒱₀ (thr d L) none) Set.univ)
  isplitl [Hs Hq Ho0 Ho1 Hv0 Hv1 HO]
  · iapply (out_run d L X O W g0 g1)
    isplitl [Hs]; · iexact Hs
    isplitl [Hq]; · iexact Hq
    isplitl [Ho0]; · iexact Ho0
    isplitl [Ho1]; · iexact Ho1
    isplitl [Hv0]; · iexact Hv0
    isplitl [Hv1]; · iexact Hv1
    isplitl [HO]; · iexact HO
    iexact Hmw
  iintro %_ H
  isplitl [Hsl]
  · iapply (Entails.of_eq (idle_four d L X qs)); iexact Hsl
  iexact H

end Cert.Proof.Sc

end
-- ==== Proof.Pay.lean ====
/- What the SparseCore call hands each tile and takes back; the tile's own buffers and semaphores. -/
module

public import proofs.«01_k».proof.Proof.Tile

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Arith Cert.Proof.Values

variable {F : FTy → Type} [FloatOps F]

local notation "𝕄" => MT nD τ sig (HIx 1) (Elt F) ℕ UU ℕ
local notation "xV" => (Memref.whole Cert.KernelIdeal.main_v0_scv : Memref Cert.KernelIdeal.sig Kind.scVector Space.hbm Cert.KernelIdeal.S3x543x16384 EltTy.f32)
local notation "oV" => (Memref.whole Cert.KernelIdeal.main_v1_scv : Memref Cert.KernelIdeal.sig Kind.scVector Space.hbm Cert.KernelIdeal.S32x2x1024 EltTy.f32)
local notation "rV" => (Memref.whole Cert.KernelIdeal.cc0_scratch0 : Memref Cert.KernelIdeal.sig Kind.scVector Space.vmem Cert.KernelIdeal.S4x8x2048 EltTy.f32)
local notation "sV" => (Memref.whole Cert.KernelIdeal.cc0_scratch1 : Memref Cert.KernelIdeal.sig Kind.scVector Space.vmem Cert.KernelIdeal.S1024 EltTy.f32)
local notation "qV" => (Memref.whole Cert.KernelIdeal.cc0_scratch2 : Memref Cert.KernelIdeal.sig Kind.scVector Space.vmem Cert.KernelIdeal.S1024 EltTy.f32)

/-! ## The tiles' buffers and semaphores among their threads' own -/

variable (d : Dev nD) (L : grid0.Coords)

abbrev dsem (k : Fin 6) : GSem nD τ sig := (thr d L, SemLoc.dma ⟨k.val, by have := k.isLt; show k.val < 12; omega⟩)

theorem dsem_inj {k k' : Fin 6} (h : k ≠ k') : dsem d L k ≠ dsem d L k' := fun e =>
  h (Fin.ext (congrArg (fun s : SemLoc sig => match s with | .dma x => x.val | _ => 0) (Prod.mk.inj e).2))

theorem dsem_own (k : Fin 6) : dsem d L k ∈ ownCells (thr d L) :=
  (mem_ownCells (g := dsem d L k)).mpr ⟨rfl, (by decide : ∀ k : Fin 6, (SemLoc.dma ⟨k.val, by have := k.isLt; show k.val < 12; omega⟩ : SemLoc sig).isScoped .scVector = true) k⟩

/-- The other semaphores of the tile's thread. -/
def semsRest : sProp 𝕄 := bigSep (ownCells (thr d L) \ Finset.univ.map ⟨dsem d L, fun a b e => by_contra fun h => dsem_inj d L h e⟩) fun g => semVal g 0

theorem ownSems_tile :
    (ownSems0 (thr d L) : sProp 𝕄)
      = iprop((bigSep Finset.univ fun k : Fin 6 => semVal (dsem d L k) 0) ∗ semsRest (F := F) d L) := by
  unfold SparseCore.Cfg.ownSems0 semsRest
  rw [SparseCore.bigSep_sdiff_split' (s := ownCells (thr d L)) (t := Finset.univ.map ⟨dsem d L, fun a b e => by_contra fun h => dsem_inj d L h e⟩)
    (fun g hg => by obtain ⟨k, -, rfl⟩ := Finset.mem_map.mp hg; exact dsem_own d L k), bigSep_map]
  rfl

/-- The other buffers of the tile's thread. -/
def bufsRest : sProp 𝕄 :=
  bigSep ((((ownRefs (τ := τ) (.scVector (cV L) (jV L))).erase ((Proc.scVector (cV L) (jV L)).devRef cc0_scratch0)).erase
      ((Proc.scVector (cV L) (jV L)).devRef cc0_scratch1)).erase ((Proc.scVector (cV L) (jV L)).devRef cc0_scratch2))
    fun b => iprop(∃ f, ((d, b) : Loc nD τ sig) ↦{fullShare} f)

theorem ownBufs_tile :
    (ownBufs (thr d L) : sProp 𝕄)
      = iprop((∃ f, ringLoc d L ↦{fullShare} f) ∗ (∃ f, sLoc d L ↦{fullShare} f) ∗ (∃ f, qLoc d L ↦{fullShare} f) ∗ bufsRest (F := F) d L) := by
  unfold SparseCore.Cfg.ownBufs bufsRest
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
      SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := Proc.scVector (cV L) (jV L)) (b := (Proc.scVector (cV L) (jV L)).devRef cc0_scratch2) rfl⟩⟩)]

/-! ## The ring's four slots -/

theorem slots_disjoint : ∀ p ∈ (Finset.univ : Finset (Fin 4)), ∀ p' ∈ (Finset.univ : Finset (Fin 4)), p ≠ p' → Disjoint (slotSet p.val) (slotSet p'.val) := by
  intro p _ p' _ h
  refine Finset.disjoint_left.mpr fun j hj hj' => h (Fin.ext ?_)
  exact (Finset.mem_filter.mp hj).2.symm.trans (Finset.mem_filter.mp hj').2

theorem slots_cover : (Finset.univ : Finset (Fin 4)).biUnion (fun p => slotSet p.val) = Finset.univ := by
  ext j
  simp only [Finset.mem_biUnion, Finset.mem_univ, true_and, iff_true]
  exact ⟨⟨(j 0).val, (j 0).isLt⟩, Finset.mem_filter.mpr ⟨Finset.mem_univ _, rfl⟩⟩

theorem slot_some (p : ℕ) (f : FVec F S4x8x2048 .f32) :
    (ringLoc d L ↦[slotSet p]{fullShare} f : sProp 𝕄) ⊢ iprop(∃ f, ringLoc d L ↦[slotSet p]{fullShare} f) := by
  iintro H; iexists f; iexact H

theorem ring_split (f : FVec F S4x8x2048 .f32) :
    (ringLoc d L ↦{fullShare} f : sProp 𝕄) ⊢ bigSep Finset.univ fun p : Fin 4 => iprop(∃ f, ringLoc d L ↦[slotSet p.val]{fullShare} f) := by
  have e : (ringLoc d L ↦{fullShare} f : sProp 𝕄) = bigSep Finset.univ fun p : Fin 4 => (ringLoc d L ↦[slotSet p.val]{fullShare} f) := by
    rw [← pointsTo_biUnion Finset.univ (ℓ := ringLoc d L) (fun p : Fin 4 => slotSet p.val) slots_disjoint, slots_cover]
  rw [e]
  exact bigSep_mono fun p _ => slot_some d L p.val f

theorem ring_join :
    (bigSep Finset.univ fun p : Fin 4 => iprop(∃ f, ringLoc d L ↦[slotSet p.val]{fullShare} f)) ⊢ (iprop(∃ f, ringLoc d L ↦{fullShare} f) : sProp 𝕄) := by
  haveI : Nonempty (FVec F S4x8x2048 .f32) := ⟨fun _ => z0⟩
  refine (bigSep_exists_pi Finset.univ (fun (p : Fin 4) (f : FVec F S4x8x2048 .f32) => (ringLoc d L ↦[slotSet p.val]{fullShare} f : sProp 𝕄))).trans ?_
  iintro ⟨%fs, H⟩
  have : Nonempty (Buf (Elt F) (ringLoc d L)) := ⟨fs 0⟩
  ihave H' := (pointsTo_biUnion_join (ℓ := ringLoc d L) (q := fullShare) (Val := Elt F) Finset.univ (fun p : Fin 4 => slotSet p.val) fs (fs 0) slots_disjoint) $$ H
  icases H' with ⟨%g, -, Hg⟩
  rw [slots_cover]
  iexists g; iexact Hg

/-! ## What a tile is handed -/

/-- Slot `p`'s share of the input, of tile `(c, s)`'s. -/
def qT (c : Fin 2) (s : Fin 16) (p : Fin 4) : PosShare TreeShare :=
  Transfers.dealOf (Transfers.dealOf (Transfers.dealOf fullShare Finset.univ c) Finset.univ s) Finset.univ p

/-- A tile's part: its shares of the input `X`, its two rows of the output, at `g`. -/
def part (d : Dev nD) (X : FVec F S3x543x16384 .f32) (g : FVec F S32x2x1024 .f32) (c : Fin 2) (s : Fin 16) : sProp 𝕄 :=
  iprop((bigSep Finset.univ fun p : Fin 4 => (xLoc d ↦{qT c s p} X)) ∗ bigSep Finset.univ fun b : Fin 2 => (outLoc d ↦[rowSet (2 * s.val + c.val) b.val]{fullShare} g))

abbrev rowIx : Finset (Fin 2 × Fin 16 × Fin 2) := Finset.univ
abbrev rowOf (i : Fin 2 × Fin 16 × Fin 2) : Finset S32x2x1024.Idx := rowSet (2 * i.2.1.val + i.1.val) i.2.2.val

theorem rows_disjoint : ∀ i ∈ rowIx, ∀ i' ∈ rowIx, i ≠ i' → Disjoint (rowOf i) (rowOf i') := by
  rintro ⟨c, s, b⟩ _ ⟨c', s', b'⟩ _ h
  refine Finset.disjoint_left.mpr fun j hj hj' => h ?_
  have h1 := (Finset.mem_filter.mp hj).2
  have h2 := (Finset.mem_filter.mp hj').2
  dsimp only at h1 h2
  refine Prod.ext (Fin.ext ?_) (Prod.ext (Fin.ext ?_) (Fin.ext ?_)) <;> dsimp only <;> omega

theorem rows_cover : rowIx.biUnion rowOf = Finset.univ := by
  ext j
  simp only [Finset.mem_biUnion, Finset.mem_univ, true_and, iff_true]
  have h0 : (j 0).val < 32 := (j 0).isLt
  have h1 : (j 1).val < 2 := (j 1).isLt
  refine ⟨(⟨(j 0).val % 2, by omega⟩, ⟨(j 0).val / 2, by omega⟩, ⟨(j 1).val, h1⟩), Finset.mem_filter.mpr ⟨Finset.mem_univ _, ?_, rfl⟩⟩
  show (j 0).val = 2 * ((j 0).val / 2) + (j 0).val % 2
  omega

/-- The input and the output whole are the tiles' parts. -/
theorem parts_eq (d : Dev nD) (X : FVec F S3x543x16384 .f32) (g : FVec F S32x2x1024 .f32) :
    (iprop((xLoc d ↦{fullShare} X) ∗ (outLoc d ↦{fullShare} g)) : sProp 𝕄) = bigSep Finset.univ fun c : Fin 2 => bigSep Finset.univ fun s : Fin 16 => part d X g c s := by
  have hx : (xLoc d ↦{fullShare} X : sProp 𝕄) = bigSep Finset.univ fun c : Fin 2 => bigSep Finset.univ fun s : Fin 16 => bigSep Finset.univ fun p : Fin 4 => (xLoc d ↦{qT c s p} X) := by
    rw [Transfers.pointsTo_deal (Finset.univ : Finset (Fin 2)) Finset.univ_nonempty fullShare]
    refine bigSep_congr fun c _ => ?_
    rw [Transfers.pointsTo_deal (Finset.univ : Finset (Fin 16)) Finset.univ_nonempty]
    refine bigSep_congr fun s _ => ?_
    rw [Transfers.pointsTo_deal (Finset.univ : Finset (Fin 4)) Finset.univ_nonempty]
    rfl
  have ho : (outLoc d ↦{fullShare} g : sProp 𝕄) = bigSep Finset.univ fun c : Fin 2 => bigSep Finset.univ fun s : Fin 16 => bigSep Finset.univ fun b : Fin 2 => (outLoc d ↦[rowSet (2 * s.val + c.val) b.val]{fullShare} g) := by
    have e : (outLoc d ↦{fullShare} g : sProp 𝕄) = bigSep rowIx fun i => (outLoc d ↦[rowOf i]{fullShare} g) := by
      rw [← pointsTo_biUnion rowIx (ℓ := outLoc d) rowOf rows_disjoint, rows_cover]
    rw [e, bigSep_univ_prod]
    refine bigSep_congr fun c _ => ?_
    rw [bigSep_univ_prod]
  rw [hx, ho, ← bigSep_sep']
  refine bigSep_congr fun c _ => ?_
  rw [← bigSep_sep']
  rfl

end Cert.Proof.Sc

end
-- ==== Proof.Oblig.lean ====
/- A tile's task proved, and the SparseCore call's obligations. -/
module

public import proofs.«01_k».proof.Proof.Pay

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Arith Cert.Proof.Values

variable {F : FTy → Type} [FloatOps F]

local notation "𝕄" => MT nD τ sig (HIx 1) (Elt F) ℕ UU ℕ
local notation "xV" => (Memref.whole Cert.KernelIdeal.main_v0_scv : Memref Cert.KernelIdeal.sig Kind.scVector Space.hbm Cert.KernelIdeal.S3x543x16384 EltTy.f32)
local notation "oV" => (Memref.whole Cert.KernelIdeal.main_v1_scv : Memref Cert.KernelIdeal.sig Kind.scVector Space.hbm Cert.KernelIdeal.S32x2x1024 EltTy.f32)
local notation "rV" => (Memref.whole Cert.KernelIdeal.cc0_scratch0 : Memref Cert.KernelIdeal.sig Kind.scVector Space.vmem Cert.KernelIdeal.S4x8x2048 EltTy.f32)
local notation "sV" => (Memref.whole Cert.KernelIdeal.cc0_scratch1 : Memref Cert.KernelIdeal.sig Kind.scVector Space.vmem Cert.KernelIdeal.S1024 EltTy.f32)
local notation "qV" => (Memref.whole Cert.KernelIdeal.cc0_scratch2 : Memref Cert.KernelIdeal.sig Kind.scVector Space.vmem Cert.KernelIdeal.S1024 EltTy.f32)

section Tile

variable (d : Dev nD) (L : grid0.Coords) (X : FVec F S3x543x16384 .f32)

abbrev cL (L : grid0.Coords) : Fin 2 := ⟨(L 0).val, (L 0).isLt⟩
abbrev jL (L : grid0.Coords) : Fin 16 := ⟨(L 1).val, (L 1).isLt⟩

theorem sems_split : (bigSep Finset.univ fun k : Fin 6 => semVal (dsem d L k) 0 : sProp 𝕄)
    = iprop((bigSep Finset.univ fun p : Fin 4 => semVal (thr d L, SemLoc.dma (semP p.val)) 0) ∗ semVal (sem0 d L) 0 ∗ semVal (sem1 d L) 0) := by
  rw [bigSep_univ_equiv (finSumFinEquiv (m := 4) (n := 2)) (fun k : Fin 6 => (semVal (dsem d L k) 0 : sProp 𝕄)), bigSep_univ_sum, bigSep_fin_two]
  rfl

theorem idle_make (qs : Fin 4 → PosShare TreeShare) :
    iprop((bigSep Finset.univ fun p : Fin 4 => iprop(∃ f, ringLoc d L ↦[slotSet p.val]{fullShare} f))
        ∗ (bigSep Finset.univ fun p : Fin 4 => semVal (thr d L, SemLoc.dma (semP p.val)) 0) ∗ bigSep Finset.univ fun p : Fin 4 => (xLoc d ↦{qs p} X))
      = (bigSep Finset.univ fun p : Fin 4 => Idle d L X p.val (qs p) : sProp 𝕄) := by
  rw [← bigSep_sep', ← bigSep_sep']
  rfl

theorem part_eq (g : FVec F S32x2x1024 .f32) :
    part d X g (cL L) (jL L) = iprop((bigSep Finset.univ fun p : Fin 4 => (xLoc d ↦{qT (cL L) (jL L) p} X))
      ∗ (outLoc d ↦[rowSet (wid L) 0]{fullShare} g) ∗ (outLoc d ↦[rowSet (wid L) 1]{fullShare} g)) := by
  unfold part
  rw [bigSep_fin_two]
  rfl

set_option maxHeartbeats 4000000 in
/-- The task of tile `L`: from its part of the input and the output, the output's rows at the tile's sums. -/
theorem tile_body (hF : (K (F := F)).Facts) (g : FVec F S32x2x1024 .f32) (O : CellTallies nD τ sig (HIx 1)) (W : Waits sig (HIx 1)) (hO : ∀ g, O g none = 0) :
    iprop(levAts (K (F := F)).L (K (F := F)).lev ∗ emp ∗ part d X g (cL L) (jL L)
        ∗ scopedBufs (thr d L) ∗ scopedSems0 (thr d L) ∗ owes (thr d L) O W)
      ⊢ wp frame (wpE (defs₀ (F := F)) 𝒱₀ (thr d L) none) Set.univ
          (cc0_body L xV (Memref.isWhole_whole _) oV (Memref.isWhole_whole _) rV (Memref.isWhole_whole _) sV (Memref.isWhole_whole _)
            qV (Memref.isWhole_whole _) cc0_scratch3 cc0_scoped0 cc0_scoped1)
          fun _ => iprop(part d X (scOut X) (cL L) (jL L) ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems_tile, ownBufs_tile, sems_split]
  rw [part_eq, part_eq]
  iintro ⟨#Hlv, -, ⟨Hx, Ho0, Ho1⟩, ⟨⟨%fr, Hr⟩, ⟨%fs, Hs⟩, ⟨%fq, Hq⟩, Hbufs⟩, ⟨⟨Hv, Hv0, Hv1⟩, Hsems⟩, HO⟩
  ihave #Hmw := (show levAts (K (F := F)).L (K (F := F)).lev ⊢ Transfers.MayWaits (thr d L) (default : HIx 1) O from
    (K (F := F)).mayWaits_none (thr := thr d L) hO) $$ Hlv
  ihave Hr := (ring_split d L fr) $$ Hr
  iapply (wp_wand_r frame (wpE (defs₀ (F := F)) 𝒱₀ (thr d L) none) Set.univ)
  isplitr [Hbufs Hsems]
  · iapply (tile_run d L X (qT (cL L) (jL L)) O W g g)
    isplitl [Hr Hv Hx]
    · iapply (Entails.of_eq (idle_make d L X (qT (cL L) (jL L))))
      isplitl [Hr]; · iexact Hr
      isplitl [Hv]; · iexact Hv
      iexact Hx
    isplitl [Hs]; · iapply (sz_start d L fs); unfold SA; iexact Hs
    isplitl [Hq]; · iapply (qz_start d L fq); unfold QA; iexact Hq
    isplitl [Ho0]; · iexact Ho0
    isplitl [Ho1]; · iexact Ho1
    isplitl [Hv0]; · iexact Hv0
    isplitl [Hv1]; · iexact Hv1
    isplitl [HO]; · iexact HO
    iexact Hmw
  iintro %_ ⟨Hi, ⟨%fs, Hs⟩, ⟨%fq, Hq⟩, Ho0, Ho1, Hv0, Hv1, HO⟩
  ihave Hi := (Entails.of_eq (idle_make d L X (qT (cL L) (jL L))).symm) $$ Hi
  icases Hi with ⟨Hr, Hv, Hx⟩
  ihave Hr := (ring_join d L) $$ Hr
  isplitl [Hx Ho0 Ho1]
  · isplitl [Hx]; · iexact Hx
    isplitl [Ho0]; · iexact Ho0
    iexact Ho1
  isplitl [Hr Hs Hq Hbufs]
  · isplitl [Hr]; · iexact Hr
    isplitl [Hs]; · iexists fs; unfold SA; iexact Hs
    isplitl [Hq]; · iexists fq; unfold QA; iexact Hq
    iexact Hbufs
  isplitl [Hv Hv0 Hv1 Hsems]
  · isplitr [Hsems]
    · isplitl [Hv]; · iexact Hv
      isplitl [Hv0]; · iexact Hv0
      iexact Hv1
    iexact Hsems
  unfold Owe
  iexact HO

end Tile

/-! ## What the call carries, and its obligations -/

variable (X : Dev nD → FVec F S3x543x16384 .f32) (G : Dev nD → FVec F S32x2x1024 .f32)

/-- The call takes the input and the output by tiles and brings them back, the output at the tiles' sums. -/
def P : (K (F := F)).Pay (nD := nD) (Val := Elt F) (Name := ℕ) (U := UU) where
  st := fun q d c => match q with | 0 => bigSep Finset.univ fun s : Fin 16 => part d (X d) (G d) c s
  dn := fun q d c => match q with | 0 => bigSep Finset.univ fun s : Fin 16 => part d (X d) (scOut (X d)) c s
  go := fun q d c s => match q with | 0 => part d (X d) (G d) c s
  td := fun q d c s => match q with | 0 => part d (X d) (scOut (X d)) c s
  x := fun _ _ => iprop(emp)

instance part_storable (d : Dev nD) (X : FVec F S3x543x16384 .f32) (g : FVec F S32x2x1024 .f32) (c : Fin 2) (s : Fin 16) :
    BI.Storable (upEmb : UEmb _ 𝕄) (part d X g c s) := by
  unfold part; infer_instance

instance P_storable : (P (F := F) X G).IsStorable where
  st q d c := match q with | 0 => (inferInstance : BI.Storable (upEmb : UEmb _ 𝕄) (bigSep Finset.univ fun s : Fin 16 => part d (X d) (G d) c s))
  dn q d c := match q with | 0 => (inferInstance : BI.Storable (upEmb : UEmb _ 𝕄) (bigSep Finset.univ fun s : Fin 16 => part d (X d) (scOut (X d)) c s))
  go q d c s := match q with | 0 => part_storable d (X d) (G d) c s
  td q d c s := match q with | 0 => part_storable d (X d) (scOut (X d)) c s

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_body (coordsV c s) xV (Memref.isWhole_whole _) oV (Memref.isWhole_whole _) rV (Memref.isWhole_whole _)
          sV (Memref.isWhole_whole _) qV (Memref.isWhole_whole _) cc0_scratch3 cc0_scoped0 cc0_scoped1) ⟨⟩ c s := rfl

theorem post_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P X G) v₀ 0 := by
  intro d c i O W hO _ _
  simp only [show (P X G).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (X d) hF (G d) O W hO).trans (wp_mono frame _ _ fun _ => post_weaken)

theorem vecSplit : (K (F := F)).VecSplit' (P X G) 0 := by
  intro d c
  show (bigSep Finset.univ fun s : Fin 16 => part d (X d) (G d) c s) ⊢ |={Set.univ}=> iprop(
      (bigSep Finset.univ fun s : Fin 16 => part d (X d) (G d) c s)
      ∗ ((bigSep Finset.univ fun s : Fin 16 => part d (X d) (scOut (X d)) c s) -∗ bigSep Finset.univ fun s : Fin 16 => part d (X d) (scOut (X d)) c s))
  iintro H; imodintro
  isplitl [H]; · iexact H
  iintro H; iexact H

theorem st_eq (d : Dev nD) : (bigSep Finset.univ fun c : Fin ((K (F := F)).nCore 0) => (P X G).st 0 d c)
    = iprop((xLoc d ↦{fullShare} X d) ∗ (outLoc d ↦{fullShare} G d)) := (parts_eq d (X d) (G d)).symm
theorem dn_eq (d : Dev nD) : (bigSep Finset.univ fun c : Fin ((K (F := F)).nCore 0) => (P X G).dn 0 d c)
    = iprop((xLoc d ↦{fullShare} X d) ∗ (outLoc d ↦{fullShare} scOut (X d))) := (parts_eq d (X d) (scOut (X d))).symm

end Cert.Proof.Sc

end
-- ==== Proof.Host.lean ====
/- The operations of @main around its two kernels, as two lists, and @main as their sequence with the two calls. -/
module

public import proofs.«01_k».proof.Proof.Oblig

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Arith Cert.Proof.Values

variable {F : FTy → Type} [FloatOps F]

local notation "𝕄" => MT nD τ sig (HIx 1) (Elt F) ℕ UU ℕ
local notation "xV" => (Memref.whole Cert.KernelIdeal.main_v0_scv : Memref Cert.KernelIdeal.sig Kind.scVector Space.hbm Cert.KernelIdeal.S3x543x16384 EltTy.f32)
local notation "oV" => (Memref.whole Cert.KernelIdeal.main_v1_scv : Memref Cert.KernelIdeal.sig Kind.scVector Space.hbm Cert.KernelIdeal.S32x2x1024 EltTy.f32)
local notation "rV" => (Memref.whole Cert.KernelIdeal.cc0_scratch0 : Memref Cert.KernelIdeal.sig Kind.scVector Space.vmem Cert.KernelIdeal.S4x8x2048 EltTy.f32)
local notation "sV" => (Memref.whole Cert.KernelIdeal.cc0_scratch1 : Memref Cert.KernelIdeal.sig Kind.scVector Space.vmem Cert.KernelIdeal.S1024 EltTy.f32)
local notation "qV" => (Memref.whole Cert.KernelIdeal.cc0_scratch2 : Memref Cert.KernelIdeal.sig Kind.scVector Space.vmem Cert.KernelIdeal.S1024 EltTy.f32)

open Idealize.ShloMosaic.StableHlo

/-- What @main does before the kernels: the two index tables, and the transposed input. -/
def opsPre : List (HloOp τ sig (Elt F)) :=
  [ nullary main_c (fun i => lit0 (S201.rowMajor i)),
    nullary main_c_0 (fun i => lit1 (S201.rowMajor i)),
    unary main_arg0 main_v0 ((transpose S3x543x16384 [2, 1, 0] · transposes_S16384x543x3_S3x543x16384_2_1_0) : (⟨S16384x543x3, .f32⟩ : BufTy).Contents (Elt F) → (⟨S3x543x16384, .f32⟩ : BufTy).Contents (Elt F)) ]

/-- A row put behind the tiles' rows. -/
def joinRows : (⟨S256x2x8, .f32⟩ : BufTy).Contents (Elt F) → (⟨S1x2x8, .f32⟩ : BufTy).Contents (Elt F) → (⟨S257x2x8, .f32⟩ : BufTy).Contents (Elt F) :=
  (fun a b => concatenate S257x2x8 0 [⟨S256x2x8, a⟩, ⟨S1x2x8, b⟩] concatenates_S256x2x8_S1x2x8_S257x2x8_d0)

/-- The landmarks the tiles took, and the others. -/
def joinLandmarks : (⟨S3x536, .f32⟩ : BufTy).Contents (Elt F) → (⟨S3x7, .f32⟩ : BufTy).Contents (Elt F) → (⟨S3x543, .f32⟩ : BufTy).Contents (Elt F) :=
  (fun a b => concatenate S3x543 1 [⟨S3x536, a⟩, ⟨S3x7, b⟩] concatenates_S3x536_S3x7_S3x543_d1)

/-- The means, and the deviations. -/
def joinResults : (⟨S1629, .f32⟩ : BufTy).Contents (Elt F) → (⟨S1629, .f32⟩ : BufTy).Contents (Elt F) → (⟨S3258, .f32⟩ : BufTy).Contents (Elt F) :=
  (fun a b => concatenate S3258 0 [⟨S1629, a⟩, ⟨S1629, b⟩] concatenates_S1629_S1629_S3258_d0)

set_option maxHeartbeats 4000000 in
/-- What @main does after them. -/
def opsPost : List (HloOp τ sig (Elt F)) :=
  [ reshape main_v1 main_v3 (rfl : (.f32 : EltTy) = .f32) shapeCasts_S32x2x1024_S32x2x8x8x16,
    nullary main_cst (constant S_ .f32 0x00000000#32),
    binary main_v3 main_cst main_v4 ((fun x v => Host.reduceAdd x v reducesTo_S32x2x8x8x16_S32x2x8x8_d4 h_S_) : (⟨S32x2x8x8x16, .f32⟩ : BufTy).Contents (Elt F) → (⟨S_, .f32⟩ : BufTy).Contents (Elt F) → (⟨S32x2x8x8, .f32⟩ : BufTy).Contents (Elt F)),
    unary main_v4 main_v5 ((transpose S32x8x2x8 [0, 2, 1, 3] · transposes_S32x2x8x8_S32x8x2x8_0_2_1_3) : (⟨S32x2x8x8, .f32⟩ : BufTy).Contents (Elt F) → (⟨S32x8x2x8, .f32⟩ : BufTy).Contents (Elt F)),
    reshape main_v5 main_v6 (rfl : (.f32 : EltTy) = .f32) shapeCasts_S32x8x2x8_S256x2x8,
    nullary main_cst_1 (constant S_ .f32 0x00000000#32),
    unary main_cst_1 main_v7 (broadcastInDim S1x2x8 ![] bcast_S_S1x2x8 : (⟨S_, .f32⟩ : BufTy).Contents (Elt F) → (⟨S1x2x8, .f32⟩ : BufTy).Contents (Elt F)),
    binary main_v6 main_v7 main_v8 (joinRows : (⟨S256x2x8, .f32⟩ : BufTy).Contents (Elt F) → (⟨S1x2x8, .f32⟩ : BufTy).Contents (Elt F) → (⟨S257x2x8, .f32⟩ : BufTy).Contents (Elt F)),
    nullary main_c_2 (constantI S_ 32 0#32),
    unary main_c_2 main_v9 (broadcastInDim S201 ![] bcast_S_S201 : (⟨S_, .i32⟩ : BufTy).Contents (Elt F) → (⟨S201, .i32⟩ : BufTy).Contents (Elt F)),
    binary main_c main_v9 main_v10 (cmpi .slt : (⟨S201, .i32⟩ : BufTy).Contents (Elt F) → (⟨S201, .i32⟩ : BufTy).Contents (Elt F) → (⟨S201, .i1⟩ : BufTy).Contents (Elt F)),
    nullary main_c_3 (constantI S_ 32 257#32),
    unary main_c_3 main_v11 (broadcastInDim S201 ![] bcast_S_S201 : (⟨S_, .i32⟩ : BufTy).Contents (Elt F) → (⟨S201, .i32⟩ : BufTy).Contents (Elt F)),
    binary main_c main_v11 main_v12 (addi : (⟨S201, .i32⟩ : BufTy).Contents (Elt F) → (⟨S201, .i32⟩ : BufTy).Contents (Elt F) → (⟨S201, .i32⟩ : BufTy).Contents (Elt F)),
    ternary main_v10 main_v12 main_c main_v13 (select : (⟨S201, .i1⟩ : BufTy).Contents (Elt F) → (⟨S201, .i32⟩ : BufTy).Contents (Elt F) → (⟨S201, .i32⟩ : BufTy).Contents (Elt F) → (⟨S201, .i32⟩ : BufTy).Contents (Elt F)),
    unary main_v13 main_v14 (broadcastInDim S201x1 ![0] bcast_S201_S201x1_0 : (⟨S201, .i32⟩ : BufTy).Contents (Elt F) → (⟨S201x1, .i32⟩ : BufTy).Contents (Elt F)),
    binary main_v8 main_v14 main_v15 ((fun x i => Host.gather gather_S257x2x8_S201x1_S201x2x8_12_0_n_n_0_1_128 x i) : (⟨S257x2x8, .f32⟩ : BufTy).Contents (Elt F) → (⟨S201x1, .i32⟩ : BufTy).Contents (Elt F) → (⟨S201x2x8, .f32⟩ : BufTy).Contents (Elt F)),
    nullary main_c_4 (constantI S_ 32 0#32),
    unary main_c_4 main_v16 (broadcastInDim S201 ![] bcast_S_S201 : (⟨S_, .i32⟩ : BufTy).Contents (Elt F) → (⟨S201, .i32⟩ : BufTy).Contents (Elt F)),
    binary main_c_0 main_v16 main_v17 (cmpi .slt : (⟨S201, .i32⟩ : BufTy).Contents (Elt F) → (⟨S201, .i32⟩ : BufTy).Contents (Elt F) → (⟨S201, .i1⟩ : BufTy).Contents (Elt F)),
    nullary main_c_5 (constantI S_ 32 257#32),
    unary main_c_5 main_v18 (broadcastInDim S201 ![] bcast_S_S201 : (⟨S_, .i32⟩ : BufTy).Contents (Elt F) → (⟨S201, .i32⟩ : BufTy).Contents (Elt F)),
    binary main_c_0 main_v18 main_v19 (addi : (⟨S201, .i32⟩ : BufTy).Contents (Elt F) → (⟨S201, .i32⟩ : BufTy).Contents (Elt F) → (⟨S201, .i32⟩ : BufTy).Contents (Elt F)),
    ternary main_v17 main_v19 main_c_0 main_v20 (select : (⟨S201, .i1⟩ : BufTy).Contents (Elt F) → (⟨S201, .i32⟩ : BufTy).Contents (Elt F) → (⟨S201, .i32⟩ : BufTy).Contents (Elt F) → (⟨S201, .i32⟩ : BufTy).Contents (Elt F)),
    unary main_v20 main_v21 (broadcastInDim S201x1 ![0] bcast_S201_S201x1_0 : (⟨S201, .i32⟩ : BufTy).Contents (Elt F) → (⟨S201x1, .i32⟩ : BufTy).Contents (Elt F)),
    binary main_v8 main_v21 main_v22 ((fun x i => Host.gather gather_S257x2x8_S201x1_S201x2x8_12_0_n_n_0_1_128 x i) : (⟨S257x2x8, .f32⟩ : BufTy).Contents (Elt F) → (⟨S201x1, .i32⟩ : BufTy).Contents (Elt F) → (⟨S201x2x8, .f32⟩ : BufTy).Contents (Elt F)),
    binary main_v15 main_v22 main_v23 (addf : (⟨S201x2x8, .f32⟩ : BufTy).Contents (Elt F) → (⟨S201x2x8, .f32⟩ : BufTy).Contents (Elt F) → (⟨S201x2x8, .f32⟩ : BufTy).Contents (Elt F)),
    reshape main_v23 main_v24 (rfl : (.f32 : EltTy) = .f32) shapeCasts_S201x2x8_S3x67x2x8,
    unary main_v24 main_v25 ((transpose S2x3x67x8 [2, 0, 1, 3] · transposes_S3x67x2x8_S2x3x67x8_2_0_1_3) : (⟨S3x67x2x8, .f32⟩ : BufTy).Contents (Elt F) → (⟨S2x3x67x8, .f32⟩ : BufTy).Contents (Elt F)),
    reshape main_v25 main_v26 (rfl : (.f32 : EltTy) = .f32) shapeCasts_S2x3x67x8_S2x3x536,
    nullary main_cst_6 (constant S_ .f32 0x00000000#32),
    binary main_v2_0 main_cst_6 main_v27 ((fun x v => Host.reduceAdd x v reducesTo_S3x543x128_S3x543_d2 h_S_) : (⟨S3x543x128, .f32⟩ : BufTy).Contents (Elt F) → (⟨S_, .f32⟩ : BufTy).Contents (Elt F) → (⟨S3x543, .f32⟩ : BufTy).Contents (Elt F)),
    nullary main_cst_7 (constant S_ .f32 0x00000000#32),
    binary main_v2_1 main_cst_7 main_v28 ((fun x v => Host.reduceAdd x v reducesTo_S3x543x128_S3x543_d2 h_S_) : (⟨S3x543x128, .f32⟩ : BufTy).Contents (Elt F) → (⟨S_, .f32⟩ : BufTy).Contents (Elt F) → (⟨S3x543, .f32⟩ : BufTy).Contents (Elt F)),
    unary main_arg0 main_v29 ((extractStridedSlice S12288x7x3 ![0, 536, 0] · slices_S16384x543x3_S12288x7x3_0_536_0) : (⟨S16384x543x3, .f32⟩ : BufTy).Contents (Elt F) → (⟨S12288x7x3, .f32⟩ : BufTy).Contents (Elt F)),
    nullary main_cst_8 (constant S_ .f32 0x00000000#32),
    binary main_v29 main_cst_8 main_v30 ((fun x v => Host.reduceAdd x v reducesTo_S12288x7x3_S7x3_d0 h_S_) : (⟨S12288x7x3, .f32⟩ : BufTy).Contents (Elt F) → (⟨S_, .f32⟩ : BufTy).Contents (Elt F) → (⟨S7x3, .f32⟩ : BufTy).Contents (Elt F)),
    unary main_v30 main_v31 ((transpose S3x7 [1, 0] · transposes_S7x3_S3x7_1_0) : (⟨S7x3, .f32⟩ : BufTy).Contents (Elt F) → (⟨S3x7, .f32⟩ : BufTy).Contents (Elt F)),
    binary main_v29 main_v29 main_v32 (mulf : (⟨S12288x7x3, .f32⟩ : BufTy).Contents (Elt F) → (⟨S12288x7x3, .f32⟩ : BufTy).Contents (Elt F) → (⟨S12288x7x3, .f32⟩ : BufTy).Contents (Elt F)),
    nullary main_cst_9 (constant S_ .f32 0x00000000#32),
    binary main_v32 main_cst_9 main_v33 ((fun x v => Host.reduceAdd x v reducesTo_S12288x7x3_S7x3_d0 h_S_) : (⟨S12288x7x3, .f32⟩ : BufTy).Contents (Elt F) → (⟨S_, .f32⟩ : BufTy).Contents (Elt F) → (⟨S7x3, .f32⟩ : BufTy).Contents (Elt F)),
    unary main_v33 main_v34 ((transpose S3x7 [1, 0] · transposes_S7x3_S3x7_1_0) : (⟨S7x3, .f32⟩ : BufTy).Contents (Elt F) → (⟨S3x7, .f32⟩ : BufTy).Contents (Elt F)),
    unary main_v26 main_v35 ((extractStridedSlice S1x3x536 ![0, 0, 0] · slices_S2x3x536_S1x3x536_0_0_0) : (⟨S2x3x536, .f32⟩ : BufTy).Contents (Elt F) → (⟨S1x3x536, .f32⟩ : BufTy).Contents (Elt F)),
    reshape main_v35 main_v36 (rfl : (.f32 : EltTy) = .f32) shapeCasts_S1x3x536_S3x536,
    unary main_v27 main_v37 ((extractStridedSlice S3x536 ![0, 0] · slices_S3x543_S3x536_0_0) : (⟨S3x543, .f32⟩ : BufTy).Contents (Elt F) → (⟨S3x536, .f32⟩ : BufTy).Contents (Elt F)),
    binary main_v36 main_v37 main_v38 (addf : (⟨S3x536, .f32⟩ : BufTy).Contents (Elt F) → (⟨S3x536, .f32⟩ : BufTy).Contents (Elt F) → (⟨S3x536, .f32⟩ : BufTy).Contents (Elt F)),
    unary main_v27 main_v39 ((extractStridedSlice S3x7 ![0, 536] · slices_S3x543_S3x7_0_536) : (⟨S3x543, .f32⟩ : BufTy).Contents (Elt F) → (⟨S3x7, .f32⟩ : BufTy).Contents (Elt F)),
    binary main_v31 main_v39 main_v40 (addf : (⟨S3x7, .f32⟩ : BufTy).Contents (Elt F) → (⟨S3x7, .f32⟩ : BufTy).Contents (Elt F) → (⟨S3x7, .f32⟩ : BufTy).Contents (Elt F)),
    binary main_v38 main_v40 main_v41 (joinLandmarks : (⟨S3x536, .f32⟩ : BufTy).Contents (Elt F) → (⟨S3x7, .f32⟩ : BufTy).Contents (Elt F) → (⟨S3x543, .f32⟩ : BufTy).Contents (Elt F)),
    unary main_v26 main_v42 ((extractStridedSlice S1x3x536 ![1, 0, 0] · slices_S2x3x536_S1x3x536_1_0_0) : (⟨S2x3x536, .f32⟩ : BufTy).Contents (Elt F) → (⟨S1x3x536, .f32⟩ : BufTy).Contents (Elt F)),
    reshape main_v42 main_v43 (rfl : (.f32 : EltTy) = .f32) shapeCasts_S1x3x536_S3x536,
    unary main_v28 main_v44 ((extractStridedSlice S3x536 ![0, 0] · slices_S3x543_S3x536_0_0) : (⟨S3x543, .f32⟩ : BufTy).Contents (Elt F) → (⟨S3x536, .f32⟩ : BufTy).Contents (Elt F)),
    binary main_v43 main_v44 main_v45 (addf : (⟨S3x536, .f32⟩ : BufTy).Contents (Elt F) → (⟨S3x536, .f32⟩ : BufTy).Contents (Elt F) → (⟨S3x536, .f32⟩ : BufTy).Contents (Elt F)),
    unary main_v28 main_v46 ((extractStridedSlice S3x7 ![0, 536] · slices_S3x543_S3x7_0_536) : (⟨S3x543, .f32⟩ : BufTy).Contents (Elt F) → (⟨S3x7, .f32⟩ : BufTy).Contents (Elt F)),
    binary main_v34 main_v46 main_v47 (addf : (⟨S3x7, .f32⟩ : BufTy).Contents (Elt F) → (⟨S3x7, .f32⟩ : BufTy).Contents (Elt F) → (⟨S3x7, .f32⟩ : BufTy).Contents (Elt F)),
    binary main_v45 main_v47 main_v48 (joinLandmarks : (⟨S3x536, .f32⟩ : BufTy).Contents (Elt F) → (⟨S3x7, .f32⟩ : BufTy).Contents (Elt F) → (⟨S3x543, .f32⟩ : BufTy).Contents (Elt F)),
    unary main_v41 main_v49 ((transpose S543x3 [1, 0] · transposes_S3x543_S543x3_1_0) : (⟨S3x543, .f32⟩ : BufTy).Contents (Elt F) → (⟨S543x3, .f32⟩ : BufTy).Contents (Elt F)),
    reshape main_v49 main_v50 (rfl : (.f32 : EltTy) = .f32) shapeCasts_S543x3_S1629,
    unary main_v48 main_v51 ((transpose S543x3 [1, 0] · transposes_S3x543_S543x3_1_0) : (⟨S3x543, .f32⟩ : BufTy).Contents (Elt F) → (⟨S543x3, .f32⟩ : BufTy).Contents (Elt F)),
    reshape main_v51 main_v52 (rfl : (.f32 : EltTy) = .f32) shapeCasts_S543x3_S1629,
    nullary main_cst_10 (constant S_ .f32 0x46800000#32),
    unary main_cst_10 main_v53 (broadcastInDim S1629 ![] bcast_S_S1629 : (⟨S_, .f32⟩ : BufTy).Contents (Elt F) → (⟨S1629, .f32⟩ : BufTy).Contents (Elt F)),
    binary main_v50 main_v53 main_v54 (Host.divf : (⟨S1629, .f32⟩ : BufTy).Contents (Elt F) → (⟨S1629, .f32⟩ : BufTy).Contents (Elt F) → (⟨S1629, .f32⟩ : BufTy).Contents (Elt F)),
    nullary main_cst_11 (constant S_ .f32 0x46800000#32),
    unary main_cst_11 main_v55 (broadcastInDim S1629 ![] bcast_S_S1629 : (⟨S_, .f32⟩ : BufTy).Contents (Elt F) → (⟨S1629, .f32⟩ : BufTy).Contents (Elt F)),
    binary main_v52 main_v55 main_v56 (Host.divf : (⟨S1629, .f32⟩ : BufTy).Contents (Elt F) → (⟨S1629, .f32⟩ : BufTy).Contents (Elt F) → (⟨S1629, .f32⟩ : BufTy).Contents (Elt F)),
    binary main_v54 main_v54 main_v57 (mulf : (⟨S1629, .f32⟩ : BufTy).Contents (Elt F) → (⟨S1629, .f32⟩ : BufTy).Contents (Elt F) → (⟨S1629, .f32⟩ : BufTy).Contents (Elt F)),
    binary main_v56 main_v57 main_v58 (subf : (⟨S1629, .f32⟩ : BufTy).Contents (Elt F) → (⟨S1629, .f32⟩ : BufTy).Contents (Elt F) → (⟨S1629, .f32⟩ : BufTy).Contents (Elt F)),
    unary main_v58 main_v59 (Host.sqrt : (⟨S1629, .f32⟩ : BufTy).Contents (Elt F) → (⟨S1629, .f32⟩ : BufTy).Contents (Elt F)),
    binary main_v54 main_v59 main_v60 (joinResults : (⟨S1629, .f32⟩ : BufTy).Contents (Elt F) → (⟨S1629, .f32⟩ : BufTy).Contents (Elt F) → (⟨S3258, .f32⟩ : BufTy).Contents (Elt F)),
    unary main_v60 main_v61 (Host.absf : (⟨S3258, .f32⟩ : BufTy).Contents (Elt F) → (⟨S3258, .f32⟩ : BufTy).Contents (Elt F)),
    nullary main_cst_12 (constant S_ .f32 0x7F800000#32),
    unary main_cst_12 main_v62 (broadcastInDim S3258 ![] bcast_S_S3258 : (⟨S_, .f32⟩ : BufTy).Contents (Elt F) → (⟨S3258, .f32⟩ : BufTy).Contents (Elt F)),
    binary main_v61 main_v62 main_v63 (cmpf .olt : (⟨S3258, .f32⟩ : BufTy).Contents (Elt F) → (⟨S3258, .f32⟩ : BufTy).Contents (Elt F) → (⟨S3258, .i1⟩ : BufTy).Contents (Elt F)),
    nullary main_cst_13 (constant S_ .f32 0x00000000#32),
    unary main_cst_13 main_v64 (broadcastInDim S3258 ![] bcast_S_S3258 : (⟨S_, .f32⟩ : BufTy).Contents (Elt F) → (⟨S3258, .f32⟩ : BufTy).Contents (Elt F)),
    TRef.ternary (.of main_v63) (.of main_v60) (.of main_v64) (main_call0).v0 select ]

/-- @main is the first operations, the SparseCore call, the TensorCore call, and the other operations. -/
abbrev mainSeq (d : Dev nD) : Prog (TpuEff nD τ sig (Elt F) (SparseCore.Sig (ΛP (F := F)) 1) .tc) PUnit :=
  seq opsPre >>= fun _ => (K (F := F)).run d 0 >>= fun _ =>
    (Prog.lift (.customCall (SparseCore.inner (Pipeline.entry 0)) ())) >>= fun _ => seq opsPost >>= fun _ => pure ⟨⟩

set_option maxRecDepth 8192 in
set_option maxHeartbeats 4000000 in
theorem main_eq (d : Dev nD) : main (F := F) d = mainSeq d := by
  unfold main main_part0 main_part1 fn_where.body mainSeq opsPre opsPost joinRows joinLandmarks joinResults
  simp only [seq, bind_assoc, pure_bind]

set_option maxRecDepth 8192 in
theorem opsPre_sub : (opsPre (F := F)).Forall fun op => op.bufs ⊆ tcRefs τ sig :=
  ⟨nullary_bufs_sub .., nullary_bufs_sub .., unary_bufs_sub ..⟩
set_option maxRecDepth 8192 in
theorem opsPost_sub : (opsPost (F := F)).Forall fun op => op.bufs ⊆ tcRefs τ sig :=
  ⟨reshape_bufs_sub .., nullary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., reshape_bufs_sub .., unary_bufs_sub .., reshape_bufs_sub .., nullary_bufs_sub .., binary_bufs_sub .., nullary_bufs_sub .., binary_bufs_sub .., unary_bufs_sub .., nullary_bufs_sub .., binary_bufs_sub .., unary_bufs_sub .., binary_bufs_sub .., nullary_bufs_sub .., binary_bufs_sub .., unary_bufs_sub .., unary_bufs_sub .., reshape_bufs_sub .., unary_bufs_sub .., binary_bufs_sub .., unary_bufs_sub .., binary_bufs_sub .., binary_bufs_sub .., unary_bufs_sub .., reshape_bufs_sub .., unary_bufs_sub .., binary_bufs_sub .., unary_bufs_sub .., binary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., nullary_bufs_sub .., unary_bufs_sub .., binary_bufs_sub .., nullary_bufs_sub .., unary_bufs_sub .., ternary_bufs_sub ..⟩
theorem opsPre_fresh : (opsPre (F := F)).Forall fun op => op.fresh = ∅ := forall_fresh_of_map rfl
set_option maxRecDepth 8192 in
theorem opsPost_fresh : (opsPost (F := F)).Forall fun op => op.fresh = ∅ := forall_fresh_of_map rfl

end Cert.Proof.Sc

end
-- ==== Proof.TcBody.lean ====
/- The TensorCore's pallas_call, its body: one grid point adds the 32 columns of 128 frames of its block, and their
   squares, lane by lane. -/
module

public import proofs.«01_k».proof.Proof.Base
public import proofs.«01_k».proof.Proof.Gen.KernelIdeal.Points
public import Idealize.ShloMosaic.Lib.Pipeline.TableIdle
public import Idealize.ShloMosaic.Lib.Pipeline.Value

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Arith Cert.Proof.Values

variable {F : FTy → Type} [FloatOps F]

local notation "𝕄" => MT nD τ sig (HIx 1) (Elt F) ℕ UU ℕ
local notation "xV" => (Memref.whole Cert.KernelIdeal.main_v0_scv : Memref Cert.KernelIdeal.sig Kind.scVector Space.hbm Cert.KernelIdeal.S3x543x16384 EltTy.f32)
local notation "oV" => (Memref.whole Cert.KernelIdeal.main_v1_scv : Memref Cert.KernelIdeal.sig Kind.scVector Space.hbm Cert.KernelIdeal.S32x2x1024 EltTy.f32)
local notation "rV" => (Memref.whole Cert.KernelIdeal.cc0_scratch0 : Memref Cert.KernelIdeal.sig Kind.scVector Space.vmem Cert.KernelIdeal.S4x8x2048 EltTy.f32)
local notation "sV" => (Memref.whole Cert.KernelIdeal.cc0_scratch1 : Memref Cert.KernelIdeal.sig Kind.scVector Space.vmem Cert.KernelIdeal.S1024 EltTy.f32)
local notation "qV" => (Memref.whole Cert.KernelIdeal.cc0_scratch2 : Memref Cert.KernelIdeal.sig Kind.scVector Space.vmem Cert.KernelIdeal.S1024 EltTy.f32)

open Idealize.ShloMosaic.Pipeline (Dat Cfg Window BodyObligation cellOf)

/-- A landmark's sum in a lane, over the first `n` columns of 128 frames of a block. -/
def col (q : Bool) (x : FVec F S1x543x4096 .f32) (l : Fin 543) (lane : ℕ) : ℕ → F .f32
  | 0 => z0
  | n + 1 => FloatOps.addf (col q x l lane n) (term q (x (ValueIdx.ix3 0 l ⟨(128 * n + lane) % 4096, Nat.mod_lt _ (by decide)⟩)))

/-- The same as a vector over landmarks and lanes, and with the block's unit axis. -/
def colV (q : Bool) (x : FVec F S1x543x4096 .f32) (n : ℕ) : FVec F S543x128 .f32 := fun i => col q x (i 0) (i 1).val n
def colB (q : Bool) (x : FVec F S1x543x4096 .f32) : FVec F S1x543x128 .f32 := fun i => col q x (i 1) (i 2).val 32

variable (x : FVec F S1x543x4096 .f32)

/-- The column from frame `e` on of a block, as it is loaded. -/
def lane128 (e : ℕ) : Vec F S1x543x128 .f32 := fun y => x (ValueIdx.ix3 0 (y 1) ⟨(e + (y 2).val) % 4096, Nat.mod_lt _ (by decide)⟩)

theorem read_lane (M : Memref sig .tc .vmem S1x543x4096 .f32) (e : ℕ) (h : ∀ a, (![0, 0, e] : Fin 3 → ℕ) a + (![1, 543, 128] : Fin 3 → ℕ) a ≤ S1x543x4096.size a) :
    M.view.readAt (Elt F) (Rect.unit (s := S1x543x4096) ![0, 0, e] ![1, 543, 128] h).toLoadRect (M.view.rep x) = lane128 x e := by
  rw [View.readAt_rep]
  funext y
  have h2 : e + 128 ≤ 4096 := h 2
  have y0 : (y 0).val < 1 := (y 0).isLt
  have y2 : (y 2).val < 128 := (y 2).isLt
  refine congrArg x (funext fun a => Fin.ext ?_)
  match a with
  | 0 => show 0 + 1 * (y 0).val = 0; omega
  | 1 => show 0 + 1 * (y 1).val = (y 1).val; omega
  | 2 => show e + 1 * (y 2).val = (e + (y 2).val) % 4096; omega

theorem cast_lane (e : ℕ) (hc : S1x543x128.ShapeCasts S543x128) (i : S543x128.Idx) :
    shapeCast S543x128 (lane128 x e) hc i = x (ValueIdx.ix3 0 (i 0) ⟨(e + (i 1).val) % 4096, Nat.mod_lt _ (by decide)⟩) := by
  refine (shapeCast_apply _ hc i (ValueIdx.ix3 (n0 := 1) (n1 := 543) (n2 := 128) 0 (i 0) (i 1)) ?_).trans rfl
  rw [Shape.rowMajor_val_three, Shape.rowMajor_val_two]
  show (0 * 543 + (i 0).val) * 128 + (i 1).val = (i 0).val * 128 + (i 1).val
  omega

/-- Adding a column, or its square, is one step of the sum. -/
theorem add_lane (n e : ℕ) (he : e = 128 * n) (hc : S1x543x128.ShapeCasts S543x128) :
    addf (colV false x n) (shapeCast S543x128 (lane128 x e) hc) = colV false x (n + 1) := by
  subst he
  funext i
  show FloatOps.addf _ _ = _
  rw [cast_lane]; rfl

theorem add_lane_sq (n e : ℕ) (he : e = 128 * n) (hc : S1x543x128.ShapeCasts S543x128) :
    addf (colV true x n) (mulf (shapeCast S543x128 (lane128 x e) hc) (shapeCast S543x128 (lane128 x e) hc)) = colV true x (n + 1) := by
  subst he
  funext i
  show FloatOps.addf _ (FloatOps.mulf _ _) = _
  rw [cast_lane]; rfl

theorem col_zero : (broadcast S543x128 (FloatOps.ofBits .f32 0#32 : F .f32) : FVec F S543x128 .f32) = colV false x 0 := rfl
theorem col_zero_sq : (broadcast S543x128 (FloatOps.ofBits .f32 0#32 : F .f32) : FVec F S543x128 .f32) = colV true x 0 := rfl

/-- A whole block written is what is read back. -/
theorem read_stored (M : Memref sig .tc .vmem S1x543x128 .f32) (h : ∀ a, (![0, 0, 0] : Fin 3 → ℕ) a + S1x543x128.size a ≤ S1x543x128.size a)
    (g : M.view.ty.Contents (Elt F)) (w : FVec F S1x543x128 .f32) :
    M.view.read (Elt F) (M.view.writes (Elt F) g [⟨Rect.unit (s := S1x543x128) ![0, 0, 0] S1x543x128.size h, w⟩]) = w := by
  funext y
  have er : (Rect.unit (s := S1x543x128) ![0, 0, 0] S1x543x128.size h).emb y = y := funext fun a => Fin.ext (by
    match a with
    | 0 => show 0 + 1 * (y 0).val = _; omega
    | 1 => show 0 + 1 * (y 1).val = _; omega
    | 2 => show 0 + 1 * (y 2).val = _; omega)
  have ew := View.read_writes_cons_emb (Val := Elt F) M.view g (Rect.unit (s := S1x543x128) ![0, 0, 0] S1x543x128.size h) w [] y
  rw [er] at ew
  exact ew

/-- The result block read off the sum. -/
theorem cast_col (q : Bool) (hc : S543x128.ShapeCasts S1x543x128) : shapeCast S1x543x128 (colV q x 32) hc = colB q x := by
  funext i
  refine (shapeCast_apply _ hc i (fun | 0 => i 1 | 1 => i 2 : S543x128.Idx) ?_).trans rfl
  have i0 : (i 0).val < 1 := (i 0).isLt
  rw [Shape.rowMajor_val_three, Shape.rowMajor_val_two]
  show (i 1).val * 128 + (i 2).val = ((i 0).val * 543 + (i 1).val) * 128 + (i 2).val
  omega

set_option maxHeartbeats 8000000 in
set_option maxRecDepth 65536 in
/-- The body at a grid point, from its three staging buffers. -/
theorem tc_body (d : Dev nD) (i : grid1.Coords) (M0 : Memref sig .tc .vmem S1x543x4096 .f32) (h0 : M0.IsWhole)
    (M1 : Memref sig .tc .vmem S1x543x128 .f32) (h1 : M1.IsWhole) (M2 : Memref sig .tc .vmem S1x543x128 .f32) (h2 : M2.IsWhole)
    (f1 : Buf (Elt F) (M1.view.loc d.tc)) (f2 : Buf (Elt F) (M2.view.loc d.tc)) :
    iprop((M0.view.loc d.tc ↦[M0.view.set]{fullShare} M0.view.rep x) ∗ (M1.view.loc d.tc ↦[M1.view.set]{fullShare} f1) ∗ (M2.view.loc d.tc ↦[M2.view.set]{fullShare} f2))
      ⊢ wp frame (wpE (defs₀ (F := F)) 𝒱₀ d.tc none) Set.univ (cc1_body i M0 h0 M1 h1 M2 h2)
          fun _ => (iprop((M0.view.loc d.tc ↦[M0.view.set]{fullShare} M0.view.rep x)
            ∗ owns (d.tc : Thread nD τ) M1 fullShare (colB false x) ∗ owns (d.tc : Thread nD τ) M2 fullShare (colB true x)) : sProp 𝕄) := by
  simp only [cc1_body_eq_skeleton]; unfold cc1_body_skel
  simp only [k1_part1_eq_skeleton, k1_part2_eq_skeleton, k1_part3_eq_skeleton, k1_part4_eq_skeleton]
  unfold k1_part1_skel k1_part2_skel k1_part3_skel k1_part4_skel
  iintro ⟨H0, H1, H2⟩
  sl_exec
  sl_step
  isplitl [H0]; · iexact H0
  isplitl [H1]
  · unfold owns
    iexists _; isplitr; swap; · iexact H1
    ipureintro
    rw [read_stored]
    dsimp only
    simp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, read_lane, col_zero x]
    simp (disch := rfl) only [add_lane, cast_col, Nat.reduceAdd]
  · unfold owns
    iexists _; isplitr; swap; · iexact H2
    ipureintro
    rw [read_stored]
    dsimp only
    simp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, read_lane, col_zero_sq x]
    simp (disch := rfl) only [add_lane_sq, cast_col, Nat.reduceAdd]

end Cert.Proof.Sc

end
-- ==== Proof.Region.lean ====
/- The TensorCore's pallas_call as a region of the program: its proof data over a valuation of the TensorCore's
   buffers, and what it leaves in its two results. -/
module

public import proofs.«01_k».proof.Proof.TcBody
public import proofs.«01_k».proof.Proof.Gen.KernelIdeal.Launch
public import Idealize.ShloMosaic.Lib.Pipeline.Regions
public import Idealize.ShloMosaic.Lib.Pipeline.FrameTail

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Arith Cert.Proof.Values

variable {F : FTy → Type} [FloatOps F]

local notation "𝕄" => MT nD τ sig (HIx 1) (Elt F) ℕ UU ℕ
local notation "xV" => (Memref.whole Cert.KernelIdeal.main_v0_scv : Memref Cert.KernelIdeal.sig Kind.scVector Space.hbm Cert.KernelIdeal.S3x543x16384 EltTy.f32)
local notation "oV" => (Memref.whole Cert.KernelIdeal.main_v1_scv : Memref Cert.KernelIdeal.sig Kind.scVector Space.hbm Cert.KernelIdeal.S32x2x1024 EltTy.f32)
local notation "rV" => (Memref.whole Cert.KernelIdeal.cc0_scratch0 : Memref Cert.KernelIdeal.sig Kind.scVector Space.vmem Cert.KernelIdeal.S4x8x2048 EltTy.f32)
local notation "sV" => (Memref.whole Cert.KernelIdeal.cc0_scratch1 : Memref Cert.KernelIdeal.sig Kind.scVector Space.vmem Cert.KernelIdeal.S1024 EltTy.f32)
local notation "qV" => (Memref.whole Cert.KernelIdeal.cc0_scratch2 : Memref Cert.KernelIdeal.sig Kind.scVector Space.vmem Cert.KernelIdeal.S1024 EltTy.f32)

open Idealize.ShloMosaic.Pipeline (Dat Cfg Window BodyObligation cellOf)

/-! ## The proof data -/

abbrev adm : (p : Fin 1) → (pcfgs (F := F) p).Adm := fun p => (cfgs p).toPCfg_adm

variable (V : Dev nD → Valuation τ sig (Elt F))

/-- The input block of a grid point, as it is fetched. -/
abbrev blkIn (c : Dev nD) (t : Fin cfg1.N) : FVec F S1x543x4096 .f32 := ((cfg1.win 0).blk t).view.read (Elt F) (V c (Proc.devRef .tc main_v0))

/-- The recorded waits stay those of the SparseCore call. -/
def recd (c : Dev nD) : Set (SemLoc sig × HIx 1) := {p | (K (F := F)).lev (T c, p.1) p.2 ≤ 8}

/-- Before and after the region the arrays stand at a valuation; the body leaves its block's sums and sums of squares. -/
def dat (c : Dev nD) : Dat τ (Elt F) (HIx 1) ℕ UU ℕ cfg1 c where
  A w := V c (Proc.devRef .tc (Pipeline.arrRef spec1 w))
  after w t := match w with
    | ⟨0, _⟩ => blkIn V c t
    | ⟨1, _⟩ => colB false (blkIn V c t)
    | ⟨2, _⟩ => colB true (blkIn V c t)
  Φ _ := BI.emp
  q _ := fullShare
  owed _ := 0
  recorded _ := recd (F := F) c

def dats : (p : Fin 1) → (c : Dev nD) → Dat τ (Elt F) (HIx 1) ℕ UU ℕ (Pipeline.pin (pcfgs (F := F)) adm p) c
  | ⟨0, _⟩ => fun c => dat V c

theorem before_in (c : Dev nD) (t : Fin cfg1.N) (d : (cfg1.win 0).block.Idx → Elt F (cfg1.win 0).elt) : (dat V c).before 0 t d = blkIn V c t := by
  unfold Dat.before; rw [if_pos (fetch1_0 t)]; rfl

theorem body_obligation (c : Dev nD) : BodyObligation (dat V c) (defs₀ (F := F)) 𝒱₀ (none : HIx 1) Set.univ := fun t => by
  rw [bigSep_W1, bigSep_W1]
  rw [show (dat V c).Φ t.castSucc = BI.emp from rfl, show (dat V c).Φ t.succ = BI.emp from rfl,
    show (dat V c).owesAt none t.succ = (dat V c).owesAt none t.castSucc from rfl]
  iintro ⟨-, Howes, ⟨%d0, H0⟩, ⟨%d1, H1⟩, ⟨%d2, H2⟩⟩
  rw [before_in]
  ihave H0 := (rep_of_owns _ _ _ _) $$ H0
  ihave H1 := (rep_of_owns _ _ _ _) $$ H1
  ihave H2 := (rep_of_owns _ _ _ _) $$ H2
  iapply (wp_wand_r frame (wpE (defs₀ (F := F)) 𝒱₀ c.tc none) Set.univ)
  isplitl [H0 H1 H2]
  · iapply (tc_body (blkIn V c t) c (grid1.coords t) _ (hstage1_0 _) _ (hstage1_1 _) _ (hstage1_2 _) _ _)
    isplitl [H0]; · iexact H0
    isplitl [H1]; · iexact H1
    iexact H2
  iintro %_ ⟨H0, H1, H2⟩
  isplitr; · iempintro
  isplitl [Howes]; · iexact Howes
  isplitl [H0]; · iapply (owns_of_rep _ _ _ _); iexact H0
  isplitl [H1]; · iexact H1
  iexact H2

/-! ## The region over the TensorCore's buffers -/

/-- The buffers after the region. -/
def Vr (c : Dev nD) : Valuation τ sig (Elt F) := Pipeline.afterRegion (dat V c) (V c)

/-- What the TensorCore owes and has waited for between the SparseCore call and the end. -/
def owesT (c : Dev nD) : sProp 𝕄 := iprop(∃ W, ⌜(K (F := F)).WBelow (T c) W 8⌝ ∗ owes (T c) (0 : CellTallies nD τ sig (HIx 1)) W)

theorem bound_le (c : Dev nD) (t) : ∀ p ∈ (dat V c).bound none t, (K (F := F)).lev (T c, p.1) p.2 ≤ 8 := by
  rintro p (h | ⟨w, s, rfl⟩)
  · exact h
  · exact Nat.zero_le _

set_option backward.isDefEq.respectTransparency.types false in
def reg (lv : GSem nD τ sig → HIx 1 → ℕ) : Pipeline.RegionSeg (pcfgs (F := F)) adm (dats V) (none : HIx 1) defs₀ 𝒱₀ (K (F := F)).L lv 0 where
  win := launch1.win.to₀
  block_pos := launch1.block_pos
  stage_whole := launch1.stage_whole
  K := PEmpty
  osem k := k.elim
  ho := Pipeline.OwnSemFacts.none _
  hbody c := (body_obligation V c).loose
  hwaits := Pipeline.hwaits_of_owed_zero _ _ _ _ (K (F := F)).L lv 0 fun _ _ => rfl
  pre c := iprop(unscopedBufs c (fun b => V c (Proc.devRef .tc b)) ∗ owesT c)
  post c := iprop(unscopedBufs c (fun b => Vr V c (Proc.devRef .tc b)) ∗ owesT c)
  X _ := BI.emp
  Y _ := BI.emp
  Z c := Pipeline.unscopedRest (Ix := HIx 1) (Name := ℕ) (U := UU) (Lvl := ℕ) spec1 c (fun b => V c (Proc.devRef .tc b))
  hentry c := by
    rw [Pipeline.ownSems0_none]
    have hsplit := Pipeline.arrays_of_unscopedBufs (p := 0) (pcfgs (F := F)) adm (dats V) launch1.win launch1.arr_whole c
      ((dats V 0 c).share_full fun _ => rfl) (fun b => V c (Proc.devRef .tc b)) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin owesT
      icases HO with ⟨%W, %hW, HO⟩; iexists W; isplitr; · ipureintro; exact fun p hp => Or.inl (hW p hp)
      iexact HO
    isplitr; · iempintro
    iexact Hrest
  hin c := by
    rw [show (dats V 0 c).Φ 0 = BI.emp from rfl]
    iintro -; iempintro
  hout c := by
    rw [Pipeline.ownSems0_none]
    have h := scopedRest1_eq (Ix := HIx 1) (Val := Elt F) (Name := ℕ) (U := UU) (Lvl := ℕ) c
    iintro -
    isplitr; · iempintro
    isplitr; · iempintro
    iapply (Entails.of_eq h.symm); iempintro
  hexit c := by
    have hjoin := Pipeline.unscopedBufs_of_arrays (p := 0) (pcfgs (F := F)) adm (Ix := HIx 1) (Name := ℕ) (U := UU) (Lvl := ℕ) launch1.win launch1.arr_whole c
      (dats V) ((dats V 0 c).share_full fun _ => rfl) (fun b => V c (Proc.devRef .tc b)) (fun b => Vr V c (Proc.devRef .tc b)) ((dats V 0 c).arrAt · cfg1.N)
      (fun w => (Pipeline.afterRegion_arr (dat V c) (V c) launch1.win.arr_inj w).symm)
      (fun b hb => Pipeline.afterRegion_of_not_arr (dat V c) (V c) fun w h => hb (h ▸ Finset.mem_image.mpr ⟨w, Finset.mem_univ _, rfl⟩))
    iintro ⟨Ha, HO, -, Hrest⟩
    imodintro
    isplitl [Ha Hrest]
    · iapply hjoin; isplitl [Ha] <;> iassumption
    unfold Pipeline.Dat.owesAt Pipeline.owesWithin owesT
    icases HO with ⟨%W, %hW, HO⟩; iexists W; isplitr; · ipureintro; exact fun p hp => bound_le V c _ p (hW hp)
    iexact HO

end Cert.Proof.Sc

end
-- ==== Proof.Main.lean ====
/- The program's run: from any memory every execution ends with the TensorCore's buffers at the values that the
   host operations, the SparseCore call and the TensorCore call give them in turn, and every counter at zero. -/
module

public import proofs.«01_k».proof.Proof.Oblig
public import proofs.«01_k».proof.Proof.Host
public import proofs.«01_k».proof.Proof.Region
public import Idealize.ShloMosaic.Lib.SparseCore.Quiescent

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Arith Cert.Proof.Values

variable {F : FTy → Type} [FloatOps F]

local notation "𝕄" => MT nD τ sig (HIx 1) (Elt F) ℕ UU ℕ
local notation "xV" => (Memref.whole Cert.KernelIdeal.main_v0_scv : Memref Cert.KernelIdeal.sig Kind.scVector Space.hbm Cert.KernelIdeal.S3x543x16384 EltTy.f32)
local notation "oV" => (Memref.whole Cert.KernelIdeal.main_v1_scv : Memref Cert.KernelIdeal.sig Kind.scVector Space.hbm Cert.KernelIdeal.S32x2x1024 EltTy.f32)
local notation "rV" => (Memref.whole Cert.KernelIdeal.cc0_scratch0 : Memref Cert.KernelIdeal.sig Kind.scVector Space.vmem Cert.KernelIdeal.S4x8x2048 EltTy.f32)
local notation "sV" => (Memref.whole Cert.KernelIdeal.cc0_scratch1 : Memref Cert.KernelIdeal.sig Kind.scVector Space.vmem Cert.KernelIdeal.S1024 EltTy.f32)
local notation "qV" => (Memref.whole Cert.KernelIdeal.cc0_scratch2 : Memref Cert.KernelIdeal.sig Kind.scVector Space.vmem Cert.KernelIdeal.S1024 EltTy.f32)

open Idealize.ShloMosaic.StableHlo (held after wp_seq held_sub_split held_congr)
open Idealize.ShloMosaic.Pipeline (ucRefs sub_ucRefs unscopedBufs_held devRef_mem_ucRefs)

variable (m : (ℓ : Loc nD τ sig) → Buf (Elt F) ℓ) (ρ : Dev nD → PrngReg)

/-! ## The buffers at each stage -/

/-- At the launch. -/
def V0 (d : Dev nD) : Valuation τ sig (Elt F) := fun b => m (d, b)
/-- When the SparseCore call starts. -/
def V1 (d : Dev nD) : Valuation τ sig (Elt F) := after opsPre (V0 m d)
/-- The transposed input, which both calls read. -/
def Xt (d : Dev nD) : FVec F S3x543x16384 .f32 := V1 m d (Proc.devRef .tc main_v0)
/-- What lies in the SparseCore call's result before it. -/
def Gt (d : Dev nD) : FVec F S32x2x1024 .f32 := V1 m d (Proc.devRef .tc main_v1)
/-- When it is done: its result holds the tiles' sums. -/
def V2 (d : Dev nD) : Valuation τ sig (Elt F) :=
  Function.update (V1 m d) (Proc.devRef .tc main_v1) (scOut (Xt m d))
/-- When the TensorCore call is done. -/
def V3 (d : Dev nD) : Valuation τ sig (Elt F) := Vr (V2 m) d
/-- At the end. -/
def V4 (d : Dev nD) : Valuation τ sig (Elt F) := after opsPost (V3 m d)

/-- The call's operand and result. -/
def callRefs : Finset (DevRef τ sig) := {Proc.devRef .tc main_v0, Proc.devRef .tc main_v1}

theorem callRefs_sub : callRefs ⊆ ucRefs τ sig := by
  intro b hb
  rcases Finset.mem_insert.mp hb with rfl | hb
  · exact devRef_mem_ucRefs rfl
  · rw [Finset.mem_singleton.mp hb]; exact devRef_mem_ucRefs rfl

theorem held_call (d : Dev nD) (W : Valuation τ sig (Elt F)) :
    (held (d.tc : Thread nD τ) callRefs W : sProp 𝕄)
      = iprop((xLoc d ↦{fullShare} W (Proc.devRef .tc main_v0)) ∗ (outLoc d ↦{fullShare} W (Proc.devRef .tc main_v1))) := by
  unfold held callRefs
  rw [SparseCore.bigSep_insert' (by decide), bigSep_singleton]

/-- The call's operand and result out of the buffers when it starts; -/
theorem held_start (d : Dev nD) : (held (d.tc : Thread nD τ) (ucRefs τ sig) (V1 m d) : sProp 𝕄)
    = iprop(((xLoc d ↦{fullShare} Xt m d) ∗ (outLoc d ↦{fullShare} Gt m d)) ∗ held (d.tc : Thread nD τ) (ucRefs τ sig \ callRefs) (V1 m d)) := by
  rw [held_sub_split _ callRefs_sub, held_call]; rfl

/-- and back among them when it is done. -/
theorem held_done (d : Dev nD) : (held (d.tc : Thread nD τ) (ucRefs τ sig) (V2 m d) : sProp 𝕄)
    = iprop(((xLoc d ↦{fullShare} Xt m d) ∗ (outLoc d ↦{fullShare} scOut (Xt m d))) ∗ held (d.tc : Thread nD τ) (ucRefs τ sig \ callRefs) (V1 m d)) := by
  rw [held_sub_split _ callRefs_sub, held_call]
  have h0 : V2 m d (Proc.devRef .tc main_v0) = Xt m d := Function.update_of_ne (by decide) _ _
  have h1 : V2 m d (Proc.devRef .tc main_v1) = scOut (Xt m d) := Function.update_self _ _ _
  have hr : (held (d.tc : Thread nD τ) (ucRefs τ sig \ callRefs) (V2 m d) : sProp 𝕄) = held (d.tc : Thread nD τ) (ucRefs τ sig \ callRefs) (V1 m d) :=
    held_congr _ fun b hb => Function.update_of_ne (fun h => (Finset.mem_sdiff.mp hb).2
      (by rw [h]; exact Finset.mem_insert_of_mem (Finset.mem_singleton_self _))) _ _
  rw [h0, h1, hr]

/-! ## The launch element of the ghost state -/

/-- The staging cells' component of the ghost state. -/
def EP : Emb UP 𝕄 := (Emb.inl : Emb UP (UP × Counters)).trans (embR : Emb (UP × Counters) 𝕄)

instance EP_landsIn : (EP (F := F)).LandsIn (upEmb : UEmb _ 𝕄) := by unfold EP; infer_instance

def u₀ : UU := (initOf (K (F := F)).hsCells (K (F := F)).hsToks, (initOf (Pipeline.cells cfgs cellOf_inj) (Pipeline.launchToks cfgs cellOf_inj), 1))

/-- The region's ghost state on a device. -/
def Gh (d : Dev nD) : sProp 𝕄 :=
  iprop(Pipeline.cellsGhost (Pipeline.pin (pcfgs (F := F)) adm) (EP (F := F)) 0 d ∗ Pipeline.toksInit (Pipeline.pin (pcfgs (F := F)) adm) (EP (F := F)) 0 d)

theorem ghosts : iprop((bigSep Finset.univ fun c : Dev nD => bigSep Finset.univ fun p : Fin 1 => Pipeline.cellsGhost (Pipeline.pin (pcfgs (F := F)) adm) (EP (F := F)) p c)
      ∗ (bigSep Finset.univ fun c : Dev nD => bigSep Finset.univ fun p : Fin 1 => Pipeline.toksInit (Pipeline.pin (pcfgs (F := F)) adm) (EP (F := F)) p c))
    ⊢ (bigSep Finset.univ (Gh (F := F)) : sProp 𝕄) := by
  unfold Gh
  rw [← bigSep_sep']
  refine Entails.of_eq (bigSep_congr fun c _ => ?_)
  rw [bigSep_univ_of_subsingleton (0 : Fin 1), bigSep_univ_of_subsingleton (0 : Fin 1)]

theorem bigSep_none {I : Type} (s : Finset I) : (bigSep s fun _ => iprop(emp)) = (iprop(emp) : sProp 𝕄) := bigSep_emp_const s

/-- The staging cells' element out of the launch element. -/
theorem own_stage : (BI.own ((embR : Emb (UP × Counters) 𝕄) (initOf (Pipeline.cells cfgs cellOf_inj) (Pipeline.launchToks cfgs cellOf_inj), 1)) : sProp 𝕄)
    ⊢ iprop(BI.own (EP (F := F) (initOf (Pipeline.cells (Pipeline.pin (pcfgs (F := F)) adm) cellOf_inj) (Pipeline.launchToks (Pipeline.pin (pcfgs (F := F)) adm) cellOf_inj)))
      ∗ BI.own (((Emb.inr : Emb Counters (UP × Counters)).trans (embR : Emb (UP × Counters) 𝕄)) 1)) :=
  own_pair_emb (embR : Emb (UP × Counters) 𝕄) _ (1 : Counters)

theorem hu₀ : (ownU (u₀ (F := F)) : sProp 𝕄)
    ⊢ |={Set.univ}=> iprop(BI.own (EH (initOf (K (F := F)).hsCells (K (F := F)).hsToks)) ∗ bigSep Finset.univ (Gh (F := F))
        ∗ bigSep Finset.univ fun thr : Thread nD τ => bigSep Finset.univ fun q : Fin 1 => (P (Xt m) (Gt m)).x q thr) := by
  unfold u₀
  iintro Hu
  ihave H := (ownU_pair (initOf (K (F := F)).hsCells (K (F := F)).hsToks) ((initOf (Pipeline.cells cfgs cellOf_inj) (Pipeline.launchToks cfgs cellOf_inj), 1) : UP × Counters)) $$ Hu
  icases H with ⟨HH, HP⟩
  ihave HP := (own_stage (F := F)) $$ HP
  icases HP with ⟨HP, -⟩
  imod (Pipeline.fund_ghost (Pipeline.pin (pcfgs (F := F)) adm) (EP (F := F)) cellOf_inj) $$ HP with HG
  imodintro
  isplitl [HH]; · iexact HH
  isplitl [HG]; · iapply ghosts; iexact HG
  rw [show (bigSep Finset.univ fun thr : Thread nD τ => bigSep Finset.univ fun q : Fin 1 => (P (Xt m) (Gt m)).x q thr) = bigSep Finset.univ fun _ => iprop(emp) from
    bigSep_congr fun _ _ => bigSep_univ_of_subsingleton (0 : Fin 1), bigSep_none]
  iempintro

/-! ## @main on the TensorCore -/

/-- What the TensorCore holds at the end. -/
abbrev FIN (d : Dev nD) : sProp 𝕄 := held (d.tc : Thread nD τ) (ucRefs τ sig) (V4 m d)

/-- What the TensorCore holds of the handshakes between the call and the end, beside what it owes. -/
theorem tcSt_open (d : Dev nD) : ∃ R : sProp 𝕄, (K (F := F)).tcSt EH d 1 = iprop(owesT (F := F) d ∗ R) := by
  have h : ((K (F := F)).tcSt (EH (F := F)) d 1 : sProp 𝕄) = (K (F := F)).tcSt (EH (F := F)) d 1 := rfl
  conv at h => rhs; unfold SparseCore.Cfg.tcSt; rw [(K (F := F)).Otc_end d (le_refl 1)]
  exact ⟨_, h⟩

/-- The TensorCore call, over the buffers held. -/
theorem region_wp (d : Dev nD) (lv : GSem nD τ sig → HIx 1 → ℕ) (Q : PUnit → sProp 𝕄) :
    iprop((iprop(boundary (d.tc : Thread nD τ) ∗ held (d.tc : Thread nD τ) (ucRefs τ sig) (V3 m d) ∗ owesT (F := F) d)
          -∗ wp frame (wpE (D (F := F)) 𝒱 (d.tc : Thread nD τ) none) Set.univ (Prog.ret PUnit.unit) Q)
        ∗ boundary (d.tc : Thread nD τ) ∗ (held (d.tc : Thread nD τ) (ucRefs τ sig) (V2 m d) ∗ owesT (F := F) d) ∗ levAts (K (F := F)).L lv
        ∗ Gh (F := F) d)
      ⊢ wp frame (wpE (D (F := F)) 𝒱 (d.tc : Thread nD τ) none) Set.univ (.op (.customCall (Pipeline.entry 0) ()) fun _ => .ret ⟨⟩) Q := by
  have h := Pipeline.RegionSeg.wp (pcfgs (F := F)) adm (dats (V2 m)) (none : HIx 1) cellOf_inj (EP (F := F)) defs₀ 𝒱₀ (K (F := F)).L lv (reg (V2 m) lv) d none
    (fun _ h => nomatch h) (fun _ => .ret ⟨⟩) Q
  rw [show (reg (V2 m) lv).pre d = iprop(unscopedBufs d (fun b => V2 m d (Proc.devRef .tc b)) ∗ owesT d) from rfl,
    show (reg (V2 m) lv).post d = iprop(unscopedBufs d (fun b => V3 m d (Proc.devRef .tc b)) ∗ owesT d) from rfl,
    unscopedBufs_held, unscopedBufs_held] at h
  exact h

theorem lift_wp (d : Dev nD) (Q : PUnit → sProp 𝕄) :
    wp frame (wpE (D (F := F)) 𝒱 (d.tc : Thread nD τ) none) Set.univ (.op (.customCall (Pipeline.entry 0) ()) fun _ => .ret ⟨⟩) Q
      ⊢ wp frame (wpE ((K (F := F)).defs (D (F := F))) 𝒱 (SparseCore.T d) none) Set.univ (Prog.lift (.customCall (SparseCore.inner (Pipeline.entry 0)) ())) Q :=
  by
  have e : (Prog.lift (.customCall (SparseCore.inner (Pipeline.entry 0)) ()) : Prog (TpuEff nD τ sig (Elt F) (SparseCore.Sig (ΛP (F := F)) 1) .tc) PUnit)
      = SparseCore.liftProg (Λ := ΛP (F := F)) (Q := 1) (Prog.op (.customCall (Pipeline.entry 0) ()) fun _ => .ret ⟨⟩) := rfl
  rw [e]
  exact (K (F := F)).wp_liftProg (D (F := F)) 𝒱 (SparseCore.T d) Set.univ none _ Q

/-- The TensorCore call, then the other host operations. -/
theorem main_tail (d : Dev nD) (lv : GSem nD τ sig → HIx 1 → ℕ) (Q : PUnit → sProp 𝕄) :
    iprop((boundary (SparseCore.T d) ∗ held (d.tc : Thread nD τ) (ucRefs τ sig) (V2 m d)) ∗ owesT (F := F) d ∗ levAts (K (F := F)).L lv ∗ Gh (F := F) d
        ∗ ((boundary (SparseCore.T d) ∗ FIN m d ∗ owesT (F := F) d) -∗ Q ⟨⟩))
      ⊢ wp frame (wpE ((K (F := F)).defs (D (F := F))) 𝒱 (SparseCore.T d) none) Set.univ
        ((Prog.lift (.customCall (SparseCore.inner (Pipeline.entry 0)) ())) >>= fun _ => StableHlo.seq opsPost >>= fun _ => pure ⟨⟩) Q := by
  iintro ⟨⟨Hb, Hh⟩, HO, Hlv, HG, HQ⟩
  rw [wp_bind]
  iapply (lift_wp d _)
  iapply (region_wp m d lv _)
  isplitl [HQ]
  · iintro ⟨Hb, Hh, HO⟩
    rw [wp_ret]; imodintro
    iapply (wp_seq 𝒱 none Set.univ d (ucRefs τ sig) (fun _ => pure ⟨⟩) opsPost
      (fun op h => sub_ucRefs op (List.forall_iff_forall_mem.1 opsPost_sub op h)) (List.forall_iff_forall_mem.1 opsPost_fresh) (V3 m d)) $$ [Hb Hh]
    · isplitl [Hb] <;> iassumption
    iintro ⟨Hb, Hh⟩
    rw [wp_pure]; imodintro
    iapply HQ
    isplitl [Hb]; · iexact Hb
    isplitl [Hh]; · iexact Hh
    iexact HO
  isplitl [Hb]; · iexact Hb
  isplitl [Hh HO]; · isplitl [Hh] <;> iassumption
  isplitl [Hlv] <;> iassumption

theorem launch_held (d : Dev nD) : (unscopedBufs d (fun b => m ((SparseCore.T d).loc b)) : sProp 𝕄) = held (d.tc : Thread nD τ) (ucRefs τ sig) (V0 m d) :=
  unscopedBufs_held d (V0 m d)

/-- @main on device `d`'s TensorCore. -/
theorem hmain (κ : GSem nD τ sig → ℕ) (d : Dev nD) :
    iprop((K (F := F)).ctx EH (P (Xt m) (Gt m)) κ ∗ (K (F := F)).tcSt EH d 0 ∗ (K (F := F)).tcRes m ρ d ∗ Gh (F := F) d)
      ⊢ wp frame (wpE ((K (F := F)).defs (D (F := F))) 𝒱 (T d) none) Set.univ (main d)
          fun _ => iprop((K (F := F)).tcSt EH d 1 ∗ FIN m d ∗ (K (F := F)).tcEnd d) := by
  obtain ⟨R, hR⟩ := tcSt_open (F := F) d
  unfold SparseCore.Cfg.tcRes SparseCore.Cfg.tcEnd
  rw [launch_held, main_eq, hR]
  iintro ⟨#Hctx, Hst, ⟨Hb, Hh, Hts, -⟩, HG⟩
  iapply (wp_seq 𝒱 none Set.univ d (ucRefs τ sig) _ opsPre
    (fun op h => sub_ucRefs op (List.forall_iff_forall_mem.1 opsPre_sub op h)) (List.forall_iff_forall_mem.1 opsPre_fresh) (V0 m d)) $$ [Hb Hh]
  · isplitl [Hb] <;> iassumption
  iintro ⟨Hb, Hh⟩
  ihave Hh := (Entails.of_eq (show (held (d.tc : Thread nD τ) (ucRefs τ sig) (after opsPre (V0 m d)) : sProp 𝕄) = _ from held_start m d)) $$ Hh
  icases Hh with ⟨Hxo, Hrest⟩
  rw [wp_bind]
  iapply ((K (F := F)).wp_run (D (F := F)) 𝒱 (EH := EH) (P := P (Xt m) (Gt m)) κ d 0) $$ [Hst Hxo Hrest Hb Hts HG]
  isplitr; · iexact Hctx
  isplitl [Hst]; · iexact Hst
  isplitl [Hxo]; · rw [st_eq]; iexact Hxo
  iintro ⟨Hst, Hdn⟩
  ihave Hdn := (Entails.of_eq (dn_eq (Xt m) (Gt m) d)) $$ Hdn
  ihave Hst := (Entails.of_eq (show ((K (F := F)).tcSt (EH (F := F)) d ((0 : Fin 1).val + 1) : sProp 𝕄) = _ from hR)) $$ Hst
  icases Hst with ⟨HO, HR⟩
  iapply (main_tail m d (K (F := F)).lev)
  isplitl [Hb Hdn Hrest]
  · isplitl [Hb]; · iexact Hb
    rw [held_done]; isplitl [Hdn] <;> iassumption
  isplitl [HO]; · iexact HO
  isplitr; · iapply ((K (F := F)).ctx_levAts κ); iexact Hctx
  isplitl [HG]; · iexact HG
  iintro ⟨Hb, Hf, HO⟩
  isplitl [HO HR]; · isplitl [HO] <;> iassumption
  isplitl [Hf]; · iexact Hf
  isplitl [Hb] <;> iassumption

/-- The end read in the machine's memory. -/
def fq (d : Dev nD) (s' : Phys nD τ sig (Elt F)) : Prop :=
  ∀ b : Ref sig .tc, b.isScoped = false → s'.mem.mem ((d.tc : Thread nD τ).loc b) = V4 m d (Proc.devRef .tc b)

theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (qs := fun _ => fullShare) (ucRefs τ sig)) $$ [HSI H]
  · isplitl [HSI]; · iexact HSI
    iexact H
  ipureintro
  exact fun b hb => h _ (devRef_mem_ucRefs hb)

/-! ## The run -/

def QC : PUnit × MemSt nD τ sig (Elt F) → Prop := fun r =>
  (∀ (d : Dev nD) (b : Ref sig .tc), b.isScoped = false → r.2.mem ((d.tc : Thread nD τ).loc b) = V4 m d (Proc.devRef .tc b)) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (Xt m) (Gt m)) (A := ∅) facts v₀
    (fun q hq => match q with | 0 => nomatch hq)
    (fun q _ => match q with | 0 => tileObl (Xt m) (Gt m) facts)
    (fun q _ => match q with | 0 => SparseCore.Cfg.VecSplit.of_plain (vecSplit (Xt m) (Gt m)))
    m ρ main (Gh (F := F)) (FIN m) (u₀ (F := F)) (sep_elim_left.trans (hu₀ m)) (hmain m ρ) (fq m) (hfin m) (QC m) (fun _ h hz => ⟨h, hz⟩)

end Cert.Proof.Sc

end
-- ==== Proof.Frames.lean ====
/- The input is never written: what the TensorCore's argument holds at the end is what it held at the launch. The frames. -/
module

public import proofs.«01_k».proof.Proof.Main
public import proofs.«01_k».proof.Defs
public import proofs.«01_k».proof.Proof.Gen.Kernel

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Arith Cert.Proof.Values

variable {F : FTy → Type} [FloatOps F]

local notation "𝕄" => MT nD τ sig (HIx 1) (Elt F) ℕ UU ℕ
local notation "xV" => (Memref.whole Cert.KernelIdeal.main_v0_scv : Memref Cert.KernelIdeal.sig Kind.scVector Space.hbm Cert.KernelIdeal.S3x543x16384 EltTy.f32)
local notation "oV" => (Memref.whole Cert.KernelIdeal.main_v1_scv : Memref Cert.KernelIdeal.sig Kind.scVector Space.hbm Cert.KernelIdeal.S32x2x1024 EltTy.f32)
local notation "rV" => (Memref.whole Cert.KernelIdeal.cc0_scratch0 : Memref Cert.KernelIdeal.sig Kind.scVector Space.vmem Cert.KernelIdeal.S4x8x2048 EltTy.f32)
local notation "sV" => (Memref.whole Cert.KernelIdeal.cc0_scratch1 : Memref Cert.KernelIdeal.sig Kind.scVector Space.vmem Cert.KernelIdeal.S1024 EltTy.f32)
local notation "qV" => (Memref.whole Cert.KernelIdeal.cc0_scratch2 : Memref Cert.KernelIdeal.sig Kind.scVector Space.vmem Cert.KernelIdeal.S1024 EltTy.f32)

open Idealize.ShloMosaic.StableHlo

variable (m : (ℓ : Loc nD τ sig) → Buf (Elt F) ℓ)

set_option maxRecDepth 8192 in
set_option maxHeartbeats 4000000 in
theorem V4_arg0 (d : Dev nD) : V4 m d (Proc.devRef .tc main_arg0) = m (d, Proc.devRef .tc main_arg0) := by
  have h3 : V3 m d (Proc.devRef .tc main_arg0) = V2 m d (Proc.devRef .tc main_arg0) :=
    Pipeline.afterRegion_of_not_arr (dat (V2 m) d) (V2 m d) (b := main_arg0) (by decide)
  have h2 : V2 m d (Proc.devRef .tc main_arg0) = V1 m d (Proc.devRef .tc main_arg0) := Function.update_of_ne (by decide) _ _
  have h1 : V1 m d (Proc.devRef .tc main_arg0) = m (d, Proc.devRef .tc main_arg0) := by
    unfold V1 opsPre; after_results_simp; rfl
  rw [← h1, ← h2, ← h3]
  unfold V4 opsPost
  simp only [TRef.ternary]
  after_results_simp

/-- The run read at the argument and at the counters. -/
theorem run_frame [∀ e, Nonempty (Elt F e)] (ρ : Dev nD → PrngReg) :
    θ_run (Cert.KernelIdeal.defs (F := F)) (Cert.KernelIdeal.threads (F := F)) ⟨m, fun _ => 0, ρ⟩ (fun r =>
      (∀ d : Dev nD, r.2.mem ((d.tc : Thread nD τ).loc main_arg0) = m ((d.tc : Thread nD τ).loc main_arg0)) ∧ r.2.sem = fun _ => 0) :=
  (θ_run (Cert.KernelIdeal.defs (F := F)) _ _).mono (fun _ h => ⟨fun d => (h.1 d main_arg0 rfl).trans (V4_arg0 m d), h.2⟩) (run_main m ρ)

/-- The idealized kernel's frame. -/
theorem frame_ideal : Cert.quiescent_KernelIdeal := fun m ρ _ => run_frame (F := Ideal) m ρ

section Same
set_option maxRecDepth 16384
set_option maxHeartbeats 4000000

theorem cc0_same : @Cert.Kernel.cc0_body F _ Cert.Kernel.Gen.facts = @Cert.KernelIdeal.cc0_body F _ Cert.KernelIdeal.Gen.facts := rfl
theorem cc1_same : @Cert.Kernel.cc1_body F _ Cert.Kernel.Gen.facts = @Cert.KernelIdeal.cc1_body F _ Cert.KernelIdeal.Gen.facts := rfl
theorem bodies_same : Cert.Kernel.defs₀ (F := F) = Cert.KernelIdeal.defs₀ := by
  funext pr ℓ a
  match pr, ℓ, a with
  | .tc, 0, a => rfl
  | .tc, 1, a => rfl
  | .scScalar c, 0, a => rfl
  | .scScalar c, 1, a => rfl
  | .scVector c s, 0, a => rfl
  | .scVector c s, 1, a => rfl
/-- The kernel and its idealization are one program, printed twice. -/
theorem defs_same : Cert.Kernel.defs (F := F) = Cert.KernelIdeal.defs (F := F) := by
  unfold Cert.Kernel.defs Cert.KernelIdeal.defs
  exact congrArg (fun d => Cert.KernelIdeal.sc.defs (Pipeline.defs Cert.KernelIdeal.pcfgs d)) (bodies_same (F := F))
theorem threads_same : (Cert.Kernel.threads (F := F)) = Cert.KernelIdeal.threads (F := F) := rfl

end Same

/-- The kernel's frame. -/
theorem frame_kernel : Cert.quiescent_Kernel := by
  intro m ρ _
  rw [defs_same, threads_same]
  exact run_frame (F := Bits) m ρ

end Cert.Proof.Sc

end
-- ==== Proof.RefFrame.lean ====
/- The reference's frame. -/
module

public import proofs.«01_k».proof.Defs
public import proofs.«01_k».proof.Proof.Gen.ReferenceIdeal.Run
public import Idealize.ShloMosaic.Lib.Quiescent

@[expose] public section

noncomputable section

namespace Cert.Proof.Reference

open Idealize.ShloMosaic Idealize.SL.Sem

/-- The reference runs and leaves its argument as it was; it declares no semaphore. -/
theorem frame_reference : Cert.quiescent_ReferenceIdeal := by
  intro m ρ _
  refine (θ_run Cert.ReferenceIdeal.defs _ _).mono ?_ (Cert.ReferenceIdeal.Value.run (F := Ideal) m ρ)
  intro r h
  exact ⟨fun d => (h d).2, sem_eq_zero_of_no_sems rfl r.2⟩

end Cert.Proof.Reference

end
-- ==== Proof.KerHost.lean ====
/- The kernel's result as a function of what its two kernels leave: the host operations after them, in stages. -/
module

public import proofs.«01_k».proof.Proof.Host
public import Idealize.ShloMosaic.Lib.StableHlo.Run

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Arith Cert.Proof.Values

variable {F : FTy → Type} [FloatOps F]

local notation "𝕄" => MT nD τ sig (HIx 1) (Elt F) ℕ UU ℕ
local notation "xV" => (Memref.whole Cert.KernelIdeal.main_v0_scv : Memref Cert.KernelIdeal.sig Kind.scVector Space.hbm Cert.KernelIdeal.S3x543x16384 EltTy.f32)
local notation "oV" => (Memref.whole Cert.KernelIdeal.main_v1_scv : Memref Cert.KernelIdeal.sig Kind.scVector Space.hbm Cert.KernelIdeal.S32x2x1024 EltTy.f32)
local notation "rV" => (Memref.whole Cert.KernelIdeal.cc0_scratch0 : Memref Cert.KernelIdeal.sig Kind.scVector Space.vmem Cert.KernelIdeal.S4x8x2048 EltTy.f32)
local notation "sV" => (Memref.whole Cert.KernelIdeal.cc0_scratch1 : Memref Cert.KernelIdeal.sig Kind.scVector Space.vmem Cert.KernelIdeal.S1024 EltTy.f32)
local notation "qV" => (Memref.whole Cert.KernelIdeal.cc0_scratch2 : Memref Cert.KernelIdeal.sig Kind.scVector Space.vmem Cert.KernelIdeal.S1024 EltTy.f32)

open Idealize.ShloMosaic.StableHlo

/-! ## The stages -/

/-- The tiles' lanes summed, by tile and slot, and a row of zeros behind. -/
def rows (o : FVec F S32x2x1024 .f32) : FVec F S257x2x8 .f32 :=
  joinRows (shapeCast S256x2x8 (transpose S32x8x2x8 [0, 2, 1, 3]
    (Host.reduceAdd (shapeCast S32x2x8x8x16 o shapeCasts_S32x2x1024_S32x2x8x8x16) (constant S_ .f32 0x00000000#32) reducesTo_S32x2x8x8x16_S32x2x8x8_d4 h_S_)
    transposes_S32x2x8x8_S32x8x2x8_0_2_1_3) shapeCasts_S32x8x2x8_S256x2x8)
    (broadcastInDim S1x2x8 ![] bcast_S_S1x2x8 (constant S_ .f32 0x00000000#32))

/-- An index table with its negative entries wrapped, as a column. -/
def wrapped (i : IVec S201 32) : IVec S201x1 32 :=
  broadcastInDim S201x1 ![0] bcast_S201_S201x1_0 (select (cmpi .slt i (broadcastInDim S201 ![] bcast_S_S201 (constantI S_ 32 0#32)))
    (addi i (broadcastInDim S201 ![] bcast_S_S201 (constantI S_ 32 257#32))) i)

/-- Every strip's two rows added. -/
def strips (o : FVec F S32x2x1024 .f32) (i1 i2 : IVec S201 32) : FVec F S201x2x8 .f32 :=
  addf (Host.gather gather_S257x2x8_S201x1_S201x2x8_12_0_n_n_0_1_128 (rows o) (wrapped i1))
    (Host.gather gather_S257x2x8_S201x1_S201x2x8_12_0_n_n_0_1_128 (rows o) (wrapped i2))

/-- The strips laid out by part, coordinate and landmark. -/
def bulk (v : FVec F S201x2x8 .f32) : FVec F S2x3x536 .f32 :=
  shapeCast S2x3x536 (transpose S2x3x67x8 [2, 0, 1, 3] (shapeCast S3x67x2x8 v shapeCasts_S201x2x8_S3x67x2x8)
    transposes_S3x67x2x8_S2x3x67x8_2_0_1_3) shapeCasts_S2x3x67x8_S2x3x536

/-- The TensorCore's lanes summed. -/
def lanes (t : FVec F S3x543x128 .f32) : FVec F S3x543 .f32 :=
  Host.reduceAdd t (constant S_ .f32 0x00000000#32) reducesTo_S3x543x128_S3x543_d2 h_S_

/-- The frames the tiles took, of the landmarks they did not. -/
def tail (A : FVec F S16384x543x3 .f32) : FVec F S12288x7x3 .f32 :=
  extractStridedSlice S12288x7x3 ![0, 536, 0] A slices_S16384x543x3_S12288x7x3_0_536_0

def tailSum (A : FVec F S12288x7x3 .f32) : FVec F S3x7 .f32 :=
  transpose S3x7 [1, 0] (Host.reduceAdd A (constant S_ .f32 0x00000000#32) reducesTo_S12288x7x3_S7x3_d0 h_S_) transposes_S7x3_S3x7_1_0

/-- All frames' sums. -/
def sums (b : FVec F S3x536 .f32) (t : FVec F S3x543 .f32) (e : FVec F S3x7 .f32) : FVec F S3x543 .f32 :=
  joinLandmarks (addf b (extractStridedSlice S3x536 ![0, 0] t slices_S3x543_S3x536_0_0))
    (addf e (extractStridedSlice S3x7 ![0, 536] t slices_S3x543_S3x7_0_536))

def part0 (v : FVec F S2x3x536 .f32) : FVec F S3x536 .f32 :=
  shapeCast S3x536 (extractStridedSlice S1x3x536 ![0, 0, 0] v slices_S2x3x536_S1x3x536_0_0_0) shapeCasts_S1x3x536_S3x536
def part1 (v : FVec F S2x3x536 .f32) : FVec F S3x536 .f32 :=
  shapeCast S3x536 (extractStridedSlice S1x3x536 ![1, 0, 0] v slices_S2x3x536_S1x3x536_1_0_0) shapeCasts_S1x3x536_S3x536

/-- Sums divided by the number of frames, by landmark and coordinate. -/
def over (s : FVec F S3x543 .f32) : FVec F S1629 .f32 :=
  Host.divf (shapeCast S1629 (transpose S543x3 [1, 0] s transposes_S3x543_S543x3_1_0) shapeCasts_S543x3_S1629)
    (broadcastInDim S1629 ![] bcast_S_S1629 (constant S_ .f32 0x46800000#32))

/-- The means and the deviations. -/
def feats (mu sq : FVec F S1629 .f32) : FVec F S3258 .f32 :=
  joinResults mu (Host.sqrt (subf sq (mulf mu mu)))

/-- Zero in place of what is not finite. -/
def cleaned (x : FVec F S3258 .f32) : FVec F S3258 .f32 :=
  select (cmpf .olt (Host.absf x) (broadcastInDim S3258 ![] bcast_S_S3258 (constant S_ .f32 0x7F800000#32))) x
    (broadcastInDim S3258 ![] bcast_S_S3258 (constant S_ .f32 0x00000000#32))

/-- The kernel's result from the tiles' and the TensorCore's. -/
def final (o : FVec F S32x2x1024 .f32) (i1 i2 : IVec S201 32) (t0 t1 : FVec F S3x543x128 .f32) (A : FVec F S16384x543x3 .f32) : FVec F S3258 .f32 :=
  cleaned (feats (over (sums (part0 (bulk (strips o i1 i2))) (lanes t0) (tailSum (tail A))))
    (over (sums (part1 (bulk (strips o i1 i2))) (lanes t1) (tailSum (mulf (tail A) (tail A))))))

variable (m : (ℓ : Loc nD τ sig) → Buf (Elt F) ℓ)

set_option maxRecDepth 8192 in
set_option maxHeartbeats 2000000 in
theorem after_post (V : Valuation τ sig (Elt F)) : after opsPost V (Proc.devRef .tc main_v65)
    = final (V (Proc.devRef .tc main_v1)) (V (Proc.devRef .tc main_c)) (V (Proc.devRef .tc main_c_0))
        (V (Proc.devRef .tc main_v2_0)) (V (Proc.devRef .tc main_v2_1)) (V (Proc.devRef .tc main_arg0)) := by
  unfold opsPost
  simp only [TRef.ternary, TRef.toBuf, TRef.ofBuf, cast_eq]
  after_results_simp
  rfl

end Cert.Proof.Sc

end
-- ==== Proof.KerState.lean ====
/- What the buffers hold when the host operations after the two kernels start: the transposed input, the tiles' sums,
   the TensorCore's sums by lane, the two index tables and the input itself. -/
module

public import proofs.«01_k».proof.Proof.Frames
public import proofs.«01_k».proof.Proof.KerHost
public import Idealize.ShloMosaic.Lib.Pointwise
public import Idealize.ShloMosaic.Lib.Pipeline.ValueKit.Geometry

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Arith Cert.Proof.Values

variable {F : FTy → Type} [FloatOps F]

local notation "𝕄" => MT nD τ sig (HIx 1) (Elt F) ℕ UU ℕ
local notation "xV" => (Memref.whole Cert.KernelIdeal.main_v0_scv : Memref Cert.KernelIdeal.sig Kind.scVector Space.hbm Cert.KernelIdeal.S3x543x16384 EltTy.f32)
local notation "oV" => (Memref.whole Cert.KernelIdeal.main_v1_scv : Memref Cert.KernelIdeal.sig Kind.scVector Space.hbm Cert.KernelIdeal.S32x2x1024 EltTy.f32)
local notation "rV" => (Memref.whole Cert.KernelIdeal.cc0_scratch0 : Memref Cert.KernelIdeal.sig Kind.scVector Space.vmem Cert.KernelIdeal.S4x8x2048 EltTy.f32)
local notation "sV" => (Memref.whole Cert.KernelIdeal.cc0_scratch1 : Memref Cert.KernelIdeal.sig Kind.scVector Space.vmem Cert.KernelIdeal.S1024 EltTy.f32)
local notation "qV" => (Memref.whole Cert.KernelIdeal.cc0_scratch2 : Memref Cert.KernelIdeal.sig Kind.scVector Space.vmem Cert.KernelIdeal.S1024 EltTy.f32)

open Idealize.ShloMosaic.StableHlo

variable (m : (ℓ : Loc nD τ sig) → Buf (Elt F) ℓ)

/-- The input. -/
def arg (d : Dev nD) : FVec F S16384x543x3 .f32 := m (d, Proc.devRef .tc main_arg0)

/-- The transposed input is the input with its axes turned round. -/
theorem Xt_apply (d : Dev nD) (c : Fin 3) (l : Fin 543) (f : Fin 16384) : Xt m d (ix3 c l f) = arg m d (ix3 f l c) := by
  have h : Xt m d = transpose S3x543x16384 [2, 1, 0] (arg m d) transposes_S16384x543x3_S3x543x16384_2_1_0 := by
    unfold Xt V1 opsPre; after_results_simp; rfl
  rw [h]
  generalize arg m d = A
  pointwise

/-! ## The buffers that neither kernel writes -/

theorem V3_keep (d : Dev nD) (b : Ref sig .tc) (h : ∀ w : Fin cfg1.W, b ≠ Pipeline.arrRef cfg1.spec w) (h' : Proc.devRef (τ := τ) .tc b ≠ Proc.devRef .tc main_v1) :
    V3 m d (Proc.devRef .tc b) = V1 m d (Proc.devRef .tc b) :=
  (Pipeline.afterRegion_of_not_arr (dat (V2 m) d) (V2 m d) (b := b) h).trans (Function.update_of_ne h' _ _)

theorem V3_arg0 (d : Dev nD) : V3 m d (Proc.devRef .tc main_arg0) = arg m d := by
  rw [V3_keep m d main_arg0 (by decide) (by decide)]
  unfold V1 opsPre; after_results_simp; rfl

theorem V3_c (d : Dev nD) : V3 m d (Proc.devRef .tc main_c) = fun i => lit0 (S201.rowMajor i) := by
  rw [V3_keep m d main_c (by decide) (by decide)]
  unfold V1 opsPre; after_results_simp; rfl

theorem V3_c_0 (d : Dev nD) : V3 m d (Proc.devRef .tc main_c_0) = fun i => lit1 (S201.rowMajor i) := by
  rw [V3_keep m d main_c_0 (by decide) (by decide)]
  unfold V1 opsPre; after_results_simp; rfl

/-! ## The kernels' results -/

theorem V3_v1 (d : Dev nD) : V3 m d (Proc.devRef .tc main_v1) = scOut (Xt m d) :=
  (Pipeline.afterRegion_of_not_arr (dat (V2 m) d) (V2 m d) (b := main_v1) (by decide)).trans (Function.update_self _ _ _)

theorem V2_v0 (d : Dev nD) : V2 m d (Proc.devRef .tc main_v0) = Xt m d := Function.update_of_ne (by decide) _ _

/-- The TensorCore's block of coordinate `c`: the transposed input's last 4096 frames. -/
def block (X : FVec F S3x543x16384 .f32) (c : Fin 3) : FVec F S1x543x4096 .f32 :=
  fun i => X (ix3 c ⟨(i 1).val, (i 1).isLt⟩ ⟨12288 + (i 2).val, by have : (i 2).val < 4096 := (i 2).isLt; omega⟩)

/-- The TensorCore's sums by coordinate, landmark and lane. -/
def tcOut (q : Bool) (X : FVec F S3x543x16384 .f32) : FVec F S3x543x128 .f32 :=
  fun i => col q (block X ⟨(i 0).val, (i 0).isLt⟩) ⟨(i 1).val, (i 1).isLt⟩ (i 2).val 32

theorem index_in : ∀ t : Fin cfg1.N, win1_0.index t = ![t.val, 0, 3] := by decide +kernel
theorem index_sum : ∀ t : Fin cfg1.N, win1_1.index t = ![t.val, 0, 0] := by decide +kernel
theorem index_sq : ∀ t : Fin cfg1.N, win1_2.index t = ![t.val, 0, 0] := by decide +kernel

theorem blkIn_eq (d : Dev nD) (t : Fin cfg1.N) : blkIn (V2 m) d t = block (Xt m d) ⟨t.val, t.isLt⟩ := by
  funext y
  unfold blkIn
  rw [V2_v0]
  generalize Xt m d = X
  unfold block
  blk_ext [index_in t]

/-- An element of a block of the sums, placed in the whole. -/
theorem tcOut_at (q : Bool) (X : FVec F S3x543x16384 .f32) (t : Fin 3) (y : S1x543x128.Idx) (i : S3x543x128.Idx)
    (h0 : (i 0).val = t.val) (h1 : (i 1).val = (y 1).val) (h2 : (i 2).val = (y 2).val) : colB q (block X t) y = tcOut q X i := by
  unfold colB tcOut
  have e0 : (⟨(i 0).val, (i 0).isLt⟩ : Fin 3) = t := Fin.ext h0
  have e1 : (⟨(i 1).val, (i 1).isLt⟩ : Fin 543) = y 1 := Fin.ext h1
  rw [e0, e1, h2]

theorem V3_v2_0 (d : Dev nD) : V3 m d (Proc.devRef .tc main_v2_0) = tcOut false (Xt m d) := by
  refine (Pipeline.afterRegion_arr (dat (V2 m) d) (V2 m d) launch1.win.arr_inj 1).trans ?_
  refine (dat (V2 m) d).arrAt_eq_of_covers 1 _ (by decide +kernel) fun t hf y => ?_
  blk_simp
  show colB false (blkIn (V2 m) d t) y = _
  rw [blkIn_eq]
  refine tcOut_at _ _ _ _ _ ?_ ?_ ?_ <;> blk_simp [index_sum t]

theorem V3_v2_1 (d : Dev nD) : V3 m d (Proc.devRef .tc main_v2_1) = tcOut true (Xt m d) := by
  refine (Pipeline.afterRegion_arr (dat (V2 m) d) (V2 m d) launch1.win.arr_inj 2).trans ?_
  refine (dat (V2 m) d).arrAt_eq_of_covers 2 _ (by decide +kernel) fun t hf y => ?_
  blk_simp
  show colB true (blkIn (V2 m) d t) y = _
  rw [blkIn_eq]
  refine tcOut_at _ _ _ _ _ ?_ ?_ ?_ <;> blk_simp [index_sq t]

/-- The kernel's result at the end, from the input. -/
theorem V4_v65 (d : Dev nD) : V4 m d (Proc.devRef .tc main_v65)
    = final (scOut (Xt m d)) (fun i => lit0 (S201.rowMajor i)) (fun i => lit1 (S201.rowMajor i))
        (tcOut false (Xt m d)) (tcOut true (Xt m d)) (arg m d) := by
  unfold V4
  rw [after_post, V3_v1, V3_c, V3_c_0, V3_v2_0, V3_v2_1, V3_arg0]

end Cert.Proof.Sc

end
-- ==== Proof.Sums.lean ====
/- The sums of the kernel's parts at the extended reals, where an accumulation is the sum of what was accumulated: a
   work unit's sixteen lanes together are the sum over its 2048 frames, a tile's accumulator row is the sum of those of
   its units that belong to the row's strip, and the TensorCore's lanes together are the sum over the last 4096 frames. -/
module

public import proofs.«01_k».proof.Proof.TcBody
public import Idealize.ShloMosaic.PureOps.Ideal.Laws

@[expose] public section

noncomputable section

namespace Cert.Proof.Sums

open Cert.KernelIdeal Cert.KernelIdeal.Gen
open Idealize.ShloMosaic
open Cert.Proof.Arith Cert.Proof.Values Cert.Proof.Sc

theorem z0_eq : (z0 : Ideal .f32) = 0 := Ideal.ofBits_zero_f32

/-- A sum over a product range, block by block. -/
theorem sum_blocks (g : ℕ → EReal) (a b : ℕ) :
    ∑ i ∈ Finset.range (a * b), g i = ∑ n ∈ Finset.range a, ∑ r ∈ Finset.range b, g (b * n + r) := by
  induction a with
  | zero => simp
  | succ a ih => rw [Nat.succ_mul, Finset.sum_range_add, ih, Finset.sum_range_succ, Nat.mul_comm a b]

variable (q : Bool) (X : FVec Ideal S3x543x16384 .f32)

/-- What is summed at a coordinate, a landmark and a frame. -/
def entry (c l f : ℕ) : EReal := term q (at3 X c l f)

theorem unitS_eq (u lm lane n : ℕ) : unitS q X u lm lane n
    = ∑ i ∈ Finset.range n, entry q X (u / 6 / 67) (8 * (u / 6 % 67) + lm) (2048 * (u % 6) + (16 * i + lane)) := by
  induction n with
  | zero => exact z0_eq
  | succ n ih => rw [Finset.sum_range_succ, ← ih]; rfl

/-- A unit's sum for a landmark. -/
def unitT (u lm : ℕ) : EReal :=
  ∑ r ∈ Finset.range 2048, entry q X (u / 6 / 67) (8 * (u / 6 % 67) + lm) (2048 * (u % 6) + r)

theorem unit_lanes (u lm : ℕ) : ∑ lane ∈ Finset.range 16, unitS q X u lm lane 128 = unitT q X u lm := by
  unfold unitT
  rw [show (2048 : ℕ) = 128 * 16 from rfl, sum_blocks _ 128 16, Finset.sum_comm]
  exact Finset.sum_congr rfl fun lane _ => unitS_eq q X u lm lane 128

theorem acc_eq (b n e : ℕ) : acc q X b n e
    = ∑ t ∈ Finset.range n, if (b + t) / 6 - b / 6 = e / 128 then unitS q X (b + t) (e / 16 % 8) (e % 16) 128 else 0 := by
  induction n with
  | zero => exact z0_eq
  | succ n ih =>
    rw [Finset.sum_range_succ, ← ih, acc]
    split
    · rfl
    · rw [add_zero]

/-- The sixteen lanes of an accumulator's landmark row. -/
theorem acc_lanes (b n slot lm : ℕ) (hl : lm < 8) :
    ∑ lane ∈ Finset.range 16, acc q X b n ((slot * 8 + lm) * 16 + lane)
      = ∑ t ∈ Finset.range n, if (b + t) / 6 - b / 6 = slot then unitT q X (b + t) lm else 0 := by
  rw [Finset.sum_congr rfl fun lane hlane => acc_eq q X b n ((slot * 8 + lm) * 16 + lane), Finset.sum_comm]
  refine Finset.sum_congr rfl fun t _ => ?_
  by_cases h : (b + t) / 6 - b / 6 = slot
  · rw [if_pos h, ← unit_lanes]
    refine Finset.sum_congr rfl fun lane hlane => ?_
    have := Finset.mem_range.1 hlane
    rw [if_pos (by omega), show ((slot * 8 + lm) * 16 + lane) / 16 % 8 = lm by omega,
      show ((slot * 8 + lm) * 16 + lane) % 16 = lane by omega]
  · rw [if_neg h]
    refine Finset.sum_eq_zero fun lane hlane => ?_
    have := Finset.mem_range.1 hlane
    exact if_neg (by omega)

/-- Row `r` of the tiles' results (tile `r / 8`, slot `r % 8`) holds unit `u`. -/
def covers (r u : ℕ) : Bool :=
  decide (r < 256 ∧ base (r / 8) ≤ u ∧ u < base (r / 8) + cnt (r / 8) ∧ u / 6 - base (r / 8) / 6 = r % 8)

/-- What row `r` holds for a landmark. -/
def rowT (r lm : ℕ) : EReal := ∑ u ∈ Finset.range 1206, if covers r u then unitT q X u lm else 0

theorem base_cnt_le (w : ℕ) (hw : w < 32) : base w + cnt w ≤ 1206 := by unfold base cnt; omega

theorem row_eq (w slot lm : ℕ) (hw : w < 32) (hs : slot < 8) (hl : lm < 8) :
    ∑ lane ∈ Finset.range 16, acc q X (base w) (cnt w) ((slot * 8 + lm) * 16 + lane) = rowT q X (w * 8 + slot) lm := by
  rw [acc_lanes q X _ _ slot lm hl]
  unfold rowT
  have hle := base_cnt_le w hw
  have h8 : (w * 8 + slot) / 8 = w := by omega
  have h8' : (w * 8 + slot) % 8 = slot := by omega
  have hr : w * 8 + slot < 256 := by omega
  have e : ∀ u, (covers (w * 8 + slot) u = true) ↔ (base w ≤ u ∧ u < base w + cnt w ∧ u / 6 - base w / 6 = slot) := by
    intro u; unfold covers; rw [decide_eq_true_iff, h8, h8']; exact ⟨fun h => h.2, fun h => ⟨hr, h⟩⟩
  generalize base w = b at *
  generalize cnt w = n at *
  rw [show (1206 : ℕ) = b + (n + (1206 - (b + n))) by omega, Finset.sum_range_add, Finset.sum_range_add]
  rw [Finset.sum_eq_zero (s := Finset.range b) fun u hu => if_neg fun h => ?_,
    Finset.sum_eq_zero (s := Finset.range (1206 - (b + n))) fun u hu => if_neg fun h => ?_, zero_add, add_zero]
  · refine Finset.sum_congr rfl fun t ht => ?_
    have ht := Finset.mem_range.1 ht
    by_cases h : (b + t) / 6 - b / 6 = slot
    · rw [if_pos h, if_pos ((e _).2 ⟨by omega, by omega, h⟩)]
    · rw [if_neg h, if_neg fun h' => h ((e _).1 h').2.2]
  · have := (e _).1 h; have := Finset.mem_range.1 hu; omega
  · have := (e _).1 h; have := Finset.mem_range.1 hu; omega

theorem rowT_dummy (lm : ℕ) : rowT q X 256 lm = 0 :=
  Finset.sum_eq_zero fun u _ => if_neg (by simp [covers])

/-- A strip's six units together are the sum over the first 12288 frames. -/
theorem strip_eq (s lm : ℕ) (hs : s < 201) :
    ∑ u ∈ Finset.range 1206, (if u / 6 = s then unitT q X u lm else 0)
      = ∑ f ∈ Finset.range 12288, entry q X (s / 67) (8 * (s % 67) + lm) f := by
  rw [show (1206 : ℕ) = 201 * 6 from rfl, sum_blocks _ 201 6,
    Finset.sum_eq_single_of_mem s (Finset.mem_range.2 hs) fun n _ hn => ?_]
  · rw [show (12288 : ℕ) = 6 * 2048 from rfl, sum_blocks _ 6 2048]
    refine Finset.sum_congr rfl fun j hj => ?_
    have := Finset.mem_range.1 hj
    rw [if_pos (by omega)]
    unfold unitT
    rw [show (6 * s + j) / 6 = s by omega, show (6 * s + j) % 6 = j by omega]
  · refine Finset.sum_eq_zero fun j hj => if_neg ?_
    have := Finset.mem_range.1 hj
    omega

/-- Two rows that between them hold exactly the units of a strip, once each. -/
theorem pair_eq (r1 r2 s lm : ℕ) (hs : s < 201)
    (h : ∀ u < 1206, (if covers r1 u then 1 else 0) + (if covers r2 u then 1 else 0) = if u / 6 = s then 1 else 0) :
    rowT q X r1 lm + rowT q X r2 lm = ∑ f ∈ Finset.range 12288, entry q X (s / 67) (8 * (s % 67) + lm) f := by
  rw [← strip_eq q X s lm hs]
  unfold rowT
  rw [← Finset.sum_add_distrib]
  refine Finset.sum_congr rfl fun u hu => ?_
  have h := h u (Finset.mem_range.1 hu)
  by_cases h1 : covers r1 u = true <;> by_cases h2 : covers r2 u = true <;> by_cases h3 : u / 6 = s <;>
    simp_all

/-- The TensorCore's lanes together are the sum over a block's 4096 frames. -/
theorem col_eq (x : FVec Ideal S1x543x4096 .f32) (l : Fin 543) (g : ℕ → EReal)
    (hg : ∀ f : Fin 4096, term q (x (ValueIdx.ix3 0 l f)) = g f.val) :
    ∑ lane ∈ Finset.range 128, col q x l lane 32 = ∑ f ∈ Finset.range 4096, g f := by
  have h : ∀ lane n, col q x l lane n = ∑ i ∈ Finset.range n, g ((128 * i + lane) % 4096) := by
    intro lane n
    induction n with
    | zero => exact z0_eq
    | succ n ih => rw [Finset.sum_range_succ, ← ih, ← hg ⟨_, _⟩]; rfl
  rw [show (4096 : ℕ) = 32 * 128 from rfl, sum_blocks _ 32 128, Finset.sum_comm]
  refine Finset.sum_congr rfl fun lane hlane => (h lane 32).trans (Finset.sum_congr rfl fun i hi => ?_)
  have := Finset.mem_range.1 hlane
  have := Finset.mem_range.1 hi
  rw [Nat.mod_eq_of_lt (by omega)]

end Cert.Proof.Sums

end
-- ==== Proof.Tables.lean ====
/- The kernel's two index tables: for every strip the two rows they name hold between them the strip's six units, once
   each, and nothing else. -/
module

public import proofs.«01_k».proof.Proof.Sums

@[expose] public section

noncomputable section

namespace Cert.Proof.Sums

open Cert.KernelIdeal Cert.KernelIdeal.Gen
open Idealize.ShloMosaic
open Cert.Proof.Arith

/-- What is checked of a strip's two rows. -/
def rowsOk (s r1 r2 : ℕ) : Bool :=
  decide (r1 < 257 ∧ r2 < 257 ∧ (r1 < 256 → base (r1 / 8) / 6 + r1 % 8 = s) ∧ (r2 < 256 → base (r2 / 8) / 6 + r2 % 8 = s))
    && (List.range 6).all fun j => (covers r1 (6 * s + j)).toNat + (covers r2 (6 * s + j)).toNat == 1

set_option maxRecDepth 100000 in
set_option maxHeartbeats 4000000 in
theorem tables_ok : ∀ s : Fin 201, rowsOk s.val (lit0 s).toNat (lit1 s).toNat = true := by decide +kernel

theorem covers_strip (r u s : ℕ) (h : r < 256 → base (r / 8) / 6 + r % 8 = s) (hc : covers r u = true) : u / 6 = s := by
  unfold covers at hc
  rw [decide_eq_true_iff] at hc
  obtain ⟨h1, h2, h3, h4⟩ := hc
  have := h h1
  have : base (r / 8) / 6 ≤ u / 6 := Nat.div_le_div_right h2
  omega

/-- The tables' rows of a strip. -/
theorem tables_pair (q : Bool) (X : FVec Ideal S3x543x16384 .f32) (s : Fin 201) (lm : ℕ) :
    rowT q X (lit0 s).toNat lm + rowT q X (lit1 s).toNat lm
      = ∑ f ∈ Finset.range 12288, entry q X (s.val / 67) (8 * (s.val % 67) + lm) f := by
  have h := tables_ok s
  unfold rowsOk at h
  rw [Bool.and_eq_true, decide_eq_true_iff, List.all_eq_true] at h
  obtain ⟨⟨_, _, h1, h2⟩, h3⟩ := h
  refine pair_eq q X _ _ s.val lm s.isLt fun u hu => ?_
  by_cases hs : u / 6 = s.val
  · have := h3 (u % 6) (List.mem_range.2 (Nat.mod_lt _ (by decide)))
    rw [show 6 * s.val + u % 6 = u by omega] at this
    rw [if_pos hs]
    generalize covers _ u = a at *
    generalize covers _ u = b at *
    cases a <;> cases b <;> simp_all
  · rw [if_neg hs, if_neg fun h => hs (covers_strip _ _ _ h1 h), if_neg fun h => hs (covers_strip _ _ _ h2 h)]

theorem tables_lt (s : Fin 201) : (lit0 s).toNat < 257 ∧ (lit1 s).toNat < 257 := by
  have h := tables_ok s
  unfold rowsOk at h
  rw [Bool.and_eq_true, decide_eq_true_iff] at h
  exact ⟨h.1.1, h.1.2.1⟩

end Cert.Proof.Sums

end
-- ==== Proof.Gather.lean ====
/- The kernel's gather of rows, read at an index. -/
module

public import proofs.«01_k».proof.Proof.Tables
public import Idealize.ShloMosaic.Lib.Pointwise
public import Idealize.ShloMosaic.Lib.StableHlo.Predicate

@[expose] public section

noncomputable section

namespace Cert.Proof.Sums

open Cert.KernelIdeal Cert.KernelIdeal.Gen
open Idealize.ShloMosaic

/-- A gather of whole rows: where the index table holds the number of a row, the result holds that row. -/
theorem gather_rows {α : Type} (x : S257x2x8.Idx → α) (idx : IVec S201x1 32) (s : Fin 201) (p : Fin 2) (lm : Fin 8) (b : Fin 257)
    (hb : idx (ix2 s 0) = BitVec.ofNat 32 b.val) :
    Host.gather gather_S257x2x8_S201x1_S201x2x8_12_0_n_n_0_1_128 x idx (ix3 s p lm) = x (ix3 b p lm) := by
  unfold Host.gather
  refine congrArg x (funext fun a => Fin.ext ?_)
  generalize hd : gather_S257x2x8_S201x1_S201x2x8_12_0_n_n_0_1_128 = d
  have hbat : ∀ a', d.batchCoord (ix3 s p lm) a' = 0 := fun a' => d.batchCoord_eq_zero _ _ (by subst hd; exact List.not_mem_nil)
  show d.start (ix3 s p lm) idx a + d.batchCoord (ix3 s p lm) a + d.offCoord (ix3 s p lm) a = _
  rw [hbat, Nat.add_zero]
  subst hd
  match a with
  | ⟨0, _⟩ =>
    have hsi : gather_S257x2x8_S201x1_S201x2x8_12_0_n_n_0_1_128.siIdx (ix3 s p lm) ⟨0, by decide⟩ = ix2 s (0 : Fin 1) := by
      funext b'
      match b' with
      | ⟨0, _⟩ => rfl
      | ⟨1, _⟩ => rfl
    have hst : gather_S257x2x8_S201x1_S201x2x8_12_0_n_n_0_1_128.start (ix3 s p lm) idx 0
        = min (idx (ix2 s 0)).toInt.toNat (257 - 1) := by
      rw [← hsi]; rfl
    have hbl := b.isLt
    show gather_S257x2x8_S201x1_S201x2x8_12_0_n_n_0_1_128.start (ix3 s p lm) idx 0 + 0 = b.val
    rw [hst, hb, StableHlo.Predicate.toInt_ofNat_small _ (by omega)]
    omega
  | ⟨1, _⟩ => exact Nat.zero_add _
  | ⟨2, _⟩ => exact Nat.zero_add _

end Cert.Proof.Sums

end
-- ==== Proof.Stats.lean ====
/- The statistics of one column of extended reals: its mean, and its standard deviation computed in one pass (the mean
   of the squares less the square of the mean) and in two (the mean of the squared distances from the mean). Where
   every entry is finite the two deviations are equal; where one is not, each of them comes out infinite, and the final
   replacement of infinite results by zero makes them equal again. -/
module

public import Idealize.ShloMosaic.PureOps.Ideal

@[expose] public section

noncomputable section

namespace Cert.Proof.Stats

open Idealize.ShloMosaic

/-- The number of frames, as an extended real. -/
def frames : EReal := ((16384 : ℝ) : EReal)

/-- The mean of a column. -/
def mean (a : ℕ → EReal) : EReal := Ideal.div (∑ f ∈ Finset.range 16384, a f) frames

/-- The standard deviation of a column from its sum and its sum of squares. -/
def stdOne (a : ℕ → EReal) : EReal :=
  Ideal.sqrt (Ideal.div (∑ f ∈ Finset.range 16384, a f * a f) frames - mean a * mean a)

/-- The standard deviation of a column from its distances to its mean. -/
def stdTwo (a : ℕ → EReal) : EReal :=
  Ideal.sqrt (Ideal.div (∑ f ∈ Finset.range 16384, (a f - mean a) * (a f - mean a)) frames)

/-- A result as it is handed out: zero in place of anything infinite. -/
def clean (x : EReal) : EReal := if max x (-x) < ⊤ then x else 0

theorem clean_top : clean ⊤ = 0 := by simp [clean]
theorem clean_bot : clean ⊥ = 0 := by simp [clean]

/-- A finite sum with an entry ⊥ is ⊥. -/
theorem sum_bot (g : ℕ → EReal) (s : Finset ℕ) (i : ℕ) (hi : i ∈ s) (h : g i = ⊥) : ∑ f ∈ s, g f = ⊥ := by
  rw [← Finset.add_sum_erase s g hi, h, EReal.bot_add]

/-- A finite sum without an entry ⊥ is not ⊥. -/
theorem sum_ne_bot (g : ℕ → EReal) (s : Finset ℕ) (h : ∀ f ∈ s, g f ≠ ⊥) : ∑ f ∈ s, g f ≠ ⊥ := by
  induction s using Finset.cons_induction with
  | empty => simp
  | cons a s ha ih =>
    rw [Finset.sum_cons]
    refine EReal.add_ne_bot_iff.2 ⟨h a (Finset.mem_cons_self ..), ih fun f hf => h f (Finset.mem_cons_of_mem hf)⟩

/-- A finite sum with an entry ⊤ and none ⊥ is ⊤. -/
theorem sum_top (g : ℕ → EReal) (s : Finset ℕ) (i : ℕ) (hi : i ∈ s) (h : g i = ⊤) (hb : ∀ f ∈ s, g f ≠ ⊥) :
    ∑ f ∈ s, g f = ⊤ := by
  rw [← Finset.add_sum_erase s g hi, h]
  exact EReal.top_add_of_ne_bot (sum_ne_bot g _ fun f hf => hb f (Finset.mem_of_mem_erase hf))

/-- A finite sum of reals, taken among the extended reals. -/
theorem sum_coe (g : ℕ → EReal) (r : ℕ → ℝ) (s : Finset ℕ) (h : ∀ f ∈ s, g f = (r f : EReal)) :
    ∑ f ∈ s, g f = ((∑ f ∈ s, r f : ℝ) : EReal) := by
  induction s using Finset.cons_induction with
  | empty => simp
  | cons a s ha ih =>
    rw [Finset.sum_cons, Finset.sum_cons, EReal.coe_add, h a (Finset.mem_cons_self ..),
      ih fun f hf => h f (Finset.mem_cons_of_mem hf)]

theorem frames_ne : frames ≠ 0 := by
  unfold frames; exact fun h => by norm_num at h

theorem div_coe (x : ℝ) : Ideal.div (x : EReal) frames = ((x / 16384 : ℝ) : EReal) := by
  unfold Ideal.div
  rw [if_neg frames_ne]
  unfold frames
  rw [← EReal.coe_inv, ← EReal.coe_mul, div_eq_mul_inv]

theorem div_top : Ideal.div ⊤ frames = ⊤ := by
  unfold Ideal.div
  rw [if_neg frames_ne]
  unfold frames
  rw [← EReal.coe_inv]
  exact EReal.top_mul_coe_of_pos (by norm_num)

theorem div_bot : Ideal.div ⊥ frames = ⊥ := by
  unfold Ideal.div
  rw [if_neg frames_ne]
  unfold frames
  rw [← EReal.coe_inv]
  exact EReal.bot_mul_coe_of_pos (by norm_num)

theorem sq_ne_bot (x : EReal) : x * x ≠ ⊥ := by
  induction x with
  | bot => simp
  | top => simp
  | coe r => rw [← EReal.coe_mul]; exact EReal.coe_ne_bot _

/-- The sum of squares of a column with an infinite entry. -/
theorem sq_top (g : ℕ → EReal) (s : Finset ℕ) (i : ℕ) (hi : i ∈ s) (h : g i * g i = ⊤) : ∑ f ∈ s, g f * g f = ⊤ :=
  sum_top _ s i hi h fun f _ => sq_ne_bot (g f)

/-- The mean of a column with an infinite entry is infinite: ⊥ if an entry is ⊥, ⊤ if an entry is ⊤ and none is ⊥. -/
theorem mean_cases (a : ℕ → EReal) (h : ∃ f ∈ Finset.range 16384, a f = ⊤ ∨ a f = ⊥) :
    (mean a = ⊥ ∧ ∃ f ∈ Finset.range 16384, a f = ⊥)
      ∨ (mean a = ⊤ ∧ (∃ f ∈ Finset.range 16384, a f = ⊤) ∧ ∀ f ∈ Finset.range 16384, a f ≠ ⊥) := by
  by_cases hb : ∃ f ∈ Finset.range 16384, a f = ⊥
  · obtain ⟨f, hf, e⟩ := hb
    exact .inl ⟨by unfold mean; rw [sum_bot a _ f hf e, div_bot], f, hf, e⟩
  · have hb' : ∀ f ∈ Finset.range 16384, a f ≠ ⊥ := fun f hf e => hb ⟨f, hf, e⟩
    obtain ⟨f, hf, e | e⟩ := h
    · exact .inr ⟨by unfold mean; rw [sum_top a _ f hf e hb', div_top], ⟨f, hf, e⟩, hb'⟩
    · exact absurd e (hb' f hf)

theorem sqrt_top : Ideal.sqrt ⊤ = ⊤ := rfl
theorem sqrt_bot : Ideal.sqrt ⊥ = ⊥ := rfl

/-- The two deviations agree on a column of finite entries. -/
theorem std_finite (a : ℕ → EReal) (r : ℕ → ℝ) (h : ∀ f ∈ Finset.range 16384, a f = (r f : EReal)) :
    stdTwo a = stdOne a := by
  have hm : mean a = (((∑ f ∈ Finset.range 16384, r f) / 16384 : ℝ) : EReal) := by
    unfold mean; rw [sum_coe a r _ h, div_coe]
  unfold stdTwo stdOne
  rw [hm]
  generalize hμ : ((∑ f ∈ Finset.range 16384, r f) / 16384 : ℝ) = μ
  rw [sum_coe (fun f => a f * a f) (fun f => r f * r f) _ (fun f hf => by rw [h f hf, EReal.coe_mul]),
    sum_coe (fun f => (a f - (μ : EReal)) * (a f - (μ : EReal))) (fun f => (r f - μ) * (r f - μ)) _
      (fun f hf => by rw [h f hf, EReal.coe_mul, EReal.coe_sub]), div_coe, div_coe, ← EReal.coe_mul, ← EReal.coe_sub]
  refine congrArg (fun x : ℝ => Ideal.sqrt (x : EReal)) ?_
  have hs : ∑ f ∈ Finset.range 16384, r f = 16384 * μ := by rw [← hμ]; ring
  have e : ∑ f ∈ Finset.range 16384, (r f - μ) * (r f - μ)
      = ∑ f ∈ Finset.range 16384, r f * r f - 2 * μ * ∑ f ∈ Finset.range 16384, r f + 16384 * (μ * μ) := by
    rw [Finset.mul_sum, ← Finset.sum_sub_distrib]
    have hc : (16384 : ℝ) * (μ * μ) = ∑ _f ∈ Finset.range 16384, μ * μ := by
      rw [Finset.sum_const, Finset.card_range, nsmul_eq_mul]; norm_num
    rw [hc, ← Finset.sum_add_distrib]
    exact Finset.sum_congr rfl fun f _ => by ring
  rw [e, hs]
  ring

/-- The two deviations agree on every column once infinite results are replaced by zero. -/
theorem clean_std (a : ℕ → EReal) : clean (stdTwo a) = clean (stdOne a) := by
  by_cases h : ∃ f ∈ Finset.range 16384, a f = ⊤ ∨ a f = ⊥
  · have h1 : ∑ f ∈ Finset.range 16384, a f * a f = ⊤ := by
      obtain ⟨f, hf, e | e⟩ := h <;> exact sq_top a _ f hf (by rw [e]; simp)
    have h2 : mean a * mean a = ⊤ ∧ ∃ f ∈ Finset.range 16384, (a f - mean a) * (a f - mean a) = ⊤ := by
      rcases mean_cases a h with ⟨e, f, hf, ef⟩ | ⟨e, ⟨f, hf, ef⟩, _⟩
      · exact ⟨by rw [e]; simp, f, hf, by rw [e, ef]; simp⟩
      · exact ⟨by rw [e]; simp, f, hf, by rw [e, ef]; simp⟩
    obtain ⟨hm, f, hf, ef⟩ := h2
    have e1 : stdOne a = ⊥ := by unfold stdOne; rw [h1, hm, div_top]; exact (congrArg _ (by simp)).trans sqrt_bot
    have e2 : stdTwo a = ⊤ := by
      unfold stdTwo; rw [sq_top (fun f => a f - mean a) _ f hf ef, div_top, sqrt_top]
    rw [e1, e2, clean_top, clean_bot]
  · have hr : ∀ f ∈ Finset.range 16384, a f = ((a f).toReal : EReal) := fun f hf =>
      (EReal.coe_toReal (fun e => h ⟨f, hf, .inl e⟩) (fun e => h ⟨f, hf, .inr e⟩)).symm
    rw [std_finite a _ hr]

end Cert.Proof.Stats

end
-- ==== Proof.Words.lean ====
/- The constants of the two programs as extended reals, and the last operation of both: zero in place of what is not
   finite. -/
module

public import proofs.«01_k».proof.Proof.Stats
public import Idealize.ShloMosaic.Lib.Pointwise

@[expose] public section

noncomputable section

namespace Cert.Proof.Stats

open Idealize.ShloMosaic

theorem ofBits_frames : Ideal.ofBits .f32 0x46800000#32 = frames := by
  have h1 : ((0x46800000#32).extractLsb' 23 8).toNat = 141 := by decide
  have h2 : ((0x46800000#32).extractLsb' 0 23).toNat = 0 := by decide
  have h3 : ((0x46800000#32).extractLsb' (8 + 23) 1 == 1#1) = false := by decide
  unfold Ideal.ofBits Ideal.ieee frames
  simp only [h1, h2, h3]
  norm_num

theorem ofBits_inf : Ideal.ofBits .f32 0x7F800000#32 = ⊤ := by
  have h1 : ((0x7F800000#32).extractLsb' 23 8).toNat = 255 := by decide
  have h2 : ((0x7F800000#32).extractLsb' 0 23).toNat = 0 := by decide
  have h3 : ((0x7F800000#32).extractLsb' (8 + 23) 1 == 1#1) = false := by decide
  unfold Ideal.ofBits Ideal.ieee
  simp only [h1, h2, h3]
  norm_num

/-- The select that ends both programs. -/
theorem select_clean (x : EReal) :
    Scalar.select (Ideal.cmp .olt (max x (-x)) ⊤) x 0 = clean x := by
  unfold clean Ideal.cmp Scalar.select
  by_cases h : max x (-x) < ⊤
  · simp [h]
  · simp [h]

/-- A row of the input holds no entry that differs from itself. -/
theorem cmp_une_self (x : EReal) : Ideal.cmp .une x x = 0#1 := by
  unfold Ideal.cmp
  simp

end Cert.Proof.Stats

end
-- ==== Proof.RefCols.lean ====
/- What the reference computes for one group of landmarks, at any number of columns. At the extended reals no entry
   differs from itself, so every row is valid and the number of valid rows is the number of frames; a column's two
   results are then its mean and its two-pass standard deviation. -/
module

public import proofs.«01_k».proof.Proof.Gen.ReferenceIdeal.Run
public import proofs.«01_k».proof.Proof.Words
public import Idealize.ShloMosaic.Lib.ReduceAll
public import Idealize.ShloMosaic.Lib.Pipeline.Value
public import Idealize.ShloMosaic.Lib.Pointwise.IndexVar

@[expose] public section

noncomputable section

namespace Cert.Proof.Reference

open Cert.ReferenceIdeal Cert.ReferenceIdeal.Gen Idealize.ShloMosaic Idealize.ShloMosaic.TcCoe
open Cert.Proof.Stats

variable {n : ℕ}

/-- The shape of a group: all frames, `n` columns. -/
abbrev SG (n : ℕ) : Shape := ⟨2, ![16384, n]⟩
/-- The shape of a group's results. -/
abbrev SR (n : ℕ) : Shape := ⟨1, ![n]⟩
/-- The shape of one row. -/
abbrev S1R (n : ℕ) : Shape := ⟨2, ![1, n]⟩

/-- The rows without a NaN. -/
def valid (x : FVec Ideal (SG n) .f32) (h : (SG n).ReducesTo [1] S16384) : IVec S16384 1 :=
  Host.reduce IntOp.andi (noti (cmpf .une x x)) (constantI S_ 1 1#1) h h_S_

theorem valid_eq (x : FVec Ideal (SG n) .f32) (h : (SG n).ReducesTo [1] S16384) : valid x h = fun _ => 1#1 := by
  funext j
  refine Host.reduce_andi_one _ _ h h_S_ j rfl fun i => ?_
  show ~~~ (Ideal.cmp .une (x i) (x i)) = 1#1
  rw [cmp_une_self]; rfl

/-- The number of rows without a NaN. -/
def count (x : FVec Ideal (SG n) .f32) (h : (SG n).ReducesTo [1] S16384) : FVec Ideal S_ .f32 :=
  Host.reduceAdd (uitofp .f32 (valid x h)) (constant S_ .f32 0x00000000#32) reducesTo_S16384_S_d0 h_S_

theorem sum_fin (g : ℕ → EReal) : ∑ f : Fin 16384, g f.val = ∑ f ∈ Finset.range 16384, g f :=
  (Finset.sum_range g).symm

theorem count_eq (x : FVec Ideal (SG n) .f32) (h : (SG n).ReducesTo [1] S16384) : count x h = fun _ => frames := by
  funext j
  unfold count
  rw [valid_eq]
  pointwise
  show ∑ k : Fin 16384, (((1#1 : BitVec 1).toNat : ℝ) : EReal) = _
  rw [sum_fin fun _ => (((1#1 : BitVec 1).toNat : ℝ) : EReal), sum_coe _ (fun _ => 1) _ fun _ _ => by norm_num,
    Finset.sum_const, Finset.card_range]
  unfold frames
  norm_num

variable (b1 : S16384x1.BroadcastsInDim (SG n) ![0, 1]) (bz : S_.BroadcastsInDim (SG n) ![])
  (h1 : (SG n).ReducesTo [1] S16384) (h0 : (SG n).ReducesTo [0] (SR n)) (bn : S_.BroadcastsInDim (SR n) ![])
  (bm : (SR n).BroadcastsInDim (S1R n) ![1]) (br : (S1R n).BroadcastsInDim (SG n) ![0, 1])

/-- An array with the rows that hold a NaN replaced by zero. -/
def masked (x y : FVec Ideal (SG n) .f32) : FVec Ideal (SG n) .f32 :=
  select (broadcastInDim (SG n) ![0, 1] b1 (broadcastInDim S16384x1 ![0] bcast_S16384_S16384x1_0 (valid x h1))) y
    (broadcastInDim (SG n) ![] bz (constant S_ .f32 0x00000000#32))

theorem masked_eq (x y : FVec Ideal (SG n) .f32) : masked b1 bz h1 x y = y := by
  unfold masked
  rw [valid_eq]
  rfl

/-- One row, repeated for every frame. -/
def spread (y : FVec Ideal (SR n) .f32) : FVec Ideal (SG n) .f32 :=
  broadcastInDim (SG n) ![0, 1] br (broadcastInDim (S1R n) ![1] bm y)

theorem spread_apply (hn : n ≠ 1) (y : FVec Ideal (SR n) .f32) (f : Fin 16384) (k : Fin n) :
    spread bm br y (ix2 f k) = y (ix1 k) := by
  unfold spread
  refine (broadcastInDim_apply _ br _ (ix2 f k) (ix2 (0 : Fin 1) k) fun a => ?_).trans
    (broadcastInDim_apply _ bm _ (ix2 (0 : Fin 1) k) (ix1 k) fun a => ?_)
  · match a with
    | 0 => rfl
    | 1 => exact (if_neg (show ¬ n = 1 from hn)).symm
  · match a with
    | 0 => exact (if_neg (show ¬ n = 1 from hn)).symm

/-- A group's means. -/
def meansOf (x : FVec Ideal (SG n) .f32) : FVec Ideal (SR n) .f32 :=
  Host.divf (Host.reduceAdd (masked b1 bz h1 x x) (constant S_ .f32 0x00000000#32) h0 h_S_)
    (broadcastInDim (SR n) ![] bn (count x h1))

/-- A group's standard deviations. -/
def stdsOf (x : FVec Ideal (SG n) .f32) : FVec Ideal (SR n) .f32 :=
  Host.sqrt (Host.divf (Host.reduceAdd
      (mulf (masked b1 bz h1 x (subf x (spread bm br (meansOf b1 bz h1 h0 bn x))))
        (masked b1 bz h1 x (subf x (spread bm br (meansOf b1 bz h1 h0 bn x)))))
      (constant S_ .f32 0x00000000#32) h0 h_S_)
    (broadcastInDim (SR n) ![] bn (count x h1)))

theorem meansOf_apply (x : FVec Ideal (SG n) .f32) (k : Fin n) (a : ℕ → EReal)
    (ha : ∀ f : Fin 16384, x (ix2 f k) = a f.val) : meansOf b1 bz h1 h0 bn x (ix1 k) = mean a := by
  unfold meansOf mean
  rw [masked_eq, count_eq]
  pointwise
  rw [← sum_fin]
  simp only [← ha]

theorem stdsOf_apply (hn : n ≠ 1) (x : FVec Ideal (SG n) .f32) (k : Fin n) (a : ℕ → EReal)
    (ha : ∀ f : Fin 16384, x (ix2 f k) = a f.val) : stdsOf b1 bz h1 h0 bn bm br x (ix1 k) = stdTwo a := by
  unfold stdsOf stdTwo
  rw [masked_eq, count_eq]
  pointwise
  simp only [spread_apply bm br hn, meansOf_apply b1 bz h1 h0 bn x k a ha, ha]
  rw [← sum_fin fun f => (a f - mean a) * (a f - mean a)]

end Cert.Proof.Reference

end
-- ==== Proof.RefValue.lean ====
/- The reference's result, entry by entry: the means of the 1629 columns, then their two-pass standard deviations, each
   replaced by zero where it is not finite. -/
module

public import proofs.«01_k».proof.Proof.RefCols

@[expose] public section

noncomputable section

namespace Cert.Proof.Reference

open Cert.ReferenceIdeal Cert.ReferenceIdeal.Gen Idealize.ShloMosaic Idealize.ShloMosaic.TcCoe
open Cert.Proof.Stats

/-- The column of coordinate `c` of landmark `l`, by frame. -/
def column (A : FVec Ideal S16384x543x3 .f32) (l c : ℕ) : ℕ → EReal := fun f =>
  A (ix3 ⟨f % 16384, Nat.mod_lt _ (by decide)⟩ ⟨l % 543, Nat.mod_lt _ (by decide)⟩ ⟨c % 3, Nat.mod_lt _ (by decide)⟩)

/-- The results, in order: the means, then the deviations. -/
def result (std : (ℕ → EReal) → EReal) (A : FVec Ideal S16384x543x3 .f32) (j : ℕ) : EReal :=
  if j < 1629 then clean (mean (column A (j / 3) (j % 3))) else clean (std (column A ((j - 1629) / 3) ((j - 1629) % 3)))

/-- The four groups. -/
def face (A : FVec Ideal S16384x543x3 .f32) : FVec Ideal (SG 1404) .f32 :=
  shapeCast _ (extractStridedSlice S16384x468x3 ![0, 0, 0] A slices_S16384x543x3_S16384x468x3_0_0_0) shapeCasts_S16384x468x3_S16384x1404
def left (A : FVec Ideal S16384x543x3 .f32) : FVec Ideal (SG 63) .f32 :=
  shapeCast _ (extractStridedSlice S16384x21x3 ![0, 468, 0] A slices_S16384x543x3_S16384x21x3_0_468_0) shapeCasts_S16384x21x3_S16384x63
def pose (A : FVec Ideal S16384x543x3 .f32) : FVec Ideal (SG 99) .f32 :=
  shapeCast _ (extractStridedSlice S16384x33x3 ![0, 489, 0] A slices_S16384x543x3_S16384x33x3_0_489_0) shapeCasts_S16384x33x3_S16384x99
def right (A : FVec Ideal S16384x543x3 .f32) : FVec Ideal (SG 63) .f32 :=
  shapeCast _ (extractStridedSlice S16384x21x3 ![0, 522, 0] A slices_S16384x543x3_S16384x21x3_0_522_0) shapeCasts_S16384x21x3_S16384x63

/-- The means and deviations of a group of each of the three widths. -/
abbrev m1404 := meansOf bcast_S16384x1_S16384x1404_0_1 bcast_S_S16384x1404 reducesTo_S16384x1404_S16384_d1 reducesTo_S16384x1404_S1404_d0 bcast_S_S1404
abbrev m63 := meansOf bcast_S16384x1_S16384x63_0_1 bcast_S_S16384x63 reducesTo_S16384x63_S16384_d1 reducesTo_S16384x63_S63_d0 bcast_S_S63
abbrev m99 := meansOf bcast_S16384x1_S16384x99_0_1 bcast_S_S16384x99 reducesTo_S16384x99_S16384_d1 reducesTo_S16384x99_S99_d0 bcast_S_S99
abbrev s1404 := stdsOf bcast_S16384x1_S16384x1404_0_1 bcast_S_S16384x1404 reducesTo_S16384x1404_S16384_d1 reducesTo_S16384x1404_S1404_d0 bcast_S_S1404 bcast_S1404_S1x1404_1 bcast_S1x1404_S16384x1404_0_1
abbrev s63 := stdsOf bcast_S16384x1_S16384x63_0_1 bcast_S_S16384x63 reducesTo_S16384x63_S16384_d1 reducesTo_S16384x63_S63_d0 bcast_S_S63 bcast_S63_S1x63_1 bcast_S1x63_S16384x63_0_1
abbrev s99 := stdsOf bcast_S16384x1_S16384x99_0_1 bcast_S_S16384x99 reducesTo_S16384x99_S16384_d1 reducesTo_S16384x99_S99_d0 bcast_S_S99 bcast_S99_S1x99_1 bcast_S1x99_S16384x99_0_1

/-- The reference's results before the last select. -/
def joined (A : FVec Ideal S16384x543x3 .f32) : FVec Ideal S3258 .f32 :=
  Value.fn_main_v96 (F := Ideal) (m1404 (face A)) (m63 (left A)) (m99 (pose A)) (m63 (right A))
    (s1404 (face A)) (s63 (left A)) (s99 (pose A)) (s63 (right A))

theorem res_eq (m : (ℓ : Loc nD τ sig) → Buf (Elt Ideal) ℓ) (c : Dev nD) :
    Value.res_main_v101 m c
      = (select (cmpf .olt (Host.absf (joined (m (c.tc.loc main_arg0)))) (broadcastInDim S3258 ![] bcast_S_S3258 (constant S_ .f32 0x7F800000#32)))
          (joined (m (c.tc.loc main_arg0))) (broadcastInDim S3258 ![] bcast_S_S3258 (constant S_ .f32 0x00000000#32)) : FVec Ideal S3258 .f32) := rfl

theorem face_apply (A : FVec Ideal S16384x543x3 .f32) (f : Fin 16384) (k : Fin 1404) :
    face A (ix2 f k) = column A (k.val / 3) (k.val % 3) f.val := by
  unfold face column
  pointwise
  refine congrArg A ((ix3_inj ..).2 ⟨?_, ?_, ?_⟩) <;> refine Fin.ext ?_ <;> simp <;> omega

theorem left_apply (A : FVec Ideal S16384x543x3 .f32) (f : Fin 16384) (k : Fin 63) :
    left A (ix2 f k) = column A (468 + k.val / 3) (k.val % 3) f.val := by
  unfold left column
  pointwise
  refine congrArg A ((ix3_inj ..).2 ⟨?_, ?_, ?_⟩) <;> refine Fin.ext ?_ <;> simp <;> omega

theorem pose_apply (A : FVec Ideal S16384x543x3 .f32) (f : Fin 16384) (k : Fin 99) :
    pose A (ix2 f k) = column A (489 + k.val / 3) (k.val % 3) f.val := by
  unfold pose column
  pointwise
  refine congrArg A ((ix3_inj ..).2 ⟨?_, ?_, ?_⟩) <;> refine Fin.ext ?_ <;> simp <;> omega

theorem right_apply (A : FVec Ideal S16384x543x3 .f32) (f : Fin 16384) (k : Fin 63) :
    right A (ix2 f k) = column A (522 + k.val / 3) (k.val % 3) f.val := by
  unfold right column
  pointwise
  refine congrArg A ((ix3_inj ..).2 ⟨?_, ?_, ?_⟩) <;> refine Fin.ext ?_ <;> simp <;> omega

theorem mean_congr (A : FVec Ideal S16384x543x3 .f32) {l l' c c' : ℕ} (hl : l = l') (hc : c = c') :
    mean (column A l c) = mean (column A l' c') := by rw [hl, hc]

theorem stdTwo_congr (A : FVec Ideal S16384x543x3 .f32) {l l' c c' : ℕ} (hl : l = l') (hc : c = c') :
    stdTwo (column A l c) = stdTwo (column A l' c') := by rw [hl, hc]

theorem joined_apply (A : FVec Ideal S16384x543x3 .f32) (j : Fin 3258) :
    joined A (ix1 j) = if j.val < 1629 then mean (column A (j.val / 3) (j.val % 3))
      else stdTwo (column A ((j.val - 1629) / 3) ((j.val - 1629) % 3)) := by
  unfold joined Value.fn_main_v96
  have hm0 : ∀ k : Fin 1404, m1404 (face A) (ix1 k) = mean (column A (k.val / 3) (k.val % 3)) :=
    fun k => meansOf_apply _ _ _ _ _ _ k _ fun f => face_apply A f k
  have hm1 : ∀ k : Fin 63, m63 (left A) (ix1 k) = mean (column A (468 + k.val / 3) (k.val % 3)) :=
    fun k => meansOf_apply _ _ _ _ _ _ k _ fun f => left_apply A f k
  have hm2 : ∀ k : Fin 99, m99 (pose A) (ix1 k) = mean (column A (489 + k.val / 3) (k.val % 3)) :=
    fun k => meansOf_apply _ _ _ _ _ _ k _ fun f => pose_apply A f k
  have hm3 : ∀ k : Fin 63, m63 (right A) (ix1 k) = mean (column A (522 + k.val / 3) (k.val % 3)) :=
    fun k => meansOf_apply _ _ _ _ _ _ k _ fun f => right_apply A f k
  have hs0 : ∀ k : Fin 1404, s1404 (face A) (ix1 k) = stdTwo (column A (k.val / 3) (k.val % 3)) :=
    fun k => stdsOf_apply _ _ _ _ _ _ _ (by decide) _ k _ fun f => face_apply A f k
  have hs1 : ∀ k : Fin 63, s63 (left A) (ix1 k) = stdTwo (column A (468 + k.val / 3) (k.val % 3)) :=
    fun k => stdsOf_apply _ _ _ _ _ _ _ (by decide) _ k _ fun f => left_apply A f k
  have hs2 : ∀ k : Fin 99, s99 (pose A) (ix1 k) = stdTwo (column A (489 + k.val / 3) (k.val % 3)) :=
    fun k => stdsOf_apply _ _ _ _ _ _ _ (by decide) _ k _ fun f => pose_apply A f k
  have hs3 : ∀ k : Fin 63, s63 (right A) (ix1 k) = stdTwo (column A (522 + k.val / 3) (k.val % 3)) :=
    fun k => stdsOf_apply _ _ _ _ _ _ _ (by decide) _ k _ fun f => right_apply A f k
  pointwise
  simp only [hm0, hm1, hm2, hm3, hs0, hs1, hs2, hs3]
  have hj := j.isLt
  split_ifs <;> first
    | exact mean_congr A (by omega) (by omega)
    | exact stdTwo_congr A (by omega) (by omega)
    | (exfalso; omega)

/-- The reference's result at an index. -/
theorem res_apply (m : (ℓ : Loc nD τ sig) → Buf (Elt Ideal) ℓ) (c : Dev nD) (j : Fin 3258) :
    (Value.res_main_v101 m c : FVec Ideal S3258 .f32) (ix1 j) = result stdTwo (m (c.tc.loc main_arg0)) j.val := by
  rw [res_eq]
  have h := joined_apply (m (c.tc.loc main_arg0)) j
  generalize joined (m (c.tc.loc main_arg0)) = J at h ⊢
  pointwise
  unfold result
  rw [h, ofBits_inf, ← apply_ite clean]
  rfl

end Cert.Proof.Reference

end
-- ==== Proof.KerValue.lean ====
/- The kernel's result, entry by entry: the means of the 1629 columns, then their one-pass standard deviations, each
   replaced by zero where it is not finite. -/
module

public import proofs.«01_k».proof.Proof.KerState
public import proofs.«01_k».proof.Proof.Sums
public import proofs.«01_k».proof.Proof.Tables
public import proofs.«01_k».proof.Proof.Gather
public import proofs.«01_k».proof.Proof.RefValue
public import Idealize.ShloMosaic.Lib.Pointwise

@[expose] public section

noncomputable section

namespace Cert.Proof.KerValue

open Cert.KernelIdeal Cert.KernelIdeal.Gen
open Idealize.ShloMosaic
open Cert.Proof.Arith Cert.Proof.Values Cert.Proof.Sc Cert.Proof.Sums Cert.Proof.Stats
open Cert.Proof.Reference (column result sum_fin)

/-! ## The strips -/

variable (X : FVec Ideal S3x543x16384 .f32)

/-- A row of the tiles' results, part `p`: the sum of the units it holds. -/
theorem rows_apply (r : Fin 257) (p : Fin 2) (lm : Fin 8) :
    rows (scOut X) (ix3 r p lm) = rowT (decide (p.val = 1)) X r.val lm.val := by
  unfold rows joinRows
  generalize ho : scOut X = o
  pointwise
  subst ho
  have hr := r.isLt
  by_cases h : r.val < 256
  · rw [dif_pos h]
    have e := row_eq (decide (p.val = 1)) X (r.val / 8) (r.val % 8) lm.val (by omega) (by omega) lm.isLt
    rw [show r.val / 8 * 8 + r.val % 8 = r.val by omega] at e
    rw [← e, ← Fin.sum_univ_eq_sum_range (fun lane => acc (decide (p.val = 1)) X (base (r.val / 8)) (cnt (r.val / 8)) ((r.val % 8 * 8 + lm.val) * 16 + lane)) 16]
    refine Finset.sum_congr rfl fun k _ => ?_
    have hk : r.val % 8 * 128 + lm.val * 16 + k.val = (r.val % 8 * 8 + lm.val) * 16 + k.val := by omega
    exact congrArg (acc (decide (p.val = 1)) X (base (r.val / 8)) (cnt (r.val / 8))) hk
  · rw [dif_neg h, show r.val = 256 by omega, rowT_dummy]

/-- An index table has no negative entry to wrap. -/
theorem wrapped_apply (i : IVec S201 32) (s : Fin 201) (h : (i (ix1 s)).toNat < 257) : wrapped i (ix2 s 0) = i (ix1 s) := by
  unfold wrapped
  pointwise
  generalize i (ix1 s) = b at h
  have hlt : b.slt 0#32 = false := by
    rw [BitVec.slt, decide_eq_false_iff_not, BitVec.toInt_eq_toNat_of_lt (by omega)]
    simp
  simp [Scalar.select, IntOp.cmpi, hlt]

/-- A list of 201 words as a table, and its entries. -/
def table (l : Fin 201 → BitVec 32) : IVec S201 32 := fun i => l (S201.rowMajor i)

theorem table_apply (l : Fin 201 → BitVec 32) (s : Fin 201) : table l (ix1 s) = l s := by
  exact congrArg l (Fin.ext (Shape.rowMajor_val_one (ix1 s)))

/-- A strip's two rows together: the sum over the first 12288 frames. -/
theorem strips_apply (s : Fin 201) (p : Fin 2) (lm : Fin 8) :
    strips (scOut X) (table lit0) (table lit1) (ix3 s p lm)
      = ∑ f ∈ Finset.range 12288, entry (decide (p.val = 1)) X (s.val / 67) (8 * (s.val % 67) + lm.val) f := by
  have h0 := (tables_lt s).1
  have h1 := (tables_lt s).2
  rw [← tables_pair]
  unfold strips
  show Host.gather _ _ _ (ix3 s p lm) + Host.gather _ _ _ (ix3 s p lm) = _
  rw [gather_rows _ _ s p lm ⟨_, h0⟩ (by rw [wrapped_apply _ _ (by rw [table_apply]; exact h0), table_apply]; simp),
    gather_rows _ _ s p lm ⟨_, h1⟩ (by rw [wrapped_apply _ _ (by rw [table_apply]; exact h1), table_apply]; simp),
    rows_apply, rows_apply]

/-- The tiles' share of the sums, and of the sums of squares, by coordinate and landmark. -/
theorem part0_apply (c : Fin 3) (l : Fin 536) :
    part0 (bulk (strips (scOut X) (table lit0) (table lit1))) (ix2 c l)
      = ∑ f ∈ Finset.range 12288, entry false X c.val l.val f := by
  have hs := strips_apply X
  generalize strips (scOut X) (table lit0) (table lit1) = v at hs ⊢
  unfold part0 bulk
  pointwise
  rw [hs]
  have hc := c.isLt
  have hl := l.isLt
  simp only [show (c.val * 67 + l.val / 8) / 67 = c.val by omega, show 8 * ((c.val * 67 + l.val / 8) % 67) + l.val % 8 = l.val by omega]
  rfl

theorem part1_apply (c : Fin 3) (l : Fin 536) :
    part1 (bulk (strips (scOut X) (table lit0) (table lit1))) (ix2 c l)
      = ∑ f ∈ Finset.range 12288, entry true X c.val l.val f := by
  have hs := strips_apply X
  generalize strips (scOut X) (table lit0) (table lit1) = v at hs ⊢
  unfold part1 bulk
  pointwise
  rw [hs]
  have hc := c.isLt
  have hl := l.isLt
  simp only [show (c.val * 67 + l.val / 8) / 67 = c.val by omega, show 8 * ((c.val * 67 + l.val / 8) % 67) + l.val % 8 = l.val by omega]
  rfl

/-! ## The TensorCore's shares -/

/-- The last 4096 frames. -/
theorem lanes_apply (q : Bool) (c : Fin 3) (l : Fin 543) :
    lanes (tcOut q X) (ix2 c l) = ∑ f ∈ Finset.range 4096, entry q X c.val l.val (12288 + f) := by
  unfold lanes
  generalize ht : tcOut q X = t
  pointwise
  subst ht
  rw [← col_eq q (block X c) l (fun f => entry q X c.val l.val (12288 + f)) fun f => ?_,
    ← Fin.sum_univ_eq_sum_range (fun lane => col q (block X c) l lane 32) 128]
  · rfl
  · have hX : ∀ f : Fin 4096, X (ix3 c l ⟨12288 + f.val, by omega⟩) = at3 X c.val l.val (12288 + f.val) := fun f => by
      refine congrArg X ((ix3_inj ..).2 ⟨?_, ?_, ?_⟩) <;> refine Fin.ext ?_ <;> simp <;> omega
    exact congrArg (term q) (hX f)

variable (A : FVec Ideal S16384x543x3 .f32)

/-- The other frames of the landmarks the tiles do not take. -/
theorem tail_apply (f : Fin 12288) (k : Fin 7) (c : Fin 3) : tail A (ix3 f k c) = column A (536 + k.val) c.val f.val := by
  unfold tail column
  pointwise
  refine congrArg A ((ix3_inj ..).2 ⟨?_, ?_, ?_⟩) <;> refine Fin.ext ?_ <;> simp <;> omega

theorem tailSum_apply (B : FVec Ideal S12288x7x3 .f32) (g : ℕ → EReal) (c : Fin 3) (k : Fin 7) (h : ∀ f : Fin 12288, B (ix3 f k c) = g f.val) :
    tailSum B (ix2 c k) = ∑ f ∈ Finset.range 12288, g f := by
  unfold tailSum
  pointwise
  rw [← Fin.sum_univ_eq_sum_range g 12288]
  exact Finset.sum_congr rfl fun f _ => h f

/-! ## All frames -/

/-- A sum over all frames, the first 12288 and the others. -/
theorem sum_split (g : ℕ → EReal) : ∑ f ∈ Finset.range 16384, g f
    = ∑ f ∈ Finset.range 12288, g f + ∑ f ∈ Finset.range 4096, g (12288 + f) := by
  rw [show (16384 : ℕ) = 12288 + 4096 from rfl, Finset.sum_range_add]

/-- What is summed up is the column, or its squares. -/
theorem sums_apply (q : Bool) (hX : ∀ c l f, at3 X c l f = column A l c f)
    (b : FVec Ideal S3x536 .f32) (t : FVec Ideal S3x543 .f32) (e : FVec Ideal S3x7 .f32)
    (hb : ∀ c l, b (ix2 c l) = ∑ f ∈ Finset.range 12288, entry q X c.val l.val f)
    (ht : ∀ c l, t (ix2 c l) = ∑ f ∈ Finset.range 4096, entry q X c.val l.val (12288 + f))
    (he : ∀ c k, e (ix2 c k) = ∑ f ∈ Finset.range 12288, term q (column A (536 + k.val) c.val f)) (c : Fin 3) (l : Fin 543) :
    sums b t e (ix2 c l) = ∑ f ∈ Finset.range 16384, term q (column A l.val c.val f) := by
  rw [sum_split]
  unfold entry at hb ht
  simp only [hX] at hb ht
  unfold sums joinLandmarks
  pointwise
  by_cases h : l.val < 536
  · rw [dif_pos h, hb, ht]
  · rw [dif_neg h, he, ht]
    simp only [show 536 + (l.val - 536) = l.val by omega]

theorem over_apply (s : FVec Ideal S3x543 .f32) (j : Fin 1629) :
    over s (ix1 j) = Ideal.div (s (ix2 ⟨j.val % 3, by omega⟩ ⟨j.val / 3, by omega⟩)) frames := by
  unfold over
  pointwise
  rw [← ofBits_frames]

/-- The results from the means and the mean squares. -/
theorem cleaned_apply (mu sq : FVec Ideal S1629 .f32)
    (hm : ∀ j : Fin 1629, mu (ix1 j) = mean (column A (j.val / 3) (j.val % 3)))
    (hq : ∀ j : Fin 1629, sq (ix1 j) = Ideal.div (∑ f ∈ Finset.range 16384, column A (j.val / 3) (j.val % 3) f * column A (j.val / 3) (j.val % 3) f) frames)
    (j : Fin 3258) : cleaned (feats mu sq) (ix1 j) = result stdOne A j.val := by
  have hf : feats mu sq (ix1 j) = if j.val < 1629 then mean (column A (j.val / 3) (j.val % 3)) else stdOne (column A ((j.val - 1629) / 3) ((j.val - 1629) % 3)) := by
    unfold feats joinResults
    pointwise
    have hj := j.isLt
    by_cases h : j.val < 1629
    · rw [dif_pos h, if_pos h, hm]
    · rw [dif_neg h, if_neg h, hm, hq]; rfl
  generalize feats mu sq = v at hf ⊢
  unfold cleaned
  pointwise
  unfold result
  rw [hf, ofBits_inf, ← apply_ite clean]
  rfl

/-- The kernel's result at an index. -/
theorem final_apply (hX : ∀ c l f, at3 X c l f = column A l c f) (j : Fin 3258) :
    final (scOut X) (table lit0) (table lit1) (tcOut false X) (tcOut true X) A (ix1 j)
      = result stdOne A j.val := by
  unfold final
  refine cleaned_apply A _ _ (fun j => ?_) (fun j => ?_) j
  · rw [over_apply, sums_apply X A false hX _ _ _ (part0_apply X) (lanes_apply X false)
      fun c k => tailSum_apply _ _ c k fun f => tail_apply A f k c]
    rfl
  · rw [over_apply, sums_apply X A true hX _ _ _ (part1_apply X) (lanes_apply X true)
      fun c k => tailSum_apply _ _ c k fun f => ?_]
    · rfl
    · show tail A (ix3 f k c) * tail A (ix3 f k c) = _
      rw [tail_apply]; rfl

end Cert.Proof.KerValue

end
-- ==== Proof.Algebraic.lean ====
/- The value claim: from the same input the idealized kernel and the reference end with the same result. Both results are
   the columns' means and deviations; the kernel's deviation is the one-pass one, the reference's the two-pass one. -/
module

public import proofs.«01_k».proof.Proof.KerValue

@[expose] public section

noncomputable section

namespace Cert.Proof.KerValue

open Cert.KernelIdeal Cert.KernelIdeal.Gen
open Idealize.ShloMosaic Idealize.SL.Sem
open Cert.Proof.Values Cert.Proof.Sc Cert.Proof.Stats
open Cert.Proof.Reference (column result)

/-- One pass or two, the results are the same. -/
theorem result_std (A : FVec Ideal S16384x543x3 .f32) (j : ℕ) : result stdOne A j = result stdTwo A j := by
  unfold result
  rw [clean_std]

variable (m : (ℓ : Loc nD τ sig) → Buf (Elt Ideal) ℓ)

theorem at3_column (d : Dev nD) (c l f : ℕ) : at3 (Xt m d) c l f = column (arg m d) l c f :=
  Xt_apply m d ⟨c % 3, Nat.mod_lt _ (by decide)⟩ ⟨l % 543, Nat.mod_lt _ (by decide)⟩ ⟨f % 16384, Nat.mod_lt _ (by decide)⟩

/-- The kernel's result at an index. -/
theorem V4_apply (d : Dev nD) (j : Fin 3258) :
    (V4 m d (Proc.devRef .tc main_v65) : FVec Ideal S3258 .f32) (ix1 j) = result stdOne (arg m d) j.val :=
  (congrFun (V4_v65 m d) (ix1 j)).trans (final_apply (Xt m d) (arg m d) (at3_column m d) j)

/-- The two results, from the same input. -/
theorem results_eq (m' : (ℓ : Loc ReferenceIdeal.nD ReferenceIdeal.τ ReferenceIdeal.sig) → Buf (Elt Ideal) ℓ) (d : Dev nD)
    (h : (m' ((d.tc : Thread ReferenceIdeal.nD ReferenceIdeal.τ).loc ReferenceIdeal.main_arg0) : FVec Ideal S16384x543x3 .f32) = arg m d) :
    (ReferenceIdeal.Value.res_main_v101 m' d : FVec Ideal S3258 .f32) = V4 m d (Proc.devRef .tc main_v65) := by
  funext i
  obtain ⟨j, rfl⟩ : ∃ j : Fin 3258, i = ix1 j := ⟨i 0, eq_ix1 i⟩
  refine (Reference.res_apply m' d j).trans (Eq.trans ?_ (V4_apply m d j).symm)
  rw [result_std]
  exact congrArg (fun A => result stdTwo A j.val) h

theorem algebraic : Cert.algebraic_KernelIdeal_ReferenceIdeal := by
  intro m g m' g' _ h
  refine ⟨fun c => V4 m c (Proc.devRef .tc main_v65), ?_, ?_⟩
  · exact (θ_run (KernelIdeal.defs (F := Ideal)) _ _).mono
      (fun _ hr c => ⟨hr.1 c main_v65 rfl, (hr.1 c main_arg0 rfl).trans (V4_arg0 m c)⟩) (run_main m g)
  · exact (θ_run (ReferenceIdeal.defs (F := Ideal)) _ _).mono
      (fun _ hr c => ⟨(hr c).1.trans (results_eq m m' c (h c)), (hr c).2⟩) (ReferenceIdeal.Value.run (F := Ideal) m' g')

end Cert.Proof.KerValue

end
-- ==== Proof.lean ====
/- The certificate's proof, assembled: the frames of the kernel, of its idealization and of the
   reference, and the equality of the idealized kernel's and the reference's results. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.RefFrame
public import proofs.«01_k».proof.Proof.Algebraic

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Sc.frame_kernel, Sc.frame_ideal, Reference.frame_reference, trivial, KerValue.algebraic⟩

end Cert.Proof

end
